-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangeReferenceIdeal (m : (ℓ : Loc Cert.ExchangeReferenceIdeal.nD Cert.ExchangeReferenceIdeal.τ Cert.ExchangeReferenceIdeal.sig) → Buf (Elt Ideal) ℓ) : Prop :=
  True

def Pre_Queries (m : (ℓ : Loc Cert.Queries.nD Cert.Queries.τ Cert.Queries.sig) → Buf (Elt Bits) ℓ) : Prop :=
  True

def Pre_QueriesIdeal (m : (ℓ : Loc Cert.QueriesIdeal.nD Cert.QueriesIdeal.τ Cert.QueriesIdeal.sig) → Buf (Elt Ideal) ℓ) : Prop :=
  True

def Pre_QueriesReferenceIdeal (m : (ℓ : Loc Cert.QueriesReferenceIdeal.nD Cert.QueriesReferenceIdeal.τ Cert.QueriesReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite [hPre_finite : Cert.Pre_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).1 = (fun _ => 1#1)
    ∧ (Cert.Pre_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).2.1 = (fun _ => 1#1)
    ∧ (Cert.Pre_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).2.2.1 = (fun _ => 1#1)
    ∧ (Cert.Pre_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).2.2.2 = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_finite [hPre_finite : Cert.Pre_finite.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_finite.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3)) (m ((c.tc : Thread Cert.AttentionReferenceIdeal.nD Cert.AttentionReferenceIdeal.τ).loc Cert.AttentionReferenceIdeal.main_arg4))).1 = (fun _ => 1#1)
    ∧ (Cert.Pre_finite.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3)) (m ((c.tc : Thread Cert.AttentionReferenceIdeal.nD Cert.AttentionReferenceIdeal.τ).loc Cert.AttentionReferenceIdeal.main_arg4))).2.1 = (fun _ => 1#1)
    ∧ (Cert.Pre_finite.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3)) (m ((c.tc : Thread Cert.AttentionReferenceIdeal.nD Cert.AttentionReferenceIdeal.τ).loc Cert.AttentionReferenceIdeal.main_arg4))).2.2.1 = (fun _ => 1#1)
    ∧ (Cert.Pre_finite.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3)) (m ((c.tc : Thread Cert.AttentionReferenceIdeal.nD Cert.AttentionReferenceIdeal.τ).loc Cert.AttentionReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0)
      ∧ r.2.mem ((c.tc : Thread Cert.Exchange.nD Cert.Exchange.τ).loc Cert.Exchange.main_arg1) = m ((c.tc : Thread Cert.Exchange.nD Cert.Exchange.τ).loc Cert.Exchange.main_arg1)
      ∧ r.2.mem ((c.tc : Thread Cert.Exchange.nD Cert.Exchange.τ).loc Cert.Exchange.main_arg2) = m ((c.tc : Thread Cert.Exchange.nD Cert.Exchange.τ).loc Cert.Exchange.main_arg2)
      ∧ r.2.mem ((c.tc : Thread Cert.Exchange.nD Cert.Exchange.τ).loc Cert.Exchange.main_arg3) = m ((c.tc : Thread Cert.Exchange.nD Cert.Exchange.τ).loc Cert.Exchange.main_arg3)
      ∧ r.2.mem ((c.tc : Thread Cert.Exchange.nD Cert.Exchange.τ).loc Cert.Exchange.main_arg4) = m ((c.tc : Thread Cert.Exchange.nD Cert.Exchange.τ).loc Cert.Exchange.main_arg4)
      ∧ r.2.mem ((c.tc : Thread Cert.Exchange.nD Cert.Exchange.τ).loc Cert.Exchange.main_arg5) = m ((c.tc : Thread Cert.Exchange.nD Cert.Exchange.τ).loc Cert.Exchange.main_arg5))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
      ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
      ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
      ∧ r.2.mem ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3)
      ∧ r.2.mem ((c.tc : Thread Cert.ExchangeIdeal.nD Cert.ExchangeIdeal.τ).loc Cert.ExchangeIdeal.main_arg4) = m ((c.tc : Thread Cert.ExchangeIdeal.nD Cert.ExchangeIdeal.τ).loc Cert.ExchangeIdeal.main_arg4)
      ∧ r.2.mem ((c.tc : Thread Cert.ExchangeIdeal.nD Cert.ExchangeIdeal.τ).loc Cert.ExchangeIdeal.main_arg5) = m ((c.tc : Thread Cert.ExchangeIdeal.nD Cert.ExchangeIdeal.τ).loc Cert.ExchangeIdeal.main_arg5))
      ∧ r.2.sem = fun _ => 0)

def quiescent_ExchangeReferenceIdeal [hExchangeReferenceIdeal : Cert.ExchangeReferenceIdeal.Facts] : Prop :=
  ∀ (m : (ℓ : Loc Cert.ExchangeReferenceIdeal.nD Cert.ExchangeReferenceIdeal.τ Cert.ExchangeReferenceIdeal.sig) → Buf (Elt Ideal) ℓ) (g : Dev Cert.ExchangeReferenceIdeal.nD → PrngReg), Pre_ExchangeReferenceIdeal m →
    θ_run (Cert.ExchangeReferenceIdeal.defs (F := Ideal)) (onTc (τ := Cert.ExchangeReferenceIdeal.τ) (Cert.ExchangeReferenceIdeal.main (F := Ideal))) ⟨m, fun _ => 0, g⟩ (fun r => (∀ c : Dev Cert.ExchangeReferenceIdeal.nD,
      r.2.mem ((c.tc : Thread Cert.ExchangeReferenceIdeal.nD Cert.ExchangeReferenceIdeal.τ).loc Cert.ExchangeReferenceIdeal.main_arg0) = m ((c.tc : Thread Cert.ExchangeReferenceIdeal.nD Cert.ExchangeReferenceIdeal.τ).loc Cert.ExchangeReferenceIdeal.main_arg0)
      ∧ r.2.mem ((c.tc : Thread Cert.ExchangeReferenceIdeal.nD Cert.ExchangeReferenceIdeal.τ).loc Cert.ExchangeReferenceIdeal.main_arg1) = m ((c.tc : Thread Cert.ExchangeReferenceIdeal.nD Cert.ExchangeReferenceIdeal.τ).loc Cert.ExchangeReferenceIdeal.main_arg1)
      ∧ r.2.mem ((c.tc : Thread Cert.ExchangeReferenceIdeal.nD Cert.ExchangeReferenceIdeal.τ).loc Cert.ExchangeReferenceIdeal.main_arg2) = m ((c.tc : Thread Cert.ExchangeReferenceIdeal.nD Cert.ExchangeReferenceIdeal.τ).loc Cert.ExchangeReferenceIdeal.main_arg2)
      ∧ r.2.mem ((c.tc : Thread Cert.ExchangeReferenceIdeal.nD Cert.ExchangeReferenceIdeal.τ).loc Cert.ExchangeReferenceIdeal.main_arg3) = m ((c.tc : Thread Cert.ExchangeReferenceIdeal.nD Cert.ExchangeReferenceIdeal.τ).loc Cert.ExchangeReferenceIdeal.main_arg3)
      ∧ r.2.mem ((c.tc : Thread Cert.ExchangeReferenceIdeal.nD Cert.ExchangeReferenceIdeal.τ).loc Cert.ExchangeReferenceIdeal.main_arg4) = m ((c.tc : Thread Cert.ExchangeReferenceIdeal.nD Cert.ExchangeReferenceIdeal.τ).loc Cert.ExchangeReferenceIdeal.main_arg4)
      ∧ r.2.mem ((c.tc : Thread Cert.ExchangeReferenceIdeal.nD Cert.ExchangeReferenceIdeal.τ).loc Cert.ExchangeReferenceIdeal.main_arg5) = m ((c.tc : Thread Cert.ExchangeReferenceIdeal.nD Cert.ExchangeReferenceIdeal.τ).loc Cert.ExchangeReferenceIdeal.main_arg5))
      ∧ r.2.sem = fun _ => 0)

def quiescent_Queries [hQueries : Cert.Queries.Facts] : Prop :=
  ∀ (m : (ℓ : Loc Cert.Queries.nD Cert.Queries.τ Cert.Queries.sig) → Buf (Elt Bits) ℓ) (g : Dev Cert.Queries.nD → PrngReg), Pre_Queries m →
    θ_run (Cert.Queries.defs (F := Bits)) (onTc (τ := Cert.Queries.τ) (Cert.Queries.main (F := Bits))) ⟨m, fun _ => 0, g⟩ (fun r => (∀ c : Dev Cert.Queries.nD,
      r.2.mem ((c.tc : Thread Cert.Queries.nD Cert.Queries.τ).loc Cert.Queries.main_arg0) = m ((c.tc : Thread Cert.Queries.nD Cert.Queries.τ).loc Cert.Queries.main_arg0)
      ∧ r.2.mem ((c.tc : Thread Cert.Queries.nD Cert.Queries.τ).loc Cert.Queries.main_arg1) = m ((c.tc : Thread Cert.Queries.nD Cert.Queries.τ).loc Cert.Queries.main_arg1))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ r.2.sem = fun _ => 0)

def quiescent_QueriesReferenceIdeal [hQueriesReferenceIdeal : Cert.QueriesReferenceIdeal.Facts] : Prop :=
  ∀ (m : (ℓ : Loc Cert.QueriesReferenceIdeal.nD Cert.QueriesReferenceIdeal.τ Cert.QueriesReferenceIdeal.sig) → Buf (Elt Ideal) ℓ) (g : Dev Cert.QueriesReferenceIdeal.nD → PrngReg), Pre_QueriesReferenceIdeal m →
    θ_run (Cert.QueriesReferenceIdeal.defs (F := Ideal)) (onTc (τ := Cert.QueriesReferenceIdeal.τ) (Cert.QueriesReferenceIdeal.main (F := Ideal))) ⟨m, fun _ => 0, g⟩ (fun r => (∀ c : Dev Cert.QueriesReferenceIdeal.nD,
      r.2.mem ((c.tc : Thread Cert.QueriesReferenceIdeal.nD Cert.QueriesReferenceIdeal.τ).loc Cert.QueriesReferenceIdeal.main_arg0) = m ((c.tc : Thread Cert.QueriesReferenceIdeal.nD Cert.QueriesReferenceIdeal.τ).loc Cert.QueriesReferenceIdeal.main_arg0)
      ∧ r.2.mem ((c.tc : Thread Cert.QueriesReferenceIdeal.nD Cert.QueriesReferenceIdeal.τ).loc Cert.QueriesReferenceIdeal.main_arg1) = m ((c.tc : Thread Cert.QueriesReferenceIdeal.nD Cert.QueriesReferenceIdeal.τ).loc Cert.QueriesReferenceIdeal.main_arg1))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ r.2.sem = fun _ => 0)

def quiescent_AttentionIdeal_pre_finite [hAttentionIdeal : Cert.AttentionIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4))
      ∧ r.2.sem = fun _ => 0)

def quiescent_AttentionReferenceIdeal_pre_finite [hAttentionReferenceIdeal : Cert.AttentionReferenceIdeal.Facts] [hPre_finite : Cert.Pre_finite.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_finite m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 4096]⟩ ⟨2, ![1024, 4096]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def preserves_Exchange_ExchangeIdeal : Prop :=
  True

def algebraic_ExchangeIdeal_ExchangeReferenceIdeal [hExchangeIdeal : Cert.ExchangeIdeal.Facts] [hExchangeReferenceIdeal : Cert.ExchangeReferenceIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangeReferenceIdeal.nD Cert.ExchangeReferenceIdeal.τ Cert.ExchangeReferenceIdeal.sig) → Buf (Elt Ideal) ℓ) (g' : Dev Cert.ExchangeReferenceIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = m' (((0 : Dev Cert.ExchangeReferenceIdeal.nD).tc : Thread Cert.ExchangeReferenceIdeal.nD Cert.ExchangeReferenceIdeal.τ).loc Cert.ExchangeReferenceIdeal.main_arg0)
      ∧ m ((c.tc : Thread Cert.ExchangeIdeal.nD Cert.ExchangeIdeal.τ).loc Cert.ExchangeIdeal.main_arg1) = Layout.blockN ⟨2, ![4096, 128]⟩ ⟨2, ![4096, 256]⟩ (Layout.meshBlock [2, 2] ![[], [1]] c) (m' (((0 : Dev Cert.ExchangeReferenceIdeal.nD).tc : Thread Cert.ExchangeReferenceIdeal.nD Cert.ExchangeReferenceIdeal.τ).loc Cert.ExchangeReferenceIdeal.main_arg1))
      ∧ m ((c.tc : Thread Cert.ExchangeIdeal.nD Cert.ExchangeIdeal.τ).loc Cert.ExchangeIdeal.main_arg2) = Layout.blockN ⟨2, ![128, 4096]⟩ ⟨2, ![256, 4096]⟩ (Layout.meshBlock [2, 2] ![[1], []] c) (m' (((0 : Dev Cert.ExchangeReferenceIdeal.nD).tc : Thread Cert.ExchangeReferenceIdeal.nD Cert.ExchangeReferenceIdeal.τ).loc Cert.ExchangeReferenceIdeal.main_arg2))
      ∧ m ((c.tc : Thread Cert.ExchangeIdeal.nD Cert.ExchangeIdeal.τ).loc Cert.ExchangeIdeal.main_arg3) = Layout.blockN ⟨2, ![128, 4096]⟩ ⟨2, ![256, 4096]⟩ (Layout.meshBlock [2, 2] ![[1], []] c) (m' (((0 : Dev Cert.ExchangeReferenceIdeal.nD).tc : Thread Cert.ExchangeReferenceIdeal.nD Cert.ExchangeReferenceIdeal.τ).loc Cert.ExchangeReferenceIdeal.main_arg3))
      ∧ m ((c.tc : Thread Cert.ExchangeIdeal.nD Cert.ExchangeIdeal.τ).loc Cert.ExchangeIdeal.main_arg4) = m' (((0 : Dev Cert.ExchangeReferenceIdeal.nD).tc : Thread Cert.ExchangeReferenceIdeal.nD Cert.ExchangeReferenceIdeal.τ).loc Cert.ExchangeReferenceIdeal.main_arg4)
      ∧ m ((c.tc : Thread Cert.ExchangeIdeal.nD Cert.ExchangeIdeal.τ).loc Cert.ExchangeIdeal.main_arg5) = m' (((0 : Dev Cert.ExchangeReferenceIdeal.nD).tc : Thread Cert.ExchangeReferenceIdeal.nD Cert.ExchangeReferenceIdeal.τ).loc Cert.ExchangeReferenceIdeal.main_arg5)) →
    ∃ (v0 : Buf (Elt Ideal) (((0 : Dev Cert.ExchangeReferenceIdeal.nD).tc : Thread Cert.ExchangeReferenceIdeal.nD Cert.ExchangeReferenceIdeal.τ).loc Cert.ExchangeReferenceIdeal.main_v10)) (v1 : Buf (Elt Ideal) (((0 : Dev Cert.ExchangeReferenceIdeal.nD).tc : Thread Cert.ExchangeReferenceIdeal.nD Cert.ExchangeReferenceIdeal.τ).loc Cert.ExchangeReferenceIdeal.main_v11)) (v2 : Buf (Elt Ideal) (((0 : Dev Cert.ExchangeReferenceIdeal.nD).tc : Thread Cert.ExchangeReferenceIdeal.nD Cert.ExchangeReferenceIdeal.τ).loc Cert.ExchangeReferenceIdeal.main_v12)) (v3 : Buf (Elt Ideal) (((0 : Dev Cert.ExchangeReferenceIdeal.nD).tc : Thread Cert.ExchangeReferenceIdeal.nD Cert.ExchangeReferenceIdeal.τ).loc Cert.ExchangeReferenceIdeal.main_v13)) (v4 : Buf (Elt Ideal) (((0 : Dev Cert.ExchangeReferenceIdeal.nD).tc : Thread Cert.ExchangeReferenceIdeal.nD Cert.ExchangeReferenceIdeal.τ).loc Cert.ExchangeReferenceIdeal.main_v14)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1_0) = Layout.blockN ⟨2, ![512, 4096]⟩ ⟨2, ![1024, 4096]⟩ (Layout.meshBlock [2, 2] ![[0], []] c) v0
          ∧ r.2.mem ((c.tc : Thread Cert.ExchangeIdeal.nD Cert.ExchangeIdeal.τ).loc Cert.ExchangeIdeal.main_v1_1) = Layout.blockN ⟨2, ![512, 4096]⟩ ⟨2, ![1024, 4096]⟩ (Layout.meshBlock [2, 2] ![[0], []] c) v1
          ∧ r.2.mem ((c.tc : Thread Cert.ExchangeIdeal.nD Cert.ExchangeIdeal.τ).loc Cert.ExchangeIdeal.main_v1_2) = Layout.blockN ⟨2, ![512, 64]⟩ ⟨2, ![1024, 64]⟩ (Layout.meshBlock [2, 2] ![[0], []] c) v2
          ∧ r.2.mem ((c.tc : Thread Cert.ExchangeIdeal.nD Cert.ExchangeIdeal.τ).loc Cert.ExchangeIdeal.main_v1_3) = Layout.blockN ⟨2, ![512, 4096]⟩ ⟨2, ![1024, 4096]⟩ (Layout.meshBlock [2, 2] ![[0], []] c) v3
          ∧ r.2.mem ((c.tc : Thread Cert.ExchangeIdeal.nD Cert.ExchangeIdeal.τ).loc Cert.ExchangeIdeal.main_v1_4) = Layout.blockN ⟨2, ![512, 2048]⟩ ⟨2, ![1024, 2048]⟩ (Layout.meshBlock [2, 2] ![[0], []] c) v4
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
          ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
          ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
          ∧ r.2.mem ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3)
          ∧ r.2.mem ((c.tc : Thread Cert.ExchangeIdeal.nD Cert.ExchangeIdeal.τ).loc Cert.ExchangeIdeal.main_arg4) = m ((c.tc : Thread Cert.ExchangeIdeal.nD Cert.ExchangeIdeal.τ).loc Cert.ExchangeIdeal.main_arg4)
          ∧ r.2.mem ((c.tc : Thread Cert.ExchangeIdeal.nD Cert.ExchangeIdeal.τ).loc Cert.ExchangeIdeal.main_arg5) = m ((c.tc : Thread Cert.ExchangeIdeal.nD Cert.ExchangeIdeal.τ).loc Cert.ExchangeIdeal.main_arg5))
      ∧ θ_run (Cert.ExchangeReferenceIdeal.defs (F := Ideal)) (onTc (τ := Cert.ExchangeReferenceIdeal.τ) (Cert.ExchangeReferenceIdeal.main (F := Ideal))) ⟨m', fun _ => 0, g'⟩ (fun r =>
          r.2.mem (((0 : Dev Cert.ExchangeReferenceIdeal.nD).tc : Thread Cert.ExchangeReferenceIdeal.nD Cert.ExchangeReferenceIdeal.τ).loc Cert.ExchangeReferenceIdeal.main_v10) = v0
          ∧ r.2.mem (((0 : Dev Cert.ExchangeReferenceIdeal.nD).tc : Thread Cert.ExchangeReferenceIdeal.nD Cert.ExchangeReferenceIdeal.τ).loc Cert.ExchangeReferenceIdeal.main_v11) = v1
          ∧ r.2.mem (((0 : Dev Cert.ExchangeReferenceIdeal.nD).tc : Thread Cert.ExchangeReferenceIdeal.nD Cert.ExchangeReferenceIdeal.τ).loc Cert.ExchangeReferenceIdeal.main_v12) = v2
          ∧ r.2.mem (((0 : Dev Cert.ExchangeReferenceIdeal.nD).tc : Thread Cert.ExchangeReferenceIdeal.nD Cert.ExchangeReferenceIdeal.τ).loc Cert.ExchangeReferenceIdeal.main_v13) = v3
          ∧ r.2.mem (((0 : Dev Cert.ExchangeReferenceIdeal.nD).tc : Thread Cert.ExchangeReferenceIdeal.nD Cert.ExchangeReferenceIdeal.τ).loc Cert.ExchangeReferenceIdeal.main_v14) = v4
          ∧ r.2.mem (((0 : Dev Cert.ExchangeReferenceIdeal.nD).tc : Thread Cert.ExchangeReferenceIdeal.nD Cert.ExchangeReferenceIdeal.τ).loc Cert.ExchangeReferenceIdeal.main_arg0) = m' (((0 : Dev Cert.ExchangeReferenceIdeal.nD).tc : Thread Cert.ExchangeReferenceIdeal.nD Cert.ExchangeReferenceIdeal.τ).loc Cert.ExchangeReferenceIdeal.main_arg0)
          ∧ r.2.mem (((0 : Dev Cert.ExchangeReferenceIdeal.nD).tc : Thread Cert.ExchangeReferenceIdeal.nD Cert.ExchangeReferenceIdeal.τ).loc Cert.ExchangeReferenceIdeal.main_arg1) = m' (((0 : Dev Cert.ExchangeReferenceIdeal.nD).tc : Thread Cert.ExchangeReferenceIdeal.nD Cert.ExchangeReferenceIdeal.τ).loc Cert.ExchangeReferenceIdeal.main_arg1)
          ∧ r.2.mem (((0 : Dev Cert.ExchangeReferenceIdeal.nD).tc : Thread Cert.ExchangeReferenceIdeal.nD Cert.ExchangeReferenceIdeal.τ).loc Cert.ExchangeReferenceIdeal.main_arg2) = m' (((0 : Dev Cert.ExchangeReferenceIdeal.nD).tc : Thread Cert.ExchangeReferenceIdeal.nD Cert.ExchangeReferenceIdeal.τ).loc Cert.ExchangeReferenceIdeal.main_arg2)
          ∧ r.2.mem (((0 : Dev Cert.ExchangeReferenceIdeal.nD).tc : Thread Cert.ExchangeReferenceIdeal.nD Cert.ExchangeReferenceIdeal.τ).loc Cert.ExchangeReferenceIdeal.main_arg3) = m' (((0 : Dev Cert.ExchangeReferenceIdeal.nD).tc : Thread Cert.ExchangeReferenceIdeal.nD Cert.ExchangeReferenceIdeal.τ).loc Cert.ExchangeReferenceIdeal.main_arg3)
          ∧ r.2.mem (((0 : Dev Cert.ExchangeReferenceIdeal.nD).tc : Thread Cert.ExchangeReferenceIdeal.nD Cert.ExchangeReferenceIdeal.τ).loc Cert.ExchangeReferenceIdeal.main_arg4) = m' (((0 : Dev Cert.ExchangeReferenceIdeal.nD).tc : Thread Cert.ExchangeReferenceIdeal.nD Cert.ExchangeReferenceIdeal.τ).loc Cert.ExchangeReferenceIdeal.main_arg4)
          ∧ r.2.mem (((0 : Dev Cert.ExchangeReferenceIdeal.nD).tc : Thread Cert.ExchangeReferenceIdeal.nD Cert.ExchangeReferenceIdeal.τ).loc Cert.ExchangeReferenceIdeal.main_arg5) = m' (((0 : Dev Cert.ExchangeReferenceIdeal.nD).tc : Thread Cert.ExchangeReferenceIdeal.nD Cert.ExchangeReferenceIdeal.τ).loc Cert.ExchangeReferenceIdeal.main_arg5))

def preserves_Queries_QueriesIdeal : Prop :=
  True

def algebraic_QueriesIdeal_QueriesReferenceIdeal [hQueriesIdeal : Cert.QueriesIdeal.Facts] [hQueriesReferenceIdeal : Cert.QueriesReferenceIdeal.Facts] : Prop :=
  ∀ (m : (ℓ : Loc Cert.QueriesIdeal.nD Cert.QueriesIdeal.τ Cert.QueriesIdeal.sig) → Buf (Elt Ideal) ℓ) (g : Dev Cert.QueriesIdeal.nD → PrngReg)
    (m' : (ℓ : Loc Cert.QueriesReferenceIdeal.nD Cert.QueriesReferenceIdeal.τ Cert.QueriesReferenceIdeal.sig) → Buf (Elt Ideal) ℓ) (g' : Dev Cert.QueriesReferenceIdeal.nD → PrngReg), Pre_QueriesIdeal m →
    (∀ c : Dev Cert.QueriesIdeal.nD,
      m' ((c.tc : Thread Cert.QueriesReferenceIdeal.nD Cert.QueriesReferenceIdeal.τ).loc Cert.QueriesReferenceIdeal.main_arg0) = m ((c.tc : Thread Cert.QueriesIdeal.nD Cert.QueriesIdeal.τ).loc Cert.QueriesIdeal.main_arg0)
      ∧ m' ((c.tc : Thread Cert.QueriesReferenceIdeal.nD Cert.QueriesReferenceIdeal.τ).loc Cert.QueriesReferenceIdeal.main_arg1) = m ((c.tc : Thread Cert.QueriesIdeal.nD Cert.QueriesIdeal.τ).loc Cert.QueriesIdeal.main_arg1)) →
    ∃ (v0 : (c : Dev Cert.QueriesIdeal.nD) → Buf (Elt Ideal) ((c.tc : Thread Cert.QueriesIdeal.nD Cert.QueriesIdeal.τ).loc Cert.QueriesIdeal.main_v0)),
      θ_run (Cert.QueriesIdeal.defs (F := Ideal)) (onTc (τ := Cert.QueriesIdeal.τ) (Cert.QueriesIdeal.main (F := Ideal))) ⟨m, fun _ => 0, g⟩ (fun r => ∀ c : Dev Cert.QueriesIdeal.nD,
          r.2.mem ((c.tc : Thread Cert.QueriesIdeal.nD Cert.QueriesIdeal.τ).loc Cert.QueriesIdeal.main_v0) = v0 c
          ∧ r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1))
      ∧ θ_run (Cert.QueriesReferenceIdeal.defs (F := Ideal)) (onTc (τ := Cert.QueriesReferenceIdeal.τ) (Cert.QueriesReferenceIdeal.main (F := Ideal))) ⟨m', fun _ => 0, g'⟩ (fun r => ∀ c : Dev Cert.QueriesReferenceIdeal.nD,
          r.2.mem ((c.tc : Thread Cert.QueriesReferenceIdeal.nD Cert.QueriesReferenceIdeal.τ).loc Cert.QueriesReferenceIdeal.main_v2) = v0 c
          ∧ r.2.mem ((c.tc : Thread Cert.QueriesReferenceIdeal.nD Cert.QueriesReferenceIdeal.τ).loc Cert.QueriesReferenceIdeal.main_arg0) = m' ((c.tc : Thread Cert.QueriesReferenceIdeal.nD Cert.QueriesReferenceIdeal.τ).loc Cert.QueriesReferenceIdeal.main_arg0)
          ∧ r.2.mem ((c.tc : Thread Cert.QueriesReferenceIdeal.nD Cert.QueriesReferenceIdeal.τ).loc Cert.QueriesReferenceIdeal.main_arg1) = m' ((c.tc : Thread Cert.QueriesReferenceIdeal.nD Cert.QueriesReferenceIdeal.τ).loc Cert.QueriesReferenceIdeal.main_arg1))

def preserves_Attention_AttentionIdeal : Prop :=
  IdealRules.named_const.Statement Cert.AttentionIdeal.κ "scale" .bf16 0x3D94#16 (((Real.sqrt 192)⁻¹ : ℝ) : EReal)

def algebraic_AttentionIdeal_AttentionReferenceIdeal_pre_finite [hAttentionIdeal : Cert.AttentionIdeal.Facts] [hAttentionReferenceIdeal : Cert.AttentionReferenceIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_finite m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)
      ∧ m' ((c.tc : Thread Cert.AttentionReferenceIdeal.nD Cert.AttentionReferenceIdeal.τ).loc Cert.AttentionReferenceIdeal.main_arg3) = m ((c.tc : Thread Cert.AttentionIdeal.nD Cert.AttentionIdeal.τ).loc Cert.AttentionIdeal.main_arg3)
      ∧ m' ((c.tc : Thread Cert.AttentionReferenceIdeal.nD Cert.AttentionReferenceIdeal.τ).loc Cert.AttentionReferenceIdeal.main_arg4) = m ((c.tc : Thread Cert.AttentionIdeal.nD Cert.AttentionIdeal.τ).loc Cert.AttentionIdeal.main_arg4)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v30) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2)
          ∧ r.2.mem ((c.tc : Thread Cert.AttentionReferenceIdeal.nD Cert.AttentionReferenceIdeal.τ).loc Cert.AttentionReferenceIdeal.main_arg3) = m' ((c.tc : Thread Cert.AttentionReferenceIdeal.nD Cert.AttentionReferenceIdeal.τ).loc Cert.AttentionReferenceIdeal.main_arg3)
          ∧ r.2.mem ((c.tc : Thread Cert.AttentionReferenceIdeal.nD Cert.AttentionReferenceIdeal.τ).loc Cert.AttentionReferenceIdeal.main_arg4) = m' ((c.tc : Thread Cert.AttentionReferenceIdeal.nD Cert.AttentionReferenceIdeal.τ).loc Cert.AttentionReferenceIdeal.main_arg4))

def Claim : Prop :=
  ∃ (hKernel : Cert.Kernel.Facts) (hKernelIdeal : Cert.KernelIdeal.Facts) (hReferenceIdeal : Cert.ReferenceIdeal.Facts) (hExchange : Cert.Exchange.Facts) (hExchangeIdeal : Cert.ExchangeIdeal.Facts) (hExchangeReferenceIdeal : Cert.ExchangeReferenceIdeal.Facts) (hQueries : Cert.Queries.Facts) (hQueriesIdeal : Cert.QueriesIdeal.Facts) (hQueriesReferenceIdeal : Cert.QueriesReferenceIdeal.Facts) (hAttention : Cert.Attention.Facts) (hAttentionIdeal : Cert.AttentionIdeal.Facts) (hAttentionReferenceIdeal : Cert.AttentionReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Exchange (hExchange := hExchange)
    ∧ quiescent_ExchangeIdeal (hExchangeIdeal := hExchangeIdeal)
    ∧ quiescent_ExchangeReferenceIdeal (hExchangeReferenceIdeal := hExchangeReferenceIdeal)
    ∧ quiescent_Queries (hQueries := hQueries)
    ∧ quiescent_QueriesIdeal (hQueriesIdeal := hQueriesIdeal)
    ∧ quiescent_QueriesReferenceIdeal (hQueriesReferenceIdeal := hQueriesReferenceIdeal)
    ∧ quiescent_Attention (hAttention := hAttention)
    ∧ quiescent_AttentionIdeal (hAttentionIdeal := hAttentionIdeal)
    ∧ quiescent_AttentionIdeal_pre_finite (hAttentionIdeal := hAttentionIdeal) (hPre_finite := hPre_finite)
    ∧ quiescent_AttentionReferenceIdeal (hAttentionReferenceIdeal := hAttentionReferenceIdeal)
    ∧ quiescent_AttentionReferenceIdeal_pre_finite (hAttentionReferenceIdeal := hAttentionReferenceIdeal) (hPre_finite := hPre_finite)
    ∧ preserves_Kernel_KernelIdeal
    ∧ algebraic_KernelIdeal_ReferenceIdeal (hKernelIdeal := hKernelIdeal) (hReferenceIdeal := hReferenceIdeal)
    ∧ preserves_Exchange_ExchangeIdeal
    ∧ algebraic_ExchangeIdeal_ExchangeReferenceIdeal (hExchangeIdeal := hExchangeIdeal) (hExchangeReferenceIdeal := hExchangeReferenceIdeal)
    ∧ preserves_Queries_QueriesIdeal
    ∧ algebraic_QueriesIdeal_QueriesReferenceIdeal (hQueriesIdeal := hQueriesIdeal) (hQueriesReferenceIdeal := hQueriesReferenceIdeal)
    ∧ preserves_Attention_AttentionIdeal
    ∧ algebraic_AttentionIdeal_AttentionReferenceIdeal_pre_finite (hAttentionIdeal := hAttentionIdeal) (hAttentionReferenceIdeal := hAttentionReferenceIdeal) (hPre_finite := hPre_finite)
-- ==== Pre_finite.lean ====
abbrev S512x4096 : Shape := ⟨2, ![512, 4096]⟩
abbrev S512x2048 : Shape := ⟨2, ![512, 2048]⟩
abbrev S512x64 : Shape := ⟨2, ![512, 64]⟩
abbrev S_ : Shape := ⟨0, ![]⟩

class Facts : Prop where
  bitsLt_bf16_f32 : FTy.bits .bf16 < FTy.bits .f32
  bcast_S_S512x4096 : S_.BroadcastsInDim S512x4096 (![] : Fin 0 → Fin S512x4096.rank)
  bcast_S_S512x2048 : S_.BroadcastsInDim S512x2048 (![] : Fin 0 → Fin S512x2048.rank)
  bcast_S_S512x64 : S_.BroadcastsInDim S512x64 (![] : Fin 0 → Fin S512x64.rank)

variable [Facts]

def fn {F : FTy → Type} [FloatOps F] (main_arg0 : FVec F S512x4096 .bf16) (main_arg1 : FVec F S512x4096 .bf16) (main_arg2 : FVec F S512x4096 .bf16) (main_arg3 : FVec F S512x2048 .bf16) (main_arg4 : FVec F S512x64 .bf16) : IVec S512x4096 1 × IVec S512x4096 1 × IVec S512x2048 1 × IVec S512x64 1 :=
  let main_v0 : FVec F S512x4096 .f32 := (extf .f32 · bitsLt_bf16_f32) main_arg0
  let main_v1 : FVec F S512x4096 .f32 := Host.absf main_v0
  let main_cst : FVec F S_ .f32 := constant S_ .f32 0x7F800000#32
  let main_v2 : FVec F S512x4096 .f32 := broadcastInDim S512x4096 ![] bcast_S_S512x4096 main_cst
  let main_v3 : IVec S512x4096 1 := cmpf .olt main_v1 main_v2
  let main_v4 : FVec F S512x4096 .f32 := (extf .f32 · bitsLt_bf16_f32) main_arg1
  let main_v5 : FVec F S512x4096 .f32 := Host.absf main_v4
  let main_cst_0 : FVec F S_ .f32 := constant S_ .f32 0x7F800000#32
  let main_v6 : FVec F S512x4096 .f32 := broadcastInDim S512x4096 ![] bcast_S_S512x4096 main_cst_0
  let main_v7 : IVec S512x4096 1 := cmpf .olt main_v5 main_v6
  let main_v8 : FVec F S512x2048 .f32 := (extf .f32 · bitsLt_bf16_f32) main_arg3
  let main_v9 : FVec F S512x2048 .f32 := Host.absf main_v8
  let main_cst_1 : FVec F S_ .f32 := constant S_ .f32 0x7F800000#32
  let main_v10 : FVec F S512x2048 .f32 := broadcastInDim S512x2048 ![] bcast_S_S512x2048 main_cst_1
  let main_v11 : IVec S512x2048 1 := cmpf .olt main_v9 main_v10
  let main_v12 : FVec F S512x64 .f32 := (extf .f32 · bitsLt_bf16_f32) main_arg4
  let main_v13 : FVec F S512x64 .f32 := Host.absf main_v12
  let main_cst_2 : FVec F S_ .f32 := constant S_ .f32 0x7F800000#32
  let main_v14 : FVec F S512x64 .f32 := broadcastInDim S512x64 ![] bcast_S_S512x64 main_cst_2
  let main_v15 : IVec S512x64 1 := cmpf .olt main_v13 main_v14
  (main_v3, main_v7, main_v11, main_v15)
-- ==== Kernel.lean ====
abbrev S512x4096 : Shape := ⟨2, ![512, 4096]⟩
abbrev S4096x4096 : Shape := ⟨2, ![4096, 4096]⟩
abbrev S4x256x4096 : Shape := ⟨3, ![4, 256, 4096]⟩
abbrev S2x4096x512 : Shape := ⟨3, ![2, 4096, 512]⟩
abbrev S4x512x512 : Shape := ⟨3, ![4, 512, 512]⟩
abbrev S2 : Shape := ⟨1, ![2]⟩
abbrev S4 : Shape := ⟨1, ![4]⟩
abbrev S_ : Shape := ⟨0, ![]⟩
abbrev S1 : Shape := ⟨1, ![1]⟩
abbrev S1x4096x512 : Shape := ⟨3, ![1, 4096, 512]⟩
abbrev S4096x512 : Shape := ⟨2, ![4096, 512]⟩
abbrev S512x512 : Shape := ⟨2, ![512, 512]⟩
abbrev S2x256x512 : Shape := ⟨3, ![2, 256, 512]⟩
abbrev S1x512x512 : Shape := ⟨3, ![1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x4096, .bf16⟩
  | .hbm, ⟨1, _⟩ => ⟨S4096x4096, .f32⟩
  | .hbm, ⟨2, _⟩ => ⟨S4x256x4096, .bf16⟩
  | .local _ .vmem, ⟨0, _⟩ => ⟨S512x4096, .bf16⟩
  | .local _ .vmem, ⟨1, _⟩ => ⟨S4x256x4096, .bf16⟩
  | .local _ .vmem, ⟨2, _⟩ => ⟨S2x4096x512, .f32⟩
  | .local _ .vmem, ⟨3, _⟩ => ⟨S4x512x512, .bf16⟩
  | .local _ .vmem, ⟨4, _⟩ => ⟨S4x512x512, .bf16⟩
  | .local _ .vmem, ⟨5, _⟩ => ⟨S4x512x512, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier1 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_cond5 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_45 : BitVec 32 := 0#32
  let v59 : BitVec 1 := Scalar.cmpi .eq v5 c0_i32_45
  let v60 : BitVec 32 := Scalar.extui v59
  let c0_i32_46 : BitVec 32 := 0#32
  let v61 : BitVec 1 := Scalar.cmpi .ne v60 c0_i32_46
  v61

def k0_dev3 (d0 : Dev nD) : Nat :=
  let c0_i32_587 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_586 : BitVec 32 := 2#32
  let v692 : BitVec 32 := Scalar.muli v6 c2_i32_586
  let v693 : BitVec 32 := Scalar.addi c0_i32_587 v692
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_588 : BitVec 32 := 1#32
  let v694 : BitVec 32 := Scalar.muli v5 c1_i32_588
  let v695 : BitVec 32 := Scalar.addi v693 v694
  v695.toNat
def k0_cond10 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_75 : BitVec 32 := 1#32
  let v99 : BitVec 1 := Scalar.cmpi .eq v5 c1_i32_75
  let v100 : BitVec 32 := Scalar.extui v99
  let c0_i32_76 : BitVec 32 := 0#32
  let v101 : BitVec 1 := Scalar.cmpi .ne v100 c0_i32_76
  v101

def k0_dev4 (d0 : Dev nD) : Nat :=
  let c0_i32_587 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_586 : BitVec 32 := 2#32
  let v692 : BitVec 32 := Scalar.muli v6 c2_i32_586
  let v693 : BitVec 32 := Scalar.addi c0_i32_587 v692
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_588 : BitVec 32 := 1#32
  let v694 : BitVec 32 := Scalar.muli v5 c1_i32_588
  let v695 : BitVec 32 := Scalar.addi v693 v694
  v695.toNat
def k0_cond15 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_106 : BitVec 32 := 0#32
  let v139 : BitVec 1 := Scalar.cmpi .eq v5 c0_i32_106
  let v140 : BitVec 32 := Scalar.extui v139
  let c0_i32_107 : BitVec 32 := 0#32
  let v141 : BitVec 1 := Scalar.cmpi .ne v140 c0_i32_107
  v141

def k0_dev5 (d0 : Dev nD) : Nat :=
  let c0_i32_587 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_586 : BitVec 32 := 2#32
  let v692 : BitVec 32 := Scalar.muli v6 c2_i32_586
  let v693 : BitVec 32 := Scalar.addi c0_i32_587 v692
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_588 : BitVec 32 := 1#32
  let v694 : BitVec 32 := Scalar.muli v5 c1_i32_588
  let v695 : BitVec 32 := Scalar.addi v693 v694
  v695.toNat
def k0_cond20 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_137 : BitVec 32 := 1#32
  let v179 : BitVec 1 := Scalar.cmpi .eq v5 c1_i32_137
  let v180 : BitVec 32 := Scalar.extui v179
  let c0_i32_138 : BitVec 32 := 0#32
  let v181 : BitVec 1 := Scalar.cmpi .ne v180 c0_i32_138
  v181

def k0_dev6 (d0 : Dev nD) : Nat :=
  let c0_i32_587 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_586 : BitVec 32 := 2#32
  let v692 : BitVec 32 := Scalar.muli v6 c2_i32_586
  let v693 : BitVec 32 := Scalar.addi c0_i32_587 v692
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_588 : BitVec 32 := 1#32
  let v694 : BitVec 32 := Scalar.muli v5 c1_i32_588
  let v695 : BitVec 32 := Scalar.addi v693 v694
  v695.toNat
def k0_dev7 (d0 : Dev nD) : Nat :=
  let c0_i32_155 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_154 : BitVec 32 := 2#32
  let v192 : BitVec 32 := Scalar.muli v2 c2_i32_154
  let v193 : BitVec 32 := Scalar.addi c0_i32_155 v192
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_156 : BitVec 32 := 1#32
  let v194 : BitVec 32 := Scalar.muli v7 c1_i32_156
  let v195 : BitVec 32 := Scalar.addi v193 v194
  v195.toNat
def k0_cond29 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_205 : BitVec 32 := 0#32
  let v263 : BitVec 1 := Scalar.cmpi .eq v5 c0_i32_205
  let v264 : BitVec 32 := Scalar.extui v263
  let c0_i32_206 : BitVec 32 := 0#32
  let v265 : BitVec 1 := Scalar.cmpi .ne v264 c0_i32_206
  v265

def k0_dev8 (d0 : Dev nD) : Nat :=
  let c0_i32_587 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_586 : BitVec 32 := 2#32
  let v692 : BitVec 32 := Scalar.muli v6 c2_i32_586
  let v693 : BitVec 32 := Scalar.addi c0_i32_587 v692
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_588 : BitVec 32 := 1#32
  let v694 : BitVec 32 := Scalar.muli v5 c1_i32_588
  let v695 : BitVec 32 := Scalar.addi v693 v694
  v695.toNat
def k0_cond34 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_236 : BitVec 32 := 1#32
  let v303 : BitVec 1 := Scalar.cmpi .eq v5 c1_i32_236
  let v304 : BitVec 32 := Scalar.extui v303
  let c0_i32_237 : BitVec 32 := 0#32
  let v305 : BitVec 1 := Scalar.cmpi .ne v304 c0_i32_237
  v305

def k0_dev9 (d0 : Dev nD) : Nat :=
  let c0_i32_587 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_586 : BitVec 32 := 2#32
  let v692 : BitVec 32 := Scalar.muli v6 c2_i32_586
  let v693 : BitVec 32 := Scalar.addi c0_i32_587 v692
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_588 : BitVec 32 := 1#32
  let v694 : BitVec 32 := Scalar.muli v5 c1_i32_588
  let v695 : BitVec 32 := Scalar.addi v693 v694
  v695.toNat
def k0_dev10 (d0 : Dev nD) : Nat :=
  let c0_i32_254 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_253 : BitVec 32 := 2#32
  let v316 : BitVec 32 := Scalar.muli v2 c2_i32_253
  let v317 : BitVec 32 := Scalar.addi c0_i32_254 v316
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_255 : BitVec 32 := 1#32
  let v318 : BitVec 32 := Scalar.muli v7 c1_i32_255
  let v319 : BitVec 32 := Scalar.addi v317 v318
  v319.toNat
def k0_cond43 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_304 : BitVec 32 := 0#32
  let v387 : BitVec 1 := Scalar.cmpi .eq v5 c0_i32_304
  let v388 : BitVec 32 := Scalar.extui v387
  let c0_i32_305 : BitVec 32 := 0#32
  let v389 : BitVec 1 := Scalar.cmpi .ne v388 c0_i32_305
  v389

def k0_dev11 (d0 : Dev nD) : Nat :=
  let c0_i32_587 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_586 : BitVec 32 := 2#32
  let v692 : BitVec 32 := Scalar.muli v6 c2_i32_586
  let v693 : BitVec 32 := Scalar.addi c0_i32_587 v692
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_588 : BitVec 32 := 1#32
  let v694 : BitVec 32 := Scalar.muli v5 c1_i32_588
  let v695 : BitVec 32 := Scalar.addi v693 v694
  v695.toNat
def k0_cond48 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_330 : BitVec 32 := 1#32
  let v422 : BitVec 1 := Scalar.cmpi .eq v5 c1_i32_330
  let v423 : BitVec 32 := Scalar.extui v422
  let c0_i32_331 : BitVec 32 := 0#32
  let v424 : BitVec 1 := Scalar.cmpi .ne v423 c0_i32_331
  v424

def k0_dev12 (d0 : Dev nD) : Nat :=
  let c0_i32_587 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_586 : BitVec 32 := 2#32
  let v692 : BitVec 32 := Scalar.muli v6 c2_i32_586
  let v693 : BitVec 32 := Scalar.addi c0_i32_587 v692
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_588 : BitVec 32 := 1#32
  let v694 : BitVec 32 := Scalar.muli v5 c1_i32_588
  let v695 : BitVec 32 := Scalar.addi v693 v694
  v695.toNat
def k0_dev13 (d0 : Dev nD) : Nat :=
  let c0_i32_348 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_347 : BitVec 32 := 2#32
  let v435 : BitVec 32 := Scalar.muli v2 c2_i32_347
  let v436 : BitVec 32 := Scalar.addi c0_i32_348 v435
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_349 : BitVec 32 := 1#32
  let v437 : BitVec 32 := Scalar.muli v7 c1_i32_349
  let v438 : BitVec 32 := Scalar.addi v436 v437
  v438.toNat
def k0_dev14 (d0 : Dev nD) : Nat :=
  let c0_i32_383 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_382 : BitVec 32 := 2#32
  let v479 : BitVec 32 := Scalar.muli v2 c2_i32_382
  let v480 : BitVec 32 := Scalar.addi c0_i32_383 v479
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_384 : BitVec 32 := 1#32
  let v481 : BitVec 32 := Scalar.muli v7 c1_i32_384
  let v482 : BitVec 32 := Scalar.addi v480 v481
  v482.toNat
abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x4096 : Shape := ⟨2, ![1024, 4096]⟩
abbrev S4096x4096 : Shape := ⟨2, ![4096, 4096]⟩
abbrev S4x256x4096 : Shape := ⟨3, ![4, 256, 4096]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x4096, .f32⟩
  | .hbm, ⟨2, _⟩ => ⟨S1024x4096, .f32⟩
  | .hbm, ⟨3, _⟩ => ⟨S1024x4096, .f32⟩
  | .hbm, ⟨4, _⟩ => ⟨S4x256x4096, .f32⟩
  | .hbm, ⟨5, _⟩ => ⟨S4x256x4096, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Exchange.lean ====
abbrev S4x256x4096 : Shape := ⟨3, ![4, 256, 4096]⟩
abbrev S4096x128 : Shape := ⟨2, ![4096, 128]⟩
abbrev S128x4096 : Shape := ⟨2, ![128, 4096]⟩
abbrev S4096x64 : Shape := ⟨2, ![4096, 64]⟩
abbrev S4096x2048 : Shape := ⟨2, ![4096, 2048]⟩
abbrev S512x4096 : Shape := ⟨2, ![512, 4096]⟩
abbrev S512x64 : Shape := ⟨2, ![512, 64]⟩
abbrev S512x2048 : Shape := ⟨2, ![512, 2048]⟩
abbrev S2x512x128 : Shape := ⟨3, ![2, 512, 128]⟩
abbrev S512x256 : Shape := ⟨2, ![512, 256]⟩
abbrev S256x4096 : Shape := ⟨2, ![256, 4096]⟩
abbrev S2x4096x256 : Shape := ⟨3, ![2, 4096, 256]⟩
abbrev S3 : Shape := ⟨1, ![3]⟩
abbrev S2 : Shape := ⟨1, ![2]⟩
abbrev S_ : Shape := ⟨0, ![]⟩
abbrev S1 : Shape := ⟨1, ![1]⟩
abbrev S2x256x4096 : Shape := ⟨3, ![2, 256, 4096]⟩
abbrev S512x128 : Shape := ⟨2, ![512, 128]⟩
abbrev S1x512x128 : Shape := ⟨3, ![1, 512, 128]⟩
abbrev S1x4096x256 : Shape := ⟨3, ![1, 4096, 256]⟩
abbrev S4096x256 : Shape := ⟨2, ![4096, 256]⟩
abbrev S256x1024 : Shape := ⟨2, ![256, 1024]⟩
abbrev S512x1024 : Shape := ⟨2, ![512, 1024]⟩

abbrev nBuf : Space → Nat
  | .hbm => 11
  | .vmem => 15
  | .smem => 0
  | _ => 0

abbrev bufTy : (tb : Table) → Fin (tcTables nBuf tb) → BufTy
  | .hbm, ⟨0, _⟩ => ⟨S4x256x4096, .f32⟩
  | .hbm, ⟨1, _⟩ => ⟨S4096x128, .bf16⟩
  | .hbm, ⟨2, _⟩ => ⟨S128x4096, .bf16⟩
  | .hbm, ⟨3, _⟩ => ⟨S128x4096, .bf16⟩
  | .hbm, ⟨4, _⟩ => ⟨S4096x64, .bf16⟩
  | .hbm, ⟨5, _⟩ => ⟨S4096x2048, .f32⟩
  | .hbm, ⟨6, _⟩ => ⟨S512x4096, .bf16⟩
  | .hbm, ⟨7, _⟩ => ⟨S512x4096, .bf16⟩
  | .hbm, ⟨8, _⟩ => ⟨S512x64, .bf16⟩
  | .hbm, ⟨9, _⟩ => ⟨S512x4096, .bf16⟩
  | .hbm, ⟨10, _⟩ => ⟨S512x2048, .bf16⟩
  | .local _ .vmem, ⟨0, _⟩ => ⟨S4x256x4096, .f32⟩
  | .local _ .vmem, ⟨1, _⟩ => ⟨S4096x128, .bf16⟩
  | .local _ .vmem, ⟨2, _⟩ => ⟨S128x4096, .bf16⟩
  | .local _ .vmem, ⟨3, _⟩ => ⟨S128x4096, .bf16⟩
  | .local _ .vmem, ⟨4, _⟩ => ⟨S4096x64, .bf16⟩
  | .local _ .vmem, ⟨5, _⟩ => ⟨S512x4096, .bf16⟩
  | .local _ .vmem, ⟨6, _⟩ => ⟨S512x4096, .bf16⟩
  | .local _ .vmem, ⟨7, _⟩ => ⟨S512x64, .bf16⟩
  | .local _ .vmem, ⟨8, _⟩ => ⟨S512x4096, .bf16⟩
  | .local _ .vmem, ⟨9, _⟩ => ⟨S512x2048, .bf16⟩
  | .local _ .vmem, ⟨10, _⟩ => ⟨S2x512x128, .bf16⟩
  | .local _ .vmem, ⟨11, _⟩ => ⟨S512x256, .bf16⟩
  | .local _ .vmem, ⟨12, _⟩ => ⟨S256x4096, .bf16⟩
  | .local _ .vmem, ⟨13, _⟩ => ⟨S256x4096, .bf16⟩
  | .local _ .vmem, ⟨14, _⟩ => ⟨S2x4096x256, .f32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_cond1 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_7 : BitVec 32 := 0#32
  let v12 : BitVec 1 := Scalar.cmpi .eq v5 c0_i32_7
  let v13 : BitVec 32 := Scalar.extui v12
  let c0_i32_8 : BitVec 32 := 0#32
  let v14 : BitVec 1 := Scalar.cmpi .ne v13 c0_i32_8
  v14

def k0_dev2 (d0 : Dev nD) : Nat :=
  let c0_i32_296 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_295 : BitVec 32 := 2#32
  let v282 : BitVec 32 := Scalar.muli v2 c2_i32_295
  let v283 : BitVec 32 := Scalar.addi c0_i32_296 v282
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_297 : BitVec 32 := 1#32
  let v284 : BitVec 32 := Scalar.muli v6 c1_i32_297
  let v285 : BitVec 32 := Scalar.addi v283 v284
  v285.toNat
def k0_cond2 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_9 : BitVec 32 := 1#32
  let v15 : BitVec 1 := Scalar.cmpi .eq v5 c1_i32_9
  let v16 : BitVec 32 := Scalar.extui v15
  let c0_i32_10 : BitVec 32 := 0#32
  let v17 : BitVec 1 := Scalar.cmpi .ne v16 c0_i32_10
  v17

def k0_dev3 (d0 : Dev nD) : Nat :=
  let c0_i32_296 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_295 : BitVec 32 := 2#32
  let v282 : BitVec 32 := Scalar.muli v2 c2_i32_295
  let v283 : BitVec 32 := Scalar.addi c0_i32_296 v282
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_297 : BitVec 32 := 1#32
  let v284 : BitVec 32 := Scalar.muli v6 c1_i32_297
  let v285 : BitVec 32 := Scalar.addi v283 v284
  v285.toNat
def k0_cond5 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_18 : BitVec 32 := 0#32
  let v30 : BitVec 1 := Scalar.cmpi .eq v5 c0_i32_18
  let v31 : BitVec 32 := Scalar.extui v30
  let c0_i32_19 : BitVec 32 := 0#32
  let v32 : BitVec 1 := Scalar.cmpi .ne v31 c0_i32_19
  v32

def k0_dev4 (d0 : Dev nD) : Nat :=
  let c0_i32_297 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_296 : BitVec 32 := 2#32
  let v280 : BitVec 32 := Scalar.muli v2 c2_i32_296
  let v281 : BitVec 32 := Scalar.addi c0_i32_297 v280
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_298 : BitVec 32 := 1#32
  let v282 : BitVec 32 := Scalar.muli v6 c1_i32_298
  let v283 : BitVec 32 := Scalar.addi v281 v282
  v283.toNat
def k0_dev5 (d0 : Dev nD) : Nat :=
  let c0_i32_310 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_309 : BitVec 32 := 2#32
  let v297 : BitVec 32 := Scalar.muli v2 c2_i32_309
  let v298 : BitVec 32 := Scalar.addi c0_i32_310 v297
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_311 : BitVec 32 := 1#32
  let v299 : BitVec 32 := Scalar.muli v6 c1_i32_311
  let v300 : BitVec 32 := Scalar.addi v298 v299
  v300.toNat
def k0_cond6 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_20 : BitVec 32 := 1#32
  let v33 : BitVec 1 := Scalar.cmpi .eq v5 c1_i32_20
  let v34 : BitVec 32 := Scalar.extui v33
  let c0_i32_21 : BitVec 32 := 0#32
  let v35 : BitVec 1 := Scalar.cmpi .ne v34 c0_i32_21
  v35

def k0_dev6 (d0 : Dev nD) : Nat :=
  let c0_i32_297 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_296 : BitVec 32 := 2#32
  let v280 : BitVec 32 := Scalar.muli v2 c2_i32_296
  let v281 : BitVec 32 := Scalar.addi c0_i32_297 v280
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_298 : BitVec 32 := 1#32
  let v282 : BitVec 32 := Scalar.muli v6 c1_i32_298
  let v283 : BitVec 32 := Scalar.addi v281 v282
  v283.toNat
def k0_dev7 (d0 : Dev nD) : Nat :=
  let c0_i32_310 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_309 : BitVec 32 := 2#32
  let v297 : BitVec 32 := Scalar.muli v2 c2_i32_309
  let v298 : BitVec 32 := Scalar.addi c0_i32_310 v297
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_311 : BitVec 32 := 1#32
  let v299 : BitVec 32 := Scalar.muli v6 c1_i32_311
  let v300 : BitVec 32 := Scalar.addi v298 v299
  v300.toNat
abbrev stage0_0 : Fin 1 → Memref sig .tc .vmem S4x256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ExchangeReferenceIdeal.lean ====
abbrev S4x256x4096 : Shape := ⟨3, ![4, 256, 4096]⟩
abbrev S4096x256 : Shape := ⟨2, ![4096, 256]⟩
abbrev S256x4096 : Shape := ⟨2, ![256, 4096]⟩
abbrev S4096x64 : Shape := ⟨2, ![4096, 64]⟩
abbrev S4096x2048 : Shape := ⟨2, ![4096, 2048]⟩
abbrev S1024x4096 : Shape := ⟨2, ![1024, 4096]⟩
abbrev S1024x256 : Shape := ⟨2, ![1024, 256]⟩
abbrev S1024x2048 : Shape := ⟨2, ![1024, 2048]⟩
abbrev S1024x64 : Shape := ⟨2, ![1024, 64]⟩

abbrev nBuf : Space → Nat
  | .hbm => 21
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4096x256, .bf16⟩
  | .hbm, ⟨2, _⟩ => ⟨S256x4096, .bf16⟩
  | .hbm, ⟨3, _⟩ => ⟨S256x4096, .bf16⟩
  | .hbm, ⟨4, _⟩ => ⟨S4096x64, .bf16⟩
  | .hbm, ⟨5, _⟩ => ⟨S4096x2048, .f32⟩
  | .hbm, ⟨6, _⟩ => ⟨S1024x4096, .f32⟩
  | .hbm, ⟨7, _⟩ => ⟨S4096x256, .f32⟩
  | .hbm, ⟨8, _⟩ => ⟨S1024x256, .f32⟩
  | .hbm, ⟨9, _⟩ => ⟨S256x4096, .f32⟩
  | .hbm, ⟨10, _⟩ => ⟨S1024x4096, .f32⟩
  | .hbm, ⟨11, _⟩ => ⟨S256x4096, .f32⟩
  | .hbm, ⟨12, _⟩ => ⟨S1024x4096, .f32⟩
  | .hbm, ⟨13, _⟩ => ⟨S1024x2048, .f32⟩
  | .hbm, ⟨14, _⟩ => ⟨S4096x64, .f32⟩
  | .hbm, ⟨15, _⟩ => ⟨S1024x64, .f32⟩
  | .hbm, ⟨16, _⟩ => ⟨S1024x4096, .bf16⟩
  | .hbm, ⟨17, _⟩ => ⟨S1024x4096, .bf16⟩
  | .hbm, ⟨18, _⟩ => ⟨S1024x64, .bf16⟩
  | .hbm, ⟨19, _⟩ => ⟨S1024x4096, .bf16⟩
  | .hbm, ⟨20, _⟩ => ⟨S1024x2048, .bf16⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Queries.lean ====
abbrev S512x4096 : Shape := ⟨2, ![512, 4096]⟩
abbrev S4096x4096 : Shape := ⟨2, ![4096, 4096]⟩
abbrev S4096x1024 : Shape := ⟨2, ![4096, 1024]⟩
abbrev S512x1024 : Shape := ⟨2, ![512, 1024]⟩
abbrev S4096x512 : Shape := ⟨2, ![4096, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x4096, .bf16⟩
  | .hbm, ⟨1, _⟩ => ⟨S4096x4096, .f32⟩
  | .hbm, ⟨2, _⟩ => ⟨S512x4096, .bf16⟩
  | .local _ .vmem, ⟨0, _⟩ => ⟨S512x4096, .bf16⟩
  | .local _ .vmem, ⟨1, _⟩ => ⟨S4096x1024, .f32⟩
  | .local _ .vmem, ⟨2, _⟩ => ⟨S4096x1024, .f32⟩
  | .local _ .vmem, ⟨3, _⟩ => ⟨S512x1024, .bf16⟩
  | .local _ .vmem, ⟨4, _⟩ => ⟨S512x1024, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QueriesReferenceIdeal.lean ====
abbrev S512x4096 : Shape := ⟨2, ![512, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x4096, .f32⟩
  | .hbm, ⟨2, _⟩ => ⟨S512x4096, .f32⟩
  | .hbm, ⟨3, _⟩ => ⟨S512x4096, .f32⟩
  | .hbm, ⟨4, _⟩ => ⟨S512x4096, .bf16⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Attention.lean ====
abbrev S512x4096 : Shape := ⟨2, ![512, 4096]⟩
abbrev S512x2048 : Shape := ⟨2, ![512, 2048]⟩
abbrev S512x64 : Shape := ⟨2, ![512, 64]⟩
abbrev S256x1024 : Shape := ⟨2, ![256, 1024]⟩
abbrev S256x512 : Shape := ⟨2, ![256, 512]⟩
abbrev S256x64 : Shape := ⟨2, ![256, 64]⟩
abbrev S256x128 : Shape := ⟨2, ![256, 128]⟩
abbrev S256x256 : Shape := ⟨2, ![256, 256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S512x4096, .bf16⟩
  | .hbm, ⟨1, _⟩ => ⟨S512x4096, .bf16⟩
  | .hbm, ⟨2, _⟩ => ⟨S512x4096, .bf16⟩
  | .hbm, ⟨3, _⟩ => ⟨S512x2048, .bf16⟩
  | .hbm, ⟨4, _⟩ => ⟨S512x64, .bf16⟩
  | .hbm, ⟨5, _⟩ => ⟨S512x4096, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x512, .bf16⟩
  | .local _ .vmem, ⟨7, _⟩ => ⟨S256x512, .bf16⟩
  | .local _ .vmem, ⟨8, _⟩ => ⟨S256x64, .bf16⟩
  | .local _ .vmem, ⟨9, _⟩ => ⟨S256x64, .bf16⟩
  | .local _ .vmem, ⟨10, _⟩ => ⟨S256x1024, .bf16⟩
  | .local _ .vmem, ⟨11, _⟩ => ⟨S256x1024, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttentionIdeal.lean ====
variable {F : FTy → Type} [FloatOps F] [Named F]
def κ : String → Option EReal := fun
  | "scale" => some (((Real.sqrt 192)⁻¹ : ℝ) : EReal)
  | _ => none
-- ==== AttentionReferenceIdeal.lean ====
abbrev S512x4096 : Shape := ⟨2, ![512, 4096]⟩
abbrev S512x2048 : Shape := ⟨2, ![512, 2048]⟩
abbrev S512x64 : Shape := ⟨2, ![512, 64]⟩
abbrev S2x256x32x128 : Shape := ⟨4, ![2, 256, 32, 128]⟩
abbrev S2x256x32x64 : Shape := ⟨4, ![2, 256, 32, 64]⟩
abbrev S2x256x1x64 : Shape := ⟨4, ![2, 256, 1, 64]⟩
abbrev S_ : Shape := ⟨0, ![]⟩
abbrev S2x32x256x256 : Shape := ⟨4, ![2, 32, 256, 256]⟩
abbrev S2x32x256 : Shape := ⟨3, ![2, 32, 256]⟩
abbrev S2x32x256x1 : Shape := ⟨4, ![2, 32, 256, 1]⟩
abbrev S2x32x128x256 : Shape := ⟨4, ![2, 32, 128, 256]⟩

abbrev nBuf : Space → Nat
  | .hbm => 40
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S512x4096, .bf16⟩
  | .hbm, ⟨2, _⟩ => ⟨S512x4096, .bf16⟩
  | .hbm, ⟨3, _⟩ => ⟨S512x2048, .bf16⟩
  | .hbm, ⟨4, _⟩ => ⟨S512x64, .bf16⟩
  | .hbm, ⟨5, _⟩ => ⟨S512x4096, .f32⟩
  | .hbm, ⟨6, _⟩ => ⟨S2x256x32x128, .f32⟩
  | .hbm, ⟨7, _⟩ => ⟨S512x4096, .f32⟩
  | .hbm, ⟨8, _⟩ => ⟨S2x256x32x128, .f32⟩
  | .hbm, ⟨9, _⟩ => ⟨S512x4096, .f32⟩
  | .hbm, ⟨10, _⟩ => ⟨S2x256x32x128, .f32⟩
  | .hbm, ⟨11, _⟩ => ⟨S512x2048, .f32⟩
  | .hbm, ⟨12, _⟩ => ⟨S2x256x32x64, .f32⟩
  | .hbm, ⟨13, _⟩ => ⟨S512x64, .f32⟩
  | .hbm, ⟨14, _⟩ => ⟨S2x256x1x64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x32x256x256, .f32⟩
  | .hbm, ⟨20, _⟩ => ⟨S2x256x32x64, .f32⟩
  | .hbm, ⟨21, _⟩ => ⟨S2x32x256x256, .f32⟩
  | .hbm, ⟨22, _⟩ => ⟨S2x32x256x256, .f32⟩
  | .hbm, ⟨23, _⟩ => ⟨S2x32x256x256, .f32⟩
  | .hbm, ⟨24, _⟩ => ⟨S2x32x256x256, .f32⟩
  | .hbm, ⟨25, _⟩ => ⟨S_, .f32⟩
  | .hbm, ⟨26, _⟩ => ⟨S2x32x256, .f32⟩
  | .hbm, ⟨27, _⟩ => ⟨S2x32x256x1, .f32⟩
  | .hbm, ⟨28, _⟩ => ⟨S2x32x256x256, .f32⟩
  | .hbm, ⟨29, _⟩ => ⟨S2x32x256x256, .f32⟩
  | .hbm, ⟨30, _⟩ => ⟨S2x32x256x256, .f32⟩
  | .hbm, ⟨31, _⟩ => ⟨S_, .f32⟩
  | .hbm, ⟨32, _⟩ => ⟨S2x32x256, .f32⟩
  | .hbm, ⟨33, _⟩ => ⟨S2x32x256x1, .f32⟩
  | .hbm, ⟨34, _⟩ => ⟨S2x32x256x256, .f32⟩
  | .hbm, ⟨35, _⟩ => ⟨S2x32x256x256, .f32⟩
  | .hbm, ⟨36, _⟩ => ⟨S2x32x128x256, .f32⟩
  | .hbm, ⟨37, _⟩ => ⟨S2x256x32x128, .f32⟩
  | .hbm, ⟨38, _⟩ => ⟨S512x4096, .f32⟩
  | .hbm, ⟨39, _⟩ => ⟨S512x4096, .bf16⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Proof.QueriesValue.lean ====
/-
# The queries: the value

The product runs over a grid of four column blocks, each in two halves. Over the extended reals the array it leaves is the reference's product.
-/
module

public import proofs.«01_k».proof.Proof.Gen.QueriesIdeal.Value
public import proofs.«01_k».proof.Proof.Gen.QueriesReferenceIdeal.Run
public import Idealize.ShloMosaic.Lib.Pipeline.ValueKit.Point
public import Idealize.ShloMosaic.Lib.MatmulPlain
public import Idealize.ShloMosaic.Lib.Pointwise

@[expose] public section

noncomputable section

namespace Cert.QueriesProof

open Cert.QueriesIdeal Cert.QueriesIdeal.Gen
open Idealize.ShloMosaic Idealize.ShloMosaic.TcCoe Idealize.SL.Sem

/-- The reference's result as a term of its arguments. -/
def refOut (x : FVec Ideal Cert.QueriesReferenceIdeal.S512x4096 .bf16) (w : FVec Ideal Cert.QueriesReferenceIdeal.S4096x4096 .f32) : FVec Ideal Cert.QueriesReferenceIdeal.S512x4096 .bf16 :=
  truncf .bf16 (Host.dotGeneral Cert.QueriesReferenceIdeal.dot_S512x4096_S4096x4096_S512x4096_1_0_0_1_n_n none
    (extf .f32 x Cert.QueriesReferenceIdeal.Gen.bitsLt_bf16_f32) w) Cert.QueriesReferenceIdeal.Gen.bitsLt_bf16_f32

/-- Point `t`'s block of the weight and of the result is block `t` of the columns; the rows are whole. -/
theorem win_x : ∀ t : Fin cfg0.N, win0_0.index t = ![0, 0] := (by decide +kernel : ∀ t : Fin grid0.N, _)
theorem win_w : ∀ t : Fin cfg0.N, win0_1.index t = ![0, t.val] := (by decide +kernel : ∀ t : Fin grid0.N, _)
theorem win_o : ∀ t : Fin cfg0.N, win0_2.index t = ![0, t.val] := (by decide +kernel : ∀ t : Fin grid0.N, _)

theorem final (m : (ℓ : Loc nD τ sig) → Buf (Elt Ideal) ℓ) (c : Dev nD) :
    (dats m 0 c).arrAt 2 cfg0.N = refOut (m ((c : Thread nD τ).loc main_arg0)) (m ((c : Thread nD τ).loc main_arg1)) := by
  refine (dats m 0 c).arrAt_eq_of_covers 2 _ (by decide +kernel) fun t hf y => ?_
  blk_simp
  rw [after0_2]
  canon_tiles x h using cover0_2 ..
  all_goals
    open_payloads
    pointwise [refOut]
    blk_point [iblk, V, win_x t, win_w t, win_o t]

end Cert.QueriesProof

end

end
-- ==== Proof.AttnMath.lean ====
/-
# The softmax over the extended reals

A row of finite scores: shifting them by any real, here their maximum, does not change the weights; dividing the weighted sum by the sum
of the weights is weighting by the quotients, whatever the values are, since the quotients are real and not negative.
-/
module

public import Idealize.ShloMosaic.PureOps.Ideal

@[expose] public section

noncomputable section

namespace Cert.AttnMath

open Idealize.ShloMosaic

/-- A real that is not negative is distributed over a sum of any extended reals. -/
theorem mul_sum_of_nonneg {n : ℕ} {r : ℝ} (hr : 0 ≤ r) (f : Fin n → EReal) : (r : EReal) * ∑ t, f t = ∑ t, (r : EReal) * f t := by
  induction n with
  | zero => simp
  | succ n ih =>
    rw [Fin.sum_univ_castSucc, Fin.sum_univ_castSucc, EReal.left_distrib_of_nonneg_of_ne_top (by exact_mod_cast hr) (EReal.coe_ne_top r), ih]

theorem coe_sum {n : ℕ} (f : Fin n → ℝ) : ((∑ t, f t : ℝ) : EReal) = ∑ t, (f t : EReal) := by
  induction n with
  | zero => simp
  | succ n ih => rw [Fin.sum_univ_castSucc, Fin.sum_univ_castSucc, EReal.coe_add, ih]

/-- The weighted sum over the sum of the weights is the sum of the values under the shifted, divided weights. -/
theorem softmax {n : ℕ} (a : Fin (n + 1) → ℝ) (M : ℝ) (v : Fin (n + 1) → EReal) :
    (∑ t, Ideal.exp (a t) * v t) * Ideal.div 1 (∑ t, Ideal.exp (a t))
      = ∑ t, v t * Ideal.div (Ideal.exp ((a t : EReal) - M)) (∑ u, Ideal.exp ((a u : EReal) - M)) := by
  have hz : 0 < ∑ t, Real.exp (a t) := Finset.sum_pos (fun _ _ => Real.exp_pos _) ⟨0, Finset.mem_univ _⟩
  have hw : 0 < ∑ t, Real.exp (a t - M) := Finset.sum_pos (fun _ _ => Real.exp_pos _) ⟨0, Finset.mem_univ _⟩
  simp only [← EReal.coe_sub, Ideal.exp_coe, ← coe_sum]
  rw [Ideal.div_coe hz.ne', one_mul, mul_comm, mul_sum_of_nonneg (by positivity)]
  refine Finset.sum_congr rfl fun t _ => ?_
  rw [Ideal.div_coe hw.ne', ← EReal.coe_mul, ← mul_assoc, ← EReal.coe_mul, mul_comm (v t)]
  congr 2
  have e : ∑ u, Real.exp (a u - M) = (∑ u, Real.exp (a u)) * Real.exp (-M) := by
    rw [Finset.sum_mul]
    exact Finset.sum_congr rfl fun u _ => by rw [← Real.exp_add, sub_eq_add_neg]
  rw [e, sub_eq_add_neg, Real.exp_add]
  have := Real.exp_pos (-M)
  field_simp

/-- Scaling each left factor is scaling the sum of the products. -/
theorem scale_sum {n : ℕ} {r : ℝ} (hr : 0 ≤ r) (f g : Fin n → EReal) : ∑ t, f t * (r : EReal) * g t = (∑ t, f t * g t) * (r : EReal) := by
  rw [mul_comm, mul_sum_of_nonneg hr]
  exact Finset.sum_congr rfl fun t _ => by rw [mul_comm (f t), mul_assoc]

/-- An extended real that is finite. -/
def IsReal (x : EReal) : Prop := ∃ r : ℝ, x = (r : EReal)

theorem IsReal.sum_mul {n : ℕ} {f g : Fin n → EReal} (hf : ∀ t, IsReal (f t)) (hg : ∀ t, IsReal (g t)) : IsReal (∑ t, f t * g t) := by
  choose a ha using hf
  choose b hb using hg
  exact ⟨∑ t, a t * b t, by rw [coe_sum]; exact Finset.sum_congr rfl fun t _ => by rw [ha, hb, EReal.coe_mul]⟩

theorem IsReal.add {x y : EReal} : IsReal x → IsReal y → IsReal (x + y) := fun ⟨a, ha⟩ ⟨b, hb⟩ => ⟨a + b, by rw [ha, hb, EReal.coe_add]⟩
theorem IsReal.mul {x y : EReal} : IsReal x → IsReal y → IsReal (x * y) := fun ⟨a, ha⟩ ⟨b, hb⟩ => ⟨a * b, by rw [ha, hb, EReal.coe_mul]⟩

/-- What the precondition says of an input, at an element. -/
theorem IsReal.of_lt {x : EReal} (h : max x (-x) < ⊤) : IsReal x := by
  induction x with
  | bot => simp at h
  | top => simp at h
  | coe r => exact ⟨r, rfl⟩

/-- The greatest of finitely many finite numbers, at least one, is finite. -/
theorem IsReal.fold_max {n : ℕ} {f : Fin (n + 1) → EReal} (hf : ∀ t, IsReal (f t)) : IsReal ((Finset.univ : Finset (Fin (n + 1))).fold max ⊥ f) := by
  choose a ha using hf
  have h1 : (Finset.univ : Finset (Fin (n + 1))).fold max ⊥ f < ⊤ := by
    rw [Finset.fold_max_lt]
    exact ⟨bot_lt_top, fun t _ => by rw [ha]; exact EReal.coe_lt_top _⟩
  have h2 : ⊥ < (Finset.univ : Finset (Fin (n + 1))).fold max ⊥ f := by
    rw [Finset.lt_fold_max]
    exact Or.inr ⟨0, Finset.mem_univ _, by rw [ha]; exact EReal.bot_lt_coe _⟩
  exact ⟨EReal.toReal _, (EReal.coe_toReal h1.ne h2.ne').symm⟩

/-- The constant of the reference's scale, -/
theorem ofBits_192 : Ideal.ofBits .f32 0x43400000#32 = ((192 : ℝ) : EReal) := by
  simp [Ideal.ofBits, Ideal.ieee, -EReal.coe_mul]; norm_num

/-- the maximum's start, -/
theorem ofBits_bot : Ideal.ofBits .f32 0xFF800000#32 = ⊥ := by
  simp [Ideal.ofBits, Ideal.ieee]

/-- and its scale. -/
theorem scale_eq : Ideal.div 1 (Ideal.sqrt (Ideal.ofBits .f32 0x43400000#32)) = (((Real.sqrt 192)⁻¹ : ℝ) : EReal) := by
  have h : Real.sqrt 192 ≠ 0 := (Real.sqrt_pos.mpr (by norm_num)).ne'
  rw [ofBits_192, Ideal.sqrt_coe, if_neg (by norm_num), Ideal.div_coe h, one_mul, one_div]

end Cert.AttnMath

end

end
-- ==== Proof.AttnValue.lean ====
/-
# The attention: the value
-/
module

public import proofs.«01_k».proof.Proof.Gen.AttentionIdeal.Value
public import Idealize.ShloMosaic.Lib.Pipeline.ValueKit.Point
public import Idealize.ShloMosaic.Lib.MatmulPlain
public import Idealize.ShloMosaic.Lib.Pointwise

@[expose] public section

noncomputable section

namespace Cert.AttnProof

open Cert.AttentionIdeal Cert.AttentionIdeal.Gen
open Idealize.ShloMosaic Idealize.ShloMosaic.TcCoe Idealize.SL.Sem

/-- The constant by which the queries are scaled. -/
abbrev κs : EReal := Named.named (F := Ideal) κ "scale" (φ := .bf16) 0x3D94#16

/-- One head's scores: the scaled rows of the queries with the keys, and of the rotary queries with the rotary keys. -/
def score (q : Fin 128 → EReal) (qr : Fin 64 → EReal) (k : Fin 256 → Fin 128 → EReal) (kr : Fin 256 → Fin 64 → EReal) (t : Fin 256) : EReal :=
  ∑ d, q d * κs * k t d + ∑ e, qr e * κs * kr t e

/-- One head's output at a row and a column. -/
def head (σ : Fin 256 → EReal) (v : Fin 256 → EReal) : EReal :=
  (∑ t, Ideal.exp (σ t) * v t) * Ideal.div 1 (∑ t, Ideal.exp (σ t))

/-- What every head's store holds. -/
def headOut (x4 : Vec Ideal S256x64 .bf16) (q k v : Vec Ideal S256x128 .bf16) (qr : Vec Ideal S256x64 .bf16) : FVec Ideal S256x128 .bf16 :=
  k0_pay3 x4 q k qr v

theorem headOut_apply (x4 : Vec Ideal S256x64 .bf16) (q k v : Vec Ideal S256x128 .bf16) (qr : Vec Ideal S256x64 .bf16) (i : Fin 256) (d : Fin 128) :
    headOut x4 q k v qr (ix2 i d)
      = head (score (fun d => q (ix2 i d)) (fun e => qr (ix2 i e)) (fun t d => k (ix2 t d)) (fun t e => x4 (ix2 t e))) (fun t => v (ix2 t d)) := by
  unfold headOut k0_pay3
  pointwise [k0_pay2, head, score]

/-- The whole attention, head by head: row `j 0` of batch `j 0 / 256`, column `j 1` of head `j 1 / 128`. -/
def attn (q k v : FVec Ideal S512x4096 .bf16) (qr : FVec Ideal S512x2048 .bf16) (kr : FVec Ideal S512x64 .bf16) : FVec Ideal S512x4096 .bf16 := fun j =>
  have h0 : (j 0).val < 512 := (j 0).isLt
  have h1 : (j 1).val < 4096 := (j 1).isLt
  head (score
      (fun d => q (ix2 ⟨(j 0).val, h0⟩ ⟨(j 1).val / 128 * 128 + d.val, by omega⟩))
      (fun e => qr (ix2 ⟨(j 0).val, h0⟩ ⟨(j 1).val / 128 * 64 + e.val, by omega⟩))
      (fun t d => k (ix2 ⟨(j 0).val / 256 * 256 + t.val, by omega⟩ ⟨(j 1).val / 128 * 128 + d.val, by omega⟩))
      (fun t e => kr (ix2 ⟨(j 0).val / 256 * 256 + t.val, by omega⟩ e)))
    (fun t => v (ix2 ⟨(j 0).val / 256 * 256 + t.val, by omega⟩ ⟨(j 1).val, h1⟩))

/-- Point `t` is batch `t / 4` and the `t % 4`-th eight of the heads. -/
theorem win_q : ∀ t : Fin cfg0.N, win0_0.index t = ![t.val / 4, t.val % 4] := (by decide +kernel : ∀ t : Fin grid0.N, _)
theorem win_k : ∀ t : Fin cfg0.N, win0_1.index t = ![t.val / 4, t.val % 4] := (by decide +kernel : ∀ t : Fin grid0.N, _)
theorem win_v : ∀ t : Fin cfg0.N, win0_2.index t = ![t.val / 4, t.val % 4] := (by decide +kernel : ∀ t : Fin grid0.N, _)
theorem win_qr : ∀ t : Fin cfg0.N, win0_3.index t = ![t.val / 4, t.val % 4] := (by decide +kernel : ∀ t : Fin grid0.N, _)
theorem win_kr : ∀ t : Fin cfg0.N, win0_4.index t = ![t.val / 4, 0] := (by decide +kernel : ∀ t : Fin grid0.N, _)
theorem win_o : ∀ t : Fin cfg0.N, win0_5.index t = ![t.val / 4, t.val % 4] := (by decide +kernel : ∀ t : Fin grid0.N, _)

theorem final (m : (ℓ : Loc nD τ sig) → Buf (Elt Ideal) ℓ) (c : Dev nD) :
    (dats m 0 c).arrAt 5 cfg0.N = attn (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  canon_tiles x h using cover0_5 ..
  all_goals
    open_payloads
    pointwise [attn, head, score]
    blk_point [iblk, V, win_q t, win_k t, win_v t, win_qr t, win_kr t, win_o t]

end Cert.AttnProof

end

end
-- ==== Proof.AttnRef.lean ====
/-
# The attention: the reference
-/
module

public import proofs.«01_k».proof.Proof.Gen.AttentionReferenceIdeal.Run
public import Idealize.ShloMosaic.Lib.Pipeline.ValueKit.Point
public import Idealize.ShloMosaic.Lib.MatmulPlain
public import Idealize.ShloMosaic.Lib.Pointwise
public import proofs.«01_k».proof.Proof.AttnMath
public import proofs.«01_k».proof.Proof.AttnValue

@[expose] public section

noncomputable section

namespace Cert.AttnRef

open Cert.AttentionReferenceIdeal Cert.AttentionReferenceIdeal.Gen
open Idealize.ShloMosaic Idealize.ShloMosaic.TcCoe Idealize.SL.Sem

/-- The reference's scores. -/
def scores (q k : FVec Ideal S512x4096 .bf16) (qr : FVec Ideal S512x2048 .bf16) (kr : FVec Ideal S512x64 .bf16) : FVec Ideal S2x32x256x256 .f32 :=
  mulf (addf (Host.dotGeneral dot_S2x256x32x128_S2x256x32x128_S2x32x256x256_3_3_1_1_02_02 none (shapeCast _ (extf .f32 q bitsLt_bf16_f32) shapeCasts_S512x4096_S2x256x32x128) (shapeCast _ (extf .f32 k bitsLt_bf16_f32) shapeCasts_S512x4096_S2x256x32x128)) (Host.dotGeneral dot_S2x256x32x64_S2x256x32x64_S2x32x256x256_3_3_1_1_02_02 none (shapeCast _ (extf .f32 qr bitsLt_bf16_f32) shapeCasts_S512x2048_S2x256x32x64) (broadcastInDim S2x256x32x64 ![0, 1, 2, 3] bcast_S2x256x1x64_S2x256x32x64_0_1_2_3 (shapeCast _ (extf .f32 kr bitsLt_bf16_f32) shapeCasts_S512x64_S2x256x1x64)))) (broadcastInDim S2x32x256x256 ![] bcast_S_S2x32x256x256 (Host.divf (constant S_ .f32 0x3F800000#32) (Host.sqrt (constant S_ .f32 0x43400000#32))))

def maxes (s : FVec Ideal S2x32x256x256 .f32) : FVec Ideal S2x32x256 .f32 :=
  Host.reduce FloatOps.maximumf s (constant S_ .f32 0xFF800000#32) reducesTo_S2x32x256x256_S2x32x256_d3 h_S_

def exps (s : FVec Ideal S2x32x256x256 .f32) : FVec Ideal S2x32x256x256 .f32 :=
  Host.exp (subf s (broadcastInDim S2x32x256x256 ![0, 1, 2, 3] bcast_S2x32x256x1_S2x32x256x256_0_1_2_3 (broadcastInDim S2x32x256x1 ![0, 1, 2] bcast_S2x32x256_S2x32x256x1_0_1_2 (maxes s))))

def probs (e : FVec Ideal S2x32x256x256 .f32) : FVec Ideal S2x32x256x256 .f32 :=
  Host.divf e (broadcastInDim S2x32x256x256 ![0, 1, 2, 3] bcast_S2x32x256x1_S2x32x256x256_0_1_2_3 (broadcastInDim S2x32x256x1 ![0, 1, 2] bcast_S2x32x256_S2x32x256x1_0_1_2 (Host.reduceAdd e (constant S_ .f32 0x00000000#32) reducesTo_S2x32x256x256_S2x32x256_d3 h_S_)))

def outs (v : FVec Ideal S512x4096 .bf16) (p : FVec Ideal S2x32x256x256 .f32) : FVec Ideal S512x4096 .bf16 :=
  truncf .bf16 (shapeCast _ (transpose S2x256x32x128 [0, 3, 1, 2] (Host.dotGeneral dot_S2x256x32x128_S2x32x256x256_S2x32x128x256_1_3_3_2_02_01 none (shapeCast _ (extf .f32 v bitsLt_bf16_f32) shapeCasts_S512x4096_S2x256x32x128) p) transposes_S2x32x128x256_S2x256x32x128_0_3_1_2) shapeCasts_S2x256x32x128_S512x4096) bitsLt_bf16_f32

theorem res_eq (m : (ℓ : Loc nD τ sig) → Buf (Elt Ideal) ℓ) (c : Dev nD) :
    Cert.AttentionReferenceIdeal.Value.res_main_v30 m c
      = outs (m ((c.tc : Thread nD τ).loc main_arg2)) (probs (exps (scores (m ((c.tc : Thread nD τ).loc main_arg0)) (m ((c.tc : Thread nD τ).loc main_arg1)) (m ((c.tc : Thread nD τ).loc main_arg3)) (m ((c.tc : Thread nD τ).loc main_arg4))))) := rfl

theorem maxes_apply (x : FVec Ideal S2x32x256x256 .f32) (b : Fin 2) (h : Fin 32) (s : Fin 256) :
    maxes x (ix3 b h s) = (Finset.univ : Finset (Fin 256)).fold max (Ideal.ofBits .f32 0xFF800000#32) fun t => x (ix4 b h s t) := by
  pointwise [maxes]

theorem scores_apply (q k : FVec Ideal S512x4096 .bf16) (qr : FVec Ideal S512x2048 .bf16) (kr : FVec Ideal S512x64 .bf16)
    (b : Fin 2) (h : Fin 32) (s t : Fin 256) :
    scores q k qr kr (ix4 b h s t)
      = (∑ x : Fin 128, q (ix2 (⟨b.val * 256 + s.val, by omega⟩ : Fin 512) (⟨h.val * 128 + x.val, by omega⟩ : Fin 4096)) * k (ix2 (⟨b.val * 256 + t.val, by omega⟩ : Fin 512) (⟨h.val * 128 + x.val, by omega⟩ : Fin 4096))
        + ∑ x : Fin 64, qr (ix2 (⟨b.val * 256 + s.val, by omega⟩ : Fin 512) (⟨h.val * 64 + x.val, by omega⟩ : Fin 2048)) * kr (ix2 (⟨b.val * 256 + t.val, by omega⟩ : Fin 512) x))
      * Ideal.div 1 (Ideal.sqrt (Ideal.ofBits .f32 0x43400000#32)) := by
  pointwise [scores]

theorem exps_apply (x : FVec Ideal S2x32x256x256 .f32) (b : Fin 2) (h : Fin 32) (s t : Fin 256) :
    exps x (ix4 b h s t) = Ideal.exp (x (ix4 b h s t) - maxes x (ix3 b h s)) := by
  pointwise [exps]

theorem probs_apply (x : FVec Ideal S2x32x256x256 .f32) (b : Fin 2) (h : Fin 32) (s t : Fin 256) :
    probs x (ix4 b h s t) = Ideal.div (x (ix4 b h s t)) (∑ u : Fin 256, x (ix4 b h s u)) := by
  pointwise [probs]

theorem outs_apply (v : FVec Ideal S512x4096 .bf16) (x : FVec Ideal S2x32x256x256 .f32) (r : Fin 512) (c : Fin 4096) :
    outs v x (ix2 r c) = ∑ t : Fin 256, v (ix2 (⟨r.val / 256 * 256 + t.val, by omega⟩ : Fin 512) c)
      * x (ix4 (⟨r.val / 256, by omega⟩ : Fin 2) (⟨c.val / 128, by omega⟩ : Fin 32) (⟨r.val % 256, by omega⟩ : Fin 256) t) := by
  pointwise [outs]

theorem scale_named : Cert.AttnProof.κs = (((Real.sqrt 192)⁻¹ : ℝ) : EReal) :=
  IdealRules.named_const.ideal_named_scalar _ _ _ _ rfl

/-- The reference's scores are the kernel's: the scale is moved out of the sums. -/
theorem scores_eq (q k : FVec Ideal S512x4096 .bf16) (qr : FVec Ideal S512x2048 .bf16) (kr : FVec Ideal S512x64 .bf16) (r : Fin 512) (c : Fin 4096) (t : Fin 256) :
    scores q k qr kr (ix4 (⟨r.val / 256, by omega⟩ : Fin 2) (⟨c.val / 128, by omega⟩ : Fin 32) (⟨r.val % 256, by omega⟩ : Fin 256) t)
      = Cert.AttnProof.score
        (fun d => q (ix2 r ⟨c.val / 128 * 128 + d.val, by omega⟩))
        (fun e => qr (ix2 r ⟨c.val / 128 * 64 + e.val, by omega⟩))
        (fun t d => k (ix2 ⟨r.val / 256 * 256 + t.val, by omega⟩ ⟨c.val / 128 * 128 + d.val, by omega⟩))
        (fun t e => kr (ix2 ⟨r.val / 256 * 256 + t.val, by omega⟩ e)) t := by
  have hs : (0 : ℝ) ≤ (Real.sqrt 192)⁻¹ := by positivity
  have hr : (⟨r.val / 256 * 256 + r.val % 256, by omega⟩ : Fin 512) = r := Fin.ext (by show r.val / 256 * 256 + r.val % 256 = r.val; omega)
  rw [scores_apply, Cert.AttnMath.scale_eq]
  simp only [hr]
  unfold Cert.AttnProof.score
  simp only [scale_named]
  rw [Cert.AttnMath.scale_sum hs, Cert.AttnMath.scale_sum hs,
    EReal.right_distrib_of_nonneg_of_ne_top (by exact_mod_cast hs) (EReal.coe_ne_top _)]

/-- Where the inputs of the scores are finite, the reference's result is the kernel's. -/
theorem outs_eq (q k v : FVec Ideal S512x4096 .bf16) (qr : FVec Ideal S512x2048 .bf16) (kr : FVec Ideal S512x64 .bf16)
    (hq : ∀ i, Cert.AttnMath.IsReal (q i)) (hk : ∀ i, Cert.AttnMath.IsReal (k i)) (hqr : ∀ i, Cert.AttnMath.IsReal (qr i)) (hkr : ∀ i, Cert.AttnMath.IsReal (kr i)) :
    outs v (probs (exps (scores q k qr kr))) = Cert.AttnProof.attn q k v qr kr := by
  funext j
  obtain ⟨r, c, rfl⟩ : ∃ (r : Fin 512) (c : Fin 4096), j = ix2 r c := ⟨j 0, j 1, by funext a; match a with | ⟨0, _⟩ => rfl | ⟨1, _⟩ => rfl⟩
  have hκ : Cert.AttnMath.IsReal Cert.AttnProof.κs := ⟨_, scale_named⟩
  rw [outs_apply]
  simp only [probs_apply, exps_apply]
  have hσ : ∀ t, Cert.AttnMath.IsReal (scores q k qr kr (ix4 (⟨r.val / 256, by omega⟩ : Fin 2) (⟨c.val / 128, by omega⟩ : Fin 32) (⟨r.val % 256, by omega⟩ : Fin 256) t)) := fun t => by
    rw [scores_eq]
    exact (Cert.AttnMath.IsReal.sum_mul (fun d => (hq _).mul hκ) (fun d => hk _)).add (Cert.AttnMath.IsReal.sum_mul (fun d => (hqr _).mul hκ) (fun d => hkr _))
  obtain ⟨M, hM⟩ : Cert.AttnMath.IsReal (maxes (scores q k qr kr) (ix3 (⟨r.val / 256, by omega⟩ : Fin 2) (⟨c.val / 128, by omega⟩ : Fin 32) (⟨r.val % 256, by omega⟩ : Fin 256))) := by
    rw [maxes_apply, Cert.AttnMath.ofBits_bot]
    exact Cert.AttnMath.IsReal.fold_max hσ
  choose a ha using hσ
  simp only [hM, ha]
  refine (Cert.AttnMath.softmax a M _).symm.trans ?_
  show _ = Cert.AttnProof.head _ _
  unfold Cert.AttnProof.head
  have e : ∀ t, (a t : EReal) = Cert.AttnProof.score _ _ _ _ t := fun t => (ha t).symm.trans (scores_eq q k qr kr r c t)
  simp only [e]
  rfl

/-- The reference's result at the end of its run. -/
theorem res_attn (m : (ℓ : Loc nD τ sig) → Buf (Elt Ideal) ℓ) (c : Dev nD)
    (hq : ∀ i, Cert.AttnMath.IsReal (m ((c.tc : Thread nD τ).loc main_arg0) i)) (hk : ∀ i, Cert.AttnMath.IsReal (m ((c.tc : Thread nD τ).loc main_arg1) i))
    (hqr : ∀ i, Cert.AttnMath.IsReal (m ((c.tc : Thread nD τ).loc main_arg3) i)) (hkr : ∀ i, Cert.AttnMath.IsReal (m ((c.tc : Thread nD τ).loc main_arg4) i)) :
    Cert.AttentionReferenceIdeal.Value.res_main_v30 m c
      = Cert.AttnProof.attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (res_eq m c).trans (outs_eq _ _ _ _ _ hq hk hqr hkr)

end Cert.AttnRef

end

end
-- ==== Proof.AttnPre.lean ====
/-
# The attention: what the precondition says
-/
module

public import proofs.«01_k».proof.Defs
public import proofs.«01_k».proof.Proof.AttnMath
public import Idealize.ShloMosaic.Lib.Pointwise

@[expose] public section

noncomputable section

namespace Cert.AttnPre

open Idealize.ShloMosaic Idealize.ShloMosaic.TcCoe Idealize.SL.Sem

theorem facts : Cert.Pre_finite.Facts := ⟨by decide, by decide, by decide, by decide⟩

/-- A comparison that holds is a proof of the inequality. -/
theorem lt_of_cmp {x y : EReal} (h : Ideal.cmp .olt x y = 1#1) : x < y := by
  by_contra hn
  rw [Ideal.cmp, decide_eq_false hn] at h
  exact absurd h (by decide)

theorem ofBits_top : Ideal.ofBits .f32 0x7F800000#32 = ⊤ := by
  simp [Ideal.ofBits, Ideal.ieee]

/-- An array whose magnitudes are all below infinity is an array of reals. -/
theorem real_of {x : EReal} (h : Ideal.cmp .olt (max x (-x)) (Ideal.ofBits .f32 0x7F800000#32) = 1#1) : Cert.AttnMath.IsReal x := by
  rw [ofBits_top] at h
  exact .of_lt (lt_of_cmp h)

/-- The inputs of the scores are reals. -/
theorem reals (q k v : FVec Ideal Cert.Pre_finite.S512x4096 .bf16) (qr : FVec Ideal Cert.Pre_finite.S512x2048 .bf16) (kr : FVec Ideal Cert.Pre_finite.S512x64 .bf16)
    (h : letI := facts; (Cert.Pre_finite.fn q k v qr kr).1 = (fun _ => 1#1) ∧ (Cert.Pre_finite.fn q k v qr kr).2.1 = (fun _ => 1#1)
      ∧ (Cert.Pre_finite.fn q k v qr kr).2.2.1 = (fun _ => 1#1) ∧ (Cert.Pre_finite.fn q k v qr kr).2.2.2 = (fun _ => 1#1)) :
    (∀ i, Cert.AttnMath.IsReal (q i)) ∧ (∀ i, Cert.AttnMath.IsReal (k i)) ∧ (∀ i, Cert.AttnMath.IsReal (qr i)) ∧ (∀ i, Cert.AttnMath.IsReal (kr i)) :=
  ⟨fun i => real_of (congrFun h.1 i), fun i => real_of (congrFun h.2.1 i), fun i => real_of (congrFun h.2.2.1 i), fun i => real_of (congrFun h.2.2.2 i)⟩

end Cert.AttnPre

end

end
-- ==== Proof.OutCells.lean ====
/-
# The output projection on the 2×2 mesh: who waits for whom

A device `c = (x, y)` of the mesh (`c = 2·x + y`) has two partners, `xn c = (1 − x, y)` and `yn c = (x, 1 − y)`.
It multiplies its rows of `o` with `Wo` eight column chunks at a time. Four of the chunks (`4·y + s`, `s < 4`) it sends to
`xn c` from the slots of `sbuf` into the slots of `rbufx`; each slot received it keeps AND passes on to `yn c`'s `rbufy`.
So in the end a device has its own eight chunks, four of `xn c` from `xn c` itself and the other four of `xn c` by way of
`yn c`.

This module names the buffers, the semaphore cells and what each landing hands over, and states the schedule of the rounds.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.OutProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the protocol's (duties `Bool`), the counters of the local transfers -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's part of the algebra. -/
def ER : Emb UB (MT nD τ sig Unit (Elt F) ℕ UU ℕ) := (Emb.inl : Emb UB (UB × Counters)).trans embR

/-! ## The mesh -/

/-- A device's place along `x`, and along `y`. -/
def xc (c : Dev nD) : Fin 2 := ⟨c.val / 2, by have h : c.val < 4 := c.isLt; omega⟩
def yc (c : Dev nD) : Fin 2 := ⟨c.val % 2, by omega⟩
/-- The partner along `x`, and along `y`. -/
def xn (c : Dev nD) : Dev nD := ⟨(c.val + 2) % 4, Nat.mod_lt _ (by decide)⟩
def yn (c : Dev nD) : Dev nD := ⟨2 * (c.val / 2) + (1 - c.val % 2), by have h : c.val < 4 := c.isLt; show _ < 4; omega⟩

theorem xn_xn (c : Dev nD) : xn (xn c) = c := by revert c; decide
theorem yn_yn (c : Dev nD) : yn (yn c) = c := by revert c; decide
theorem xn_yn (c : Dev nD) : xn (yn c) = yn (xn c) := by revert c; decide
theorem xn_ne_yn (c : Dev nD) : xn c ≠ yn c := by revert c; decide

def xEquiv : Dev nD ≃ Dev nD := ⟨xn, xn, xn_xn, xn_xn⟩
def yEquiv : Dev nD ≃ Dev nD := ⟨yn, yn, yn_yn, yn_yn⟩

/-! ## Buffers and slots -/

abbrev oM : Memref sig .tc .vmem S512x4096 .bf16 := Memref.whole cc0_stg0_0
abbrev wM : Memref sig .tc .hbm S4096x4096 .f32 := Memref.whole main_arg1
abbrev outM : Memref sig .tc .vmem S4x256x4096 .bf16 := Memref.whole cc0_stg1_0
abbrev wbM : Memref sig .tc .vmem S2x4096x512 .f32 := Memref.whole cc0_scratch0
abbrev sbM : Memref sig .tc .vmem S4x512x512 .bf16 := Memref.whole cc0_scratch1
abbrev rxM : Memref sig .tc .vmem S4x512x512 .bf16 := Memref.whole cc0_scratch2
abbrev ryM : Memref sig .tc .vmem S4x512x512 .bf16 := Memref.whole cc0_scratch3

theorem slot_inb : ∀ (s : Fin 4) (a : Fin 3), (![s.val, 0, 0] : Fin 3 → ℕ) a + S1x512x512.size a ≤ S4x512x512.size a := by decide

/-- Slot `s` of one of the three buffers of four chunks, as the program names it. -/
abbrev slotM (M : Memref sig .tc .vmem S4x512x512 .bf16) (s : Fin 4) : Memref sig .tc .vmem S512x512 .bf16 :=
  (M.slice (Rect.unit (s := S4x512x512) ![s.val, 0, 0] S1x512x512.size (slot_inb s)) (fun _ => rfl)).squeeze S512x512 squeezes_S1x512x512_S512x512

/-- The indices of slot `s`. -/
def slotSet (s : Fin 4) : Finset S4x512x512.Idx := (Rect.unit (s := S4x512x512) ![s.val, 0, 0] S1x512x512.size (slot_inb s)).set

theorem mem_slotSet (s : Fin 4) (i : S4x512x512.Idx) : i ∈ slotSet s ↔ (i 0).val = s.val := by
  unfold slotSet
  rw [Rect.mem_set_unit]
  constructor
  · intro h
    have h0 := h 0
    have e1 : (![s.val, 0, 0] : Fin 3 → ℕ) 0 = s.val := rfl
    have e2 : S1x512x512.size 0 = 1 := rfl
    rw [e1, e2] at h0; omega
  · intro h a
    match a with
    | ⟨0, _⟩ => exact ⟨le_of_eq h.symm, by show (i 0).val < s.val + 1; omega⟩
    | ⟨1, _⟩ => exact ⟨Nat.zero_le _, by show (i 1).val < 0 + 512; have : (i 1).val < 512 := (i 1).isLt; omega⟩
    | ⟨2, _⟩ => exact ⟨Nat.zero_le _, by show (i 2).val < 0 + 512; have : (i 2).val < 512 := (i 2).isLt; omega⟩

theorem slot_set_sb (s : Fin 4) : (slotM sbM s).view.set = slotSet s := (View.set_reshape _ _).trans (View.set_slice_whole cc0_scratch1 _)
theorem slot_set_rx (s : Fin 4) : (slotM rxM s).view.set = slotSet s := (View.set_reshape _ _).trans (View.set_slice_whole cc0_scratch2 _)
theorem slot_set_ry (s : Fin 4) : (slotM ryM s).view.set = slotSet s := (View.set_reshape _ _).trans (View.set_slice_whole cc0_scratch3 _)

theorem slots_disjoint {s t : Fin 4} (h : s ≠ t) : Disjoint (slotSet s) (slotSet t) := by
  rw [Finset.disjoint_left]; intro i hi hj
  rw [mem_slotSet] at hi hj
  exact h (Fin.ext (hi.symm.trans hj))

theorem slots_cover : (Finset.univ : Finset S4x512x512.Idx) = slotSet 0 ∪ (slotSet 1 ∪ (slotSet 2 ∪ slotSet 3)) := by
  symm; rw [Finset.eq_univ_iff_forall]
  intro i
  simp only [Finset.mem_union, mem_slotSet]
  have h : (i 0).val < 4 := (i 0).isLt
  show _ = 0 ∨ _ = 1 ∨ _ = 2 ∨ _ = 3
  omega

/-- A chunk's credit. -/
abbrev N : ℕ := (slotM rxM 0).view.dmaCredit
theorem N_pos : 0 < N := View.dmaCredit_pos _ (by decide)

/-! ## The cells -/

/-- The barrier semaphore of the call (unscoped). -/
abbrev barS : Sem sig := (SemArray.scalar (sig.barrier 1 rfl) : Sems sig S_).sem

/-- The semaphores of the transfers along `x` and along `y`, at the sender and at the receiver. -/
def sxS (s : Fin 4) : DmaSem sig := ⟨4 + s.val, by show _ < 20; omega⟩
def sxR (s : Fin 4) : DmaSem sig := ⟨8 + s.val, by show _ < 20; omega⟩
def syS (s : Fin 4) : DmaSem sig := ⟨12 + s.val, by show _ < 20; omega⟩
def syR (s : Fin 4) : DmaSem sig := ⟨16 + s.val, by show _ < 20; omega⟩

abbrev barCell (c : Dev nD) : GSem nD τ sig := ((c : Thread nD τ), .reg barS)
abbrev dCell (c : Dev nD) (q : DmaSem sig) : GSem nD τ sig := ((c : Thread nD τ), .dma q)

/-- The seventeen cells of the protocol on one device: the barrier, and the sixteen of the transfers. -/
def csem : Fin 17 → SemLoc sig := fun k => if h : k.val = 0 then .reg barS else .dma ⟨k.val + 3, by show _ < 20; omega⟩
abbrev kcell (ck : Dev nD × Fin 17) : GSem nD τ sig := ((ck.1 : Thread nD τ), csem ck.2)

/-! ## Contents -/

variable (oS : Dev nD → (cc0_stg0_0 : Ref sig .tc).ty.Contents (Elt F)) (wS : Dev nD → (main_arg1 : Ref sig .tc).ty.Contents (Elt F))

/-- Column chunk `j` of `Wo`, as it lies in one slot of the staging buffer. -/
def wChunk (w : S4096x4096.Idx → Elt F .f32) (j : Fin 8) : Vec F S1x4096x512 .f32 :=
  fun i => w (fun a => match a with
    | ⟨0, _⟩ => ⟨(i 1).val, (i 1).isLt⟩
    | ⟨1, _⟩ => ⟨512 * j.val + (i 2).val, by have h : (i 2).val < 512 := (i 2).isLt; have := j.isLt; show _ < 4096; omega⟩)

/-- Device `c`'s chunk `j` of the product. -/
def prodC (c : Dev nD) (j : Fin 8) : FVec F S512x512 .bf16 := k0_pay1 (F := F) (oS c) (wChunk (wS c) j)

def sIdx (i : S4x512x512.Idx) : Fin 4 := ⟨(i 0).val, (i 0).isLt⟩
def sRest (i : S4x512x512.Idx) : S512x512.Idx := fun a => match a with
  | ⟨0, _⟩ => ⟨(i 1).val, (i 1).isLt⟩
  | ⟨1, _⟩ => ⟨(i 2).val, (i 2).isLt⟩

def chunkOf (y : Fin 2) (s : Fin 4) : Fin 8 := ⟨4 * y.val + s.val, by omega⟩

/-- What device `c` sends along `x`: slot `s` holds its chunk `4·y + s`. -/
def SB (c : Dev nD) : S4x512x512.Idx → Elt F .bf16 := fun i => prodC oS wS c (chunkOf (yc c) (sIdx i)) (sRest i)
/-- What it receives along `x`, and along `y`. -/
def RX (c : Dev nD) : S4x512x512.Idx → Elt F .bf16 := SB oS wS (xn c)
def RY (c : Dev nD) : S4x512x512.Idx → Elt F .bf16 := RX oS wS (yn c)

def sbPts (c : Dev nD) (s : Fin 4) (q : PosShare (TreeShare)) (f : S4x512x512.Idx → Elt F .bf16) : sProp 𝕄 :=
  (slotM sbM s).view.loc (c : Thread nD τ) ↦[(slotM sbM s).view.set]{q} (f : Buf (Elt F) ((c : Thread nD τ).loc cc0_scratch1))
def rxPts (c : Dev nD) (s : Fin 4) (q : PosShare (TreeShare)) (f : S4x512x512.Idx → Elt F .bf16) : sProp 𝕄 :=
  (slotM rxM s).view.loc (c : Thread nD τ) ↦[(slotM rxM s).view.set]{q} (f : Buf (Elt F) ((c : Thread nD τ).loc cc0_scratch2))
def ryPts (c : Dev nD) (s : Fin 4) (q : PosShare (TreeShare)) (f : S4x512x512.Idx → Elt F .bf16) : sProp 𝕄 :=
  (slotM ryM s).view.loc (c : Thread nD τ) ↦[(slotM ryM s).view.set]{q} (f : Buf (Elt F) ((c : Thread nD τ).loc cc0_scratch3))

def rxAll (c : Dev nD) : sProp 𝕄 := iprop(∃ f : Buf (Elt F) ((c : Thread nD τ).loc cc0_scratch2), ((c : Thread nD τ).loc cc0_scratch2) ↦{fullShare} f)
def ryAll (c : Dev nD) : sProp 𝕄 := iprop(∃ f : Buf (Elt F) ((c : Thread nD τ).loc cc0_scratch3), ((c : Thread nD τ).loc cc0_scratch3) ↦{fullShare} f)

/-- What a transfer's cell hands over when it is waited for. -/
def xferPay (c : Dev nD) (q : DmaSem sig) : sProp 𝕄 :=
  if h : q.val < 4 then iprop(emp)
  else if h : q.val < 8 then sbPts c ⟨q.val - 4, by omega⟩ fullShare (SB oS wS c)
  else if h : q.val < 12 then rxPts c ⟨q.val - 8, by omega⟩ fullShare (RX oS wS c)
  else if h : q.val < 16 then rxPts c ⟨q.val - 12, by omega⟩ (fullShare : PosShare TreeShare).left (RX oS wS c)
  else ryPts c ⟨q.val - 16, by have h : q.val < 20 := q.isLt; omega⟩ fullShare (RY oS wS c)

def barPay (c : Dev nD) (d : Bool) : sProp 𝕄 := if d then rxAll (F := F) (xn c) else ryAll (F := F) (yn c)

instance rxAll_storable (c : Dev nD) : BI.Storable (upEmb : UEmb _ 𝕄) (rxAll (F := F) c) := by unfold rxAll; infer_instance
instance ryAll_storable (c : Dev nD) : BI.Storable (upEmb : UEmb _ 𝕄) (ryAll (F := F) c) := by unfold ryAll; infer_instance
instance barPay_storable (c : Dev nD) (d) : BI.Storable (upEmb : UEmb _ 𝕄) (barPay (F := F) c d) := by
  unfold barPay; split <;> infer_instance
instance xferPay_storable (c : Dev nD) (q) : BI.Storable (upEmb : UEmb _ 𝕄) (xferPay oS wS c q) := by
  unfold xferPay sbPts rxPts ryPts; (repeat' split) <;> infer_instance

/-! ## The schedule: one round -/

/-- The cells with duties: the barrier and the transfers' of each TensorCore. -/
def dutiesOf : SemLoc sig → Finset Bool
  | .reg b => if b = barS then Finset.univ else ∅
  | .dma q => if 4 ≤ q.val then {false} else ∅

def outRd : Rounds.Schedule (GSem nD τ sig) Bool 𝕄 where
  duties g r := if r = 0 ∧ g.1.2 = .tc then dutiesOf g.2 else ∅
  unitless _ := False
  amount g _ _ := match g.2 with | .reg _ => 1 | .dma _ => N
  payload g _ d := match g.2 with | .reg _ => barPay g.1.1 d | .dma q => xferPay oS wS g.1.1 q
  amount_pos g _ _ _ := by
    cases g.2 with
    | reg b => exact Nat.one_pos
    | dma q => exact N_pos

instance outRd_payload_storable (g : GSem nD τ sig) (r : ℕ) (d : Bool) :
    BI.Storable (upEmb : UEmb _ 𝕄) ((outRd oS wS).payload g r d) := by
  obtain ⟨t, s⟩ := g
  cases s with
  | reg b => show BI.Storable upEmb (barPay t.1 d); infer_instance
  | dma q => show BI.Storable upEmb (xferPay oS wS t.1 q); infer_instance

section Sched
variable (c : Dev nD)

theorem duties_bar : (outRd oS wS).duties (barCell c) 0 = Finset.univ :=
  by dsimp only [outRd, dutiesOf]; rw [if_pos ⟨rfl, rfl⟩, if_pos rfl]
theorem duties_dma (q : DmaSem sig) (h : 4 ≤ q.val) : (outRd oS wS).duties (dCell c q) 0 = {false} :=
  by dsimp only [outRd, dutiesOf]; rw [if_pos ⟨rfl, rfl⟩, if_pos h]
theorem duties_later (g : GSem nD τ sig) : ∀ r, 1 ≤ r → (outRd oS wS).duties g r = ∅ :=
  fun r hr => if_neg fun h => by omega

theorem amount_bar (d : Bool) : (outRd oS wS).amount (barCell c) 0 d = 1 := rfl
theorem amount_dma (q : DmaSem sig) (d : Bool) : (outRd oS wS).amount (dCell c q) 0 d = N := rfl

theorem expect_bar : (outRd oS wS).expect (barCell c) 0 = 2 := by
  unfold Schedule.expect Schedule.amountOf
  rw [duties_bar, Finset.sum_congr rfl fun d _ => amount_bar oS wS c d, Finset.sum_const, Finset.card_univ, Fintype.card_bool, smul_eq_mul]
theorem expect_dma (q : DmaSem sig) (h : 4 ≤ q.val) : (outRd oS wS).expect (dCell c q) 0 = N := by
  unfold Schedule.expect Schedule.amountOf; rw [duties_dma oS wS c q h, Finset.sum_singleton, amount_dma]

theorem payload_bar (d : Bool) : (outRd oS wS).payload (barCell c) 0 d = barPay c d := rfl
theorem payload_dma (q : DmaSem sig) (d : Bool) : (outRd oS wS).payload (dCell c q) 0 d = xferPay oS wS c q := rfl

theorem pay_sxS (s : Fin 4) : xferPay oS wS c (sxS s) = sbPts c s fullShare (SB oS wS c) := by
  have e : (sxS s).val = 4 + s.val := rfl
  unfold xferPay
  rw [dif_neg (by omega), dif_pos (by omega)]
  congr 1; exact Fin.ext (by show (sxS s).val - 4 = _; omega)
theorem pay_sxR (s : Fin 4) : xferPay oS wS c (sxR s) = rxPts c s fullShare (RX oS wS c) := by
  have e : (sxR s).val = 8 + s.val := rfl
  unfold xferPay
  rw [dif_neg (by omega), dif_neg (by omega), dif_pos (by omega)]
  congr 1; exact Fin.ext (by show (sxR s).val - 8 = _; omega)
theorem pay_syS (s : Fin 4) : xferPay oS wS c (syS s) = rxPts c s (fullShare : PosShare TreeShare).left (RX oS wS c) := by
  have e : (syS s).val = 12 + s.val := rfl
  unfold xferPay
  rw [dif_neg (by omega), dif_neg (by omega), dif_neg (by omega), dif_pos (by omega)]
  congr 1; exact Fin.ext (by show (syS s).val - 12 = _; omega)
theorem pay_syR (s : Fin 4) : xferPay oS wS c (syR s) = ryPts c s fullShare (RY oS wS c) := by
  have e : (syR s).val = 16 + s.val := rfl
  unfold xferPay
  rw [dif_neg (by omega), dif_neg (by omega), dif_neg (by omega), dif_neg (by omega)]
  congr 1; exact Fin.ext (by show (syR s).val - 16 = _; omega)

/-- The rest of a round, no duty taken. -/
theorem rest_bar : bigSep ((outRd oS wS).duties (barCell c) 0 \ ∅) (fun d => (outRd oS wS).payload (barCell c) 0 d)
    = iprop(ryAll (F := F) (yn c) ∗ rxAll (F := F) (xn c)) := by
  rw [Finset.sdiff_empty, duties_bar, bigSep_univ_eq_bigSepL [false, true] (by decide) (by decide), bigSepL_cons_cons, bigSepL_singleton,
    payload_bar, payload_bar]
  rfl
theorem rest_dma (q : DmaSem sig) (h : 4 ≤ q.val) :
    bigSep ((outRd oS wS).duties (dCell c q) 0 \ ∅) (fun d => (outRd oS wS).payload (dCell c q) 0 d) = xferPay oS wS c q := by
  rw [Finset.sdiff_empty, duties_dma oS wS c q h, bigSep_singleton, payload_dma]

end Sched

/-! ## What each device owes, in the order it pays; the levels -/

/-- In order of payment (the same on every device): who gets it (`true`: the partner along `x`) and at which semaphore. -/
def owedS : List (Bool × SemLoc sig) :=
  [(true, .reg barS), (false, .reg barS), (true, .dma (sxR 0)), (true, .dma (sxR 1)), (false, .dma (syR 0)), (true, .dma (sxR 2)),
    (false, .dma (syR 1)), (true, .dma (sxR 3)), (false, .dma (syR 2)), (false, .dma (syR 3))]

/-- One unit of a barrier, a chunk's credit of a transfer's cell. -/
def amt : SemLoc sig → ℕ | .reg _ => 1 | .dma _ => N
def peer (c : Dev nD) (b : Bool) : Dev nD := if b then xn c else yn c

def oweL (c : Dev nD) : List (Bool × SemLoc sig) → CellTallies nD τ sig Unit
  | [] => 0
  | e :: l => oweL c l + tallyAt ((peer c e.1 : Thread nD τ), e.2) () (amt e.2)

/-- What device `c` still owes after its first `n` payments. -/
def O (c : Dev nD) (n : ℕ) : CellTallies nD τ sig Unit := oweL c (owedS.drop n)

theorem oweL_pos {c : Dev nD} {l : List (Bool × SemLoc sig)} {g : GSem nD τ sig} {u : Unit} (h : 0 < oweL c l g u) :
    ∃ e ∈ l, g = ((peer c e.1 : Thread nD τ), e.2) := by
  induction l with
  | nil => exact absurd h (Nat.lt_irrefl 0)
  | cons e l ih =>
    unfold oweL at h
    rw [Pi.add_apply, Finsupp.add_apply, tallyAt_apply] at h
    by_cases hg : g = ((peer c e.1 : Thread nD τ), e.2) ∧ u = ()
    · exact ⟨e, List.mem_cons_self, hg.1⟩
    · rw [if_neg hg, Nat.add_zero] at h
      obtain ⟨e', he, hg'⟩ := ih h
      exact ⟨e', List.mem_cons_of_mem _ he, hg'⟩

def L (g : GSem nD τ sig) : Finset Unit := if g.1.2 = .tc then {()} else ∅
/-- The barrier lies above the local cells, the receive cells along `x` above it, those along `y` above these. -/
def lvS : SemLoc sig → ℕ
  | .reg _ => 1
  | .dma q => if q.val < 8 then 0 else if q.val < 12 then q.val - 6 else if q.val < 16 then 0 else q.val
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- A wait on a cell below everything still owed is allowed. -/
theorem mayWait_O (c : Dev nD) (sm : SemLoc sig) (n : ℕ) (h : ∀ e ∈ owedS.drop n, lvS sm < lvS e.2) :
    (levAts L lv : sProp 𝕄) ⊢ MayWait (c : Thread nD τ) sm () (O c n) :=
  MayOwe.of_cut (L := L) (lev := lv) (lvS sm) (fun p hp => by rw [Finset.mem_singleton.mp hp, L_tc]; exact Finset.mem_singleton_self _)
    (fun g u hg => by obtain ⟨e, -, rfl⟩ := oweL_pos hg; exact Finset.mem_singleton_self _)
    (fun p hp => by rw [Finset.mem_singleton.mp hp]; exact le_refl _)
    (fun g u hg => by obtain ⟨e, he, rfl⟩ := oweL_pos hg; exact h e he)

theorem owed_pos : ∀ e ∈ owedS, 0 < lvS e.2 := by decide

/-- The cells of local transfers and the senders' cells lie below everything. -/
theorem mayWait_low (c : Dev nD) (sm : SemLoc sig) (n : ℕ) (h : lvS sm = 0) :
    (levAts L lv : sProp 𝕄) ⊢ MayWait (c : Thread nD τ) sm () (O c n) :=
  mayWait_O c sm n fun e he => by rw [h]; exact owed_pos e (List.mem_of_mem_drop he)

theorem mayWait_bar (c : Dev nD) : (levAts L lv : sProp 𝕄) ⊢ MayWait (c : Thread nD τ) (.reg barS) () (O c 2) :=
  mayWait_O c _ 2 (by decide)

end Cert.OutProof

end

end
-- ==== Proof.OutRules.lean ====
module

public import proofs.«01_k».proof.Proof.OutCells

@[expose] public section

noncomputable section

namespace Cert.OutProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (oS : Dev nD → (cc0_stg0_0 : Ref sig .tc).ty.Contents (Elt F)) (wS : Dev nD → (main_arg1 : Ref sig .tc).ty.Contents (Elt F))

abbrev 𝒱₀ : Variants := Variants.none

instance ER_landsIn : (ER : Emb UB (MT nD τ sig Unit (Elt F) ℕ UU ℕ)).LandsIn (upEmb : UEmb _ 𝕄) := by unfold ER; infer_instance

/-! ## The records every device shares: the cells' invariants, and that every cell has reached round 0 -/

def records (K : Dev nD × Fin 17 → ℕ) : sProp 𝕄 :=
  iprop((bigSep Finset.univ fun ck : Dev nD × Fin 17 => cellInv ER (outRd oS wS) (K ck) (kcell ck))
    ∗ bigSep Finset.univ fun ck : Dev nD × Fin 17 => reached ER (kcell ck) 0)

instance records_persistent (K : Dev nD × Fin 17 → ℕ) : BI.Persistent (records oS wS K) := by unfold records; infer_instance

/-- Where a transfer's cell stands among the seventeen. -/
def kOf (q : DmaSem sig) : Fin 17 := ⟨q.val - 3, by have h : q.val < 20 := q.isLt; omega⟩
theorem csem_kOf (q : DmaSem sig) (h : 4 ≤ q.val) : csem (kOf q) = .dma q := by
  unfold csem
  rw [dif_neg (show ¬ (kOf q).val = 0 by show ¬ q.val - 3 = 0; omega)]
  congr 1; exact Fin.ext (by show q.val - 3 + 3 = q.val; omega)
theorem csem_zero : csem 0 = .reg barS := dif_pos rfl

variable (K : Dev nD × Fin 17 → ℕ)

theorem inv_at (ck : Dev nD × Fin 17) : records oS wS K ⊢ cellInv ER (outRd oS wS) (K ck) (kcell ck) := by
  unfold records
  exact sep_elim_left.trans (bigSep_elim (Φ := fun ck : Dev nD × Fin 17 => (cellInv ER (outRd oS wS) (K ck) (kcell ck) : sProp 𝕄)) (Finset.mem_univ ck))
theorem reached_at (ck : Dev nD × Fin 17) : records oS wS K ⊢ reached ER (kcell ck) 0 := by
  unfold records
  exact sep_elim_right.trans (bigSep_elim (Φ := fun ck : Dev nD × Fin 17 => (reached ER (kcell ck) 0 : sProp 𝕄)) (Finset.mem_univ ck))

theorem kcell_bar (c : Dev nD) : kcell (c, 0) = barCell c := by unfold kcell; rw [csem_zero]
theorem kcell_dma (c : Dev nD) (q : DmaSem sig) (h : 4 ≤ q.val) : kcell (c, kOf q) = dCell c q := by unfold kcell; rw [csem_kOf q h]

theorem inv_bar (c : Dev nD) : records oS wS K ⊢ cellInv ER (outRd oS wS) (K (c, 0)) (barCell c) := by
  rw [← kcell_bar]; exact inv_at oS wS K _
theorem inv_dma (c : Dev nD) (q : DmaSem sig) (h : 4 ≤ q.val) : records oS wS K ⊢ cellInv ER (outRd oS wS) (K (c, kOf q)) (dCell c q) := by
  rw [← kcell_dma c q h]; exact inv_at oS wS K _
theorem reached_bar (c : Dev nD) : records oS wS K ⊢ reached ER (barCell c) 0 := by
  rw [← kcell_bar]; exact reached_at oS wS K _
theorem reached_dma (c : Dev nD) (q : DmaSem sig) (h : 4 ≤ q.val) : records oS wS K ⊢ reached ER (dCell c q) 0 := by
  rw [← kcell_dma c q h]; exact reached_at oS wS K _

theorem credit_sb (s : Fin 4) : (slotM sbM s).view.dmaCredit = N := rfl
theorem credit_rx (s : Fin 4) : (slotM rxM s).view.dmaCredit = N := rfl
theorem credit_ry (s : Fin 4) : (slotM ryM s).view.dmaCredit = N := rfl

/-! ## What a landing leaves -/

/-- A chunk written into a slot reads there as it did where it came from. -/
theorem landed (A B : Memref sig .tc .vmem S4x512x512 .bf16) (s : Fin 4) (fs : A.view.ty.Contents (Elt F)) (fd : B.view.ty.Contents (Elt F)) (x : S512x512.Idx) :
    (slotM B s).view.read (Elt F) ((slotM B s).view.write (Elt F) fd ((slotM A s).view.read (Elt F) fs) Finset.univ) x = (slotM A s).view.read (Elt F) fs x := by
  rw [View.read_write_univ]

theorem rx_landed (s : Fin 4) (fs fd : S4x512x512.Idx → Elt F .bf16) : ∀ i ∈ (slotM rxM s).view.set,
    (slotM rxM s).view.write (Elt F) fd ((slotM sbM s).view.read (Elt F) fs) Finset.univ i = fs i := by
  intro i hi
  obtain ⟨x, -, rfl⟩ := Finset.mem_map.mp hi
  rw [View.write_emb_of_mem _ _ (Finset.mem_univ x)]
  rfl
theorem ry_landed (s : Fin 4) (fs fd : S4x512x512.Idx → Elt F .bf16) : ∀ i ∈ (slotM ryM s).view.set,
    (slotM ryM s).view.write (Elt F) fd ((slotM rxM s).view.read (Elt F) fs) Finset.univ i = fs i := by
  intro i hi
  obtain ⟨x, -, rfl⟩ := Finset.mem_map.mp hi
  rw [View.write_emb_of_mem _ _ (Finset.mem_univ x)]
  rfl

/-! ## The rules of the protocol's steps -/

section Rules
variable (c : Dev nD)

/-- The signal to the partner along `x` hands it the landing buffer it will send to. -/
theorem wp_sig_x {α : Type} {Q : α → sProp 𝕄} {k : PUnit → Prog (TpuEff nD τ sig (Elt F) Λ₀ .tc) α} {d : Dev nD} (hd : d = xn c) {n : ℤ} (hn : n = ((1 : ℕ) : ℤ)) {W : Waits sig Unit} :
    iprop(records oS wS K ∗ owes (c : Thread nD τ) (O c 0) W ∗ dutyTok ER (barCell (xn c)) 0 true ∗ rxAll (F := F) c)
      ⊢ iprop((owes (c : Thread nD τ) (O c 1) W -∗ wp frame (wpE (defs₀ (F := F)) 𝒱₀ (c : Thread nD τ) none) Set.univ (k ⟨⟩) Q) -∗ wp frame (wpE (defs₀ (F := F)) 𝒱₀ (c : Thread nD τ) none) Set.univ (.op (.semSignal (d, Proc.tc) barS n) k) Q) := by
  subst hd; subst hn
  iintro ⟨#HR, HO, Ht, Hf⟩ Hk
  iapply (Rounds.wp_signal 𝒱₀ ER (outRd oS wS) (c : Thread nD τ) none (dst := (xn c : Thread nD τ)) (κ := K (xn c, 0))
      (d := true) (by rw [duties_bar]; exact Finset.mem_univ _) (amount_bar oS wS (xn c) true) () (O c 1) rfl) $$ [HO Ht Hf]
  · isplitr; · iapply (inv_bar oS wS K (xn c)); iexact HR
    isplitl [HO]; · iexact HO
    isplitl [Ht]; · iexact Ht
    isplitl [Hf]
    · rw [payload_bar]; unfold barPay; rw [if_pos rfl, xn_xn]; iexact Hf
    · iapply (reached_bar oS wS K (xn c)); iexact HR
  iexact Hk

theorem wp_sig_y {α : Type} {Q : α → sProp 𝕄} {k : PUnit → Prog (TpuEff nD τ sig (Elt F) Λ₀ .tc) α} {d : Dev nD} (hd : d = yn c) {n : ℤ} (hn : n = ((1 : ℕ) : ℤ)) {W : Waits sig Unit} :
    iprop(records oS wS K ∗ owes (c : Thread nD τ) (O c 1) W ∗ dutyTok ER (barCell (yn c)) 0 false ∗ ryAll (F := F) c)
      ⊢ iprop((owes (c : Thread nD τ) (O c 2) W -∗ wp frame (wpE (defs₀ (F := F)) 𝒱₀ (c : Thread nD τ) none) Set.univ (k ⟨⟩) Q) -∗ wp frame (wpE (defs₀ (F := F)) 𝒱₀ (c : Thread nD τ) none) Set.univ (.op (.semSignal (d, Proc.tc) barS n) k) Q) := by
  subst hd; subst hn
  iintro ⟨#HR, HO, Ht, Hf⟩ Hk
  iapply (Rounds.wp_signal 𝒱₀ ER (outRd oS wS) (c : Thread nD τ) none (dst := (yn c : Thread nD τ)) (κ := K (yn c, 0))
      (d := false) (by rw [duties_bar]; exact Finset.mem_univ _) (amount_bar oS wS (yn c) false) () (O c 2) rfl) $$ [HO Ht Hf]
  · isplitr; · iapply (inv_bar oS wS K (yn c)); iexact HR
    isplitl [HO]; · iexact HO
    isplitl [Ht]; · iexact Ht
    isplitl [Hf]
    · rw [payload_bar]; unfold barPay; rw [if_neg Bool.false_ne_true, yn_yn]; iexact Hf
    · iapply (reached_bar oS wS K (yn c)); iexact HR
  iexact Hk

/-- The wait for both partners: their landing buffers come with it, and the cell closes. -/
theorem wp_wait_bar {α : Type} {Q : α → sProp 𝕄} {k : PUnit → Prog (TpuEff nD τ sig (Elt F) Λ₀ .tc) α} {n : ℤ} (hn : n = ((2 : ℕ) : ℤ)) {W : Waits sig Unit} :
    iprop(records oS wS K ∗ levAts L lv ∗ cred (tallyAt (barCell c) () 2) ∗ owes (c : Thread nD τ) (O c 2) W ∗ atPos ER (barCell c) 0 ∅ 0)
      ⊢ iprop(((owes (c : Thread nD τ) (O c 2) (insert (SemLoc.reg barS, ()) W) ∗ semVal (barCell c) 0 ∗ ryAll (F := F) (yn c) ∗ rxAll (F := F) (xn c)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  iintro ⟨#HR, #Hlev, Hc, HO, Hat⟩ Hk
  iapply (Rounds.wp_wait_rest_token 𝒱₀ ER (outRd oS wS) (c : Thread nD τ) none (κ := K (c, 0))
      (wpE_semWait_eq 𝒱₀ (c : Thread nD τ) none Set.univ) (Set.mem_univ _) () (O := O c 2) (W := W) (R := 0) (m := 0) (T := ∅)
      (by rw [expect_bar])) $$ [Hc HO Hat]
  · isplitr; · iapply (inv_bar oS wS K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar oS wS c)) $$ Hpay
  icases Hp with ⟨Hy, Hx⟩
  imod (Rounds.cell_close ER (outRd oS wS) (Set.mem_univ (K (c, 0))) (fun h => h) (R := 0 + 1) (duties_later oS wS (barCell c))) $$ [Hat] with Hz
  · isplitr; · iapply (inv_bar oS wS K c); iexact HR
    iexact Hat
  iapply Hk
  isplitl [HO]; · iexact HO
  isplitl [Hz]; · iexact Hz
  isplitl [Hy]; · iexact Hy
  iexact Hx

/-- A wait on a transfer's cell: what the transfer hands over, and the cell closes. -/
theorem wp_wait_xfer {α : Type} {Q : α → sProp 𝕄} {k : PUnit → Prog (TpuEff nD τ sig (Elt F) Λ₀ .tc) α} (q : DmaSem sig) (hq : 4 ≤ q.val) {sm : DmaSem sig} (hs : sm = q) {sp sp' : Space} {s s' : Shape} {e e' : EltTy} {κ' : Kind}
    {src : Memref sig .tc sp' s' e'} {dst : Memref sig κ' sp s e} {hsrc : src.view.WordExact} {hdst : dst.view.WordExact}
    (hcr : dst.view.dmaCredit = N) (n : ℕ) {W : Waits sig Unit} (hl : ∀ e ∈ owedS.drop n, lvS (.dma q) < lvS e.2) :
    iprop(records oS wS K ∗ levAts L lv ∗ cred (tallyAt (dCell c q) () N) ∗ owes (c : Thread nD τ) (O c n) W ∗ atPos ER (dCell c q) 0 ∅ 0)
      ⊢ iprop(((owes (c : Thread nD τ) (O c n) (insert (SemLoc.dma q, ()) W) ∗ semVal (dCell c q) 0 ∗ xferPay oS wS c q) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hs
  iintro ⟨#HR, #Hlev, Hc, HO, Hat⟩ Hk
  rw [← hcr]
  iapply (Rounds.wp_wait_rest_token 𝒱₀ ER (outRd oS wS) (c : Thread nD τ) none (κ := K (c, kOf sm))
      (wpE_waitDma2_eq 𝒱₀ (c : Thread nD τ) none Set.univ) (Set.mem_univ _) () (O := O c n) (W := W) (R := 0) (m := 0) (T := ∅)
      (by rw [expect_dma oS wS c sm hq, Nat.zero_add]; exact hcr)) $$ [Hc HO Hat]
  · isplitr; · iapply (inv_dma oS wS K c sm hq); iexact HR
    isplitl [Hc]; · iexact Hc
    isplitl [HO]; · iexact HO
    isplitr; · iapply (mayWait_O c (.dma sm) n hl); iexact Hlev
    iexact Hat
  iintro ⟨HO, Hat, -, Hpay⟩
  ihave Hp := (Entails.of_eq (rest_dma oS wS c sm hq)) $$ Hpay
  imod (Rounds.cell_close ER (outRd oS wS) (Set.mem_univ (K (c, kOf sm))) (fun h => h) (R := 0 + 1) (duties_later oS wS (dCell c sm))) $$ [Hat] with Hz
  · isplitr; · iapply (inv_dma oS wS K c sm hq); iexact HR
    iexact Hat
  iapply Hk
  isplitl [HO]; · iexact HO
  isplitl [Hz]; · iexact Hz
  iexact Hp

/-- The transfer of a slot along `x`. -/
theorem wp_send_x {α : Type} {Q : α → sProp 𝕄} {k : PUnit → Prog (TpuEff nD τ sig (Elt F) Λ₀ .tc) α} (s : Fin 4) {n : Dev nD} (hn : n = xn c) {src dst : Memref sig .tc .vmem S512x512 .bf16} (hS : src = slotM sbM s) (hD : dst = slotM rxM s)
    {a b : DmaSem sig} (ha : a = sxS s) (hb : b = sxR s)
    {hsc : (show Memref sig (Dev.tc n : Thread nD τ).2.kind .vmem S512x512 .bf16 from dst).view.ref.isScScratch = false}
    {hsrc : src.view.WordExact} {hdst : dst.view.WordExact}
    {hsem : DmaTarget.Typed .vmem (.dma b) (.remote (Dev.tc n : Thread nD τ) dst (.dma a) hsc)}
    (j : ℕ) (hj : O c j = O c (j + 1) + tallyAt (dCell (xn c) (sxR s)) () N) (fn : S4x512x512.Idx → Elt F .bf16) {W : Waits sig Unit} :
    iprop(records oS wS K ∗ sbPts c s fullShare (SB oS wS c) ∗ rxPts (xn c) s fullShare fn ∗ owes (c : Thread nD τ) (O c j) W
        ∗ dutyTok ER (dCell c (sxS s)) 0 false ∗ dutyTok ER (dCell (xn c) (sxR s)) 0 false)
      ⊢ iprop(((cred (tallyAt (dCell c (sxS s)) () N) ∗ owes (c : Thread nD τ) (O c (j + 1)) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n : Thread nD τ) dst (.dma a) hsc) (.dma b) hsrc hdst hsem) k) Q) := by
  subst hn; subst hS; subst hD; subst ha; subst hb
  iintro ⟨#HR, Hs, Hd, HO, Ht1, Ht2⟩
  unfold sbPts rxPts
  iapply (Rounds.wp_send_pointsTo 𝒱₀ ER (outRd oS wS) (c : Thread nD τ) none (κ₁ := K (c, kOf (sxS s))) (κ₂ := K (xn c, kOf (sxR s)))
    (r₁ := 0) (r₂ := 0) (d₁ := false) (d₂ := false) (c' := (xn c : Thread nD τ)) (src := slotM sbM s) (dst := slotM rxM s) (sS := .dma (sxS s)) (sem := .dma (sxR s))
    (fd := fn) (fs := SB oS wS c) (q := fullShare)
    (by rw [duties_dma oS wS _ _ (Nat.le_add_right 4 _)]; exact Finset.mem_singleton_self _)
    (by rw [duties_dma oS wS _ _ (Nat.le_trans (by decide) (Nat.le_add_right 8 _))]; exact Finset.mem_singleton_self _)
    () () N (credit_rx s) (amount_dma oS wS c _ false) (amount_dma oS wS (xn c) _ false) (O c (j + 1)) hj (W := W)
    (by rw [payload_dma, pay_sxS]; exact BI.Entails.refl _)
    (by rw [payload_dma, pay_sxR]; unfold rxPts RX; rw [xn_xn]; exact Entails.of_eq (pointsTo_congr (rx_landed s _ _))))
  isplitr; · iapply (inv_dma oS wS K c _ (Nat.le_add_right 4 _)); iexact HR
  isplitr; · iapply (inv_dma oS wS K (xn c) _ (Nat.le_trans (by decide) (Nat.le_add_right 8 _))); iexact HR
  isplitl [Hs]; · iexact Hs
  isplitl [Hd]; · iexact Hd
  isplitl [HO]; · iexact HO
  isplitl [Ht1]; · iexact Ht1
  isplitr; · iapply (reached_dma oS wS K c _ (Nat.le_add_right 4 _)); iexact HR
  isplitl [Ht2]; · iexact Ht2
  iapply (reached_dma oS wS K (xn c) _ (Nat.le_trans (by decide) (Nat.le_add_right 8 _))); iexact HR

/-- The transfer of a received slot along `y`: half the share stays, to be read. -/
theorem wp_send_y {α : Type} {Q : α → sProp 𝕄} {k : PUnit → Prog (TpuEff nD τ sig (Elt F) Λ₀ .tc) α} (s : Fin 4) {n : Dev nD} (hn : n = yn c) {src dst : Memref sig .tc .vmem S512x512 .bf16} (hS : src = slotM rxM s) (hD : dst = slotM ryM s)
    {a b : DmaSem sig} (ha : a = syS s) (hb : b = syR s)
    {hsc : (show Memref sig (Dev.tc n : Thread nD τ).2.kind .vmem S512x512 .bf16 from dst).view.ref.isScScratch = false}
    {hsrc : src.view.WordExact} {hdst : dst.view.WordExact}
    {hsem : DmaTarget.Typed .vmem (.dma b) (.remote (Dev.tc n : Thread nD τ) dst (.dma a) hsc)}
    (j : ℕ) (hj : O c j = O c (j + 1) + tallyAt (dCell (yn c) (syR s)) () N) (fn : S4x512x512.Idx → Elt F .bf16) {W : Waits sig Unit} :
    iprop(records oS wS K ∗ rxPts c s (fullShare : PosShare TreeShare).left (RX oS wS c) ∗ ryPts (yn c) s fullShare fn ∗ owes (c : Thread nD τ) (O c j) W
        ∗ dutyTok ER (dCell c (syS s)) 0 false ∗ dutyTok ER (dCell (yn c) (syR s)) 0 false)
      ⊢ iprop(((cred (tallyAt (dCell c (syS s)) () N) ∗ owes (c : Thread nD τ) (O c (j + 1)) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n : Thread nD τ) dst (.dma a) hsc) (.dma b) hsrc hdst hsem) k) Q) := by
  subst hn; subst hS; subst hD; subst ha; subst hb
  iintro ⟨#HR, Hs, Hd, HO, Ht1, Ht2⟩
  unfold rxPts ryPts
  iapply (Rounds.wp_send_pointsTo 𝒱₀ ER (outRd oS wS) (c : Thread nD τ) none (κ₁ := K (c, kOf (syS s))) (κ₂ := K (yn c, kOf (syR s)))
    (r₁ := 0) (r₂ := 0) (d₁ := false) (d₂ := false) (c' := (yn c : Thread nD τ)) (src := slotM rxM s) (dst := slotM ryM s) (sS := .dma (syS s)) (sem := .dma (syR s))
    (fd := fn) (fs := RX oS wS c) (q := (fullShare : PosShare TreeShare).left)
    (by rw [duties_dma oS wS _ _ (Nat.le_trans (by decide) (Nat.le_add_right 12 _))]; exact Finset.mem_singleton_self _)
    (by rw [duties_dma oS wS _ _ (Nat.le_trans (by decide) (Nat.le_add_right 16 _))]; exact Finset.mem_singleton_self _)
    () () N (credit_ry s) (amount_dma oS wS c _ false) (amount_dma oS wS (yn c) _ false) (O c (j + 1)) hj (W := W)
    (by rw [payload_dma, pay_syS]; exact BI.Entails.refl _)
    (by rw [payload_dma, pay_syR]; unfold ryPts RY; rw [yn_yn]; exact Entails.of_eq (pointsTo_congr (ry_landed s _ _))))
  isplitr; · iapply (inv_dma oS wS K c _ (Nat.le_trans (by decide) (Nat.le_add_right 12 _))); iexact HR
  isplitr; · iapply (inv_dma oS wS K (yn c) _ (Nat.le_trans (by decide) (Nat.le_add_right 16 _))); iexact HR
  isplitl [Hs]; · iexact Hs
  isplitl [Hd]; · iexact Hd
  isplitl [HO]; · iexact HO
  isplitl [Ht1]; · iexact Ht1
  isplitr; · iapply (reached_dma oS wS K c _ (Nat.le_trans (by decide) (Nat.le_add_right 12 _))); iexact HR
  isplitl [Ht2]; · iexact Ht2
  iapply (reached_dma oS wS K (yn c) _ (Nat.le_trans (by decide) (Nat.le_add_right 16 _))); iexact HR

end Rules

/-! ## A buffer of four slots -/

theorem pointsTo_slots (ℓ : Loc nD τ sig) (I : Fin 4 → Finset (Idx ℓ)) (hcov : (Finset.univ : Finset (Idx ℓ)) = I 0 ∪ (I 1 ∪ (I 2 ∪ I 3)))
    (hdis : ∀ s t, s ≠ t → Disjoint (I s) (I t)) (f : Buf (Elt F) ℓ) :
    (ℓ ↦{fullShare} f : sProp 𝕄) ⊣⊢ iprop((ℓ ↦[I 0]{fullShare} f) ∗ (ℓ ↦[I 1]{fullShare} f) ∗ (ℓ ↦[I 2]{fullShare} f) ∗ (ℓ ↦[I 3]{fullShare} f)) := by
  have h1 : Disjoint (I 0) (I 1 ∪ (I 2 ∪ I 3)) := by
    rw [Finset.disjoint_union_right, Finset.disjoint_union_right]
    exact ⟨hdis 0 1 (by decide), hdis 0 2 (by decide), hdis 0 3 (by decide)⟩
  have h2 : Disjoint (I 1) (I 2 ∪ I 3) := by
    rw [Finset.disjoint_union_right]; exact ⟨hdis 1 2 (by decide), hdis 1 3 (by decide)⟩
  rw [hcov]
  exact (pointsTo_union h1).trans (sep_congr_right ((pointsTo_union h2).trans (sep_congr_right (pointsTo_union (hdis 2 3 (by decide))))))

theorem sb_slots (c : Dev nD) (f : S4x512x512.Idx → Elt F .bf16) :
    (((c : Thread nD τ).loc cc0_scratch1) ↦{fullShare} (f : Buf (Elt F) ((c : Thread nD τ).loc cc0_scratch1)) : sProp 𝕄)
      ⊣⊢ iprop(sbPts c 0 fullShare f ∗ sbPts c 1 fullShare f ∗ sbPts c 2 fullShare f ∗ sbPts c 3 fullShare f) := by
  unfold sbPts; rw [slot_set_sb, slot_set_sb, slot_set_sb, slot_set_sb]
  exact pointsTo_slots ((c : Thread nD τ).loc cc0_scratch1) slotSet slots_cover (fun s t h => slots_disjoint h) f
theorem rx_slots (c : Dev nD) (f : S4x512x512.Idx → Elt F .bf16) :
    (((c : Thread nD τ).loc cc0_scratch2) ↦{fullShare} (f : Buf (Elt F) ((c : Thread nD τ).loc cc0_scratch2)) : sProp 𝕄)
      ⊣⊢ iprop(rxPts c 0 fullShare f ∗ rxPts c 1 fullShare f ∗ rxPts c 2 fullShare f ∗ rxPts c 3 fullShare f) := by
  unfold rxPts; rw [slot_set_rx, slot_set_rx, slot_set_rx, slot_set_rx]
  exact pointsTo_slots ((c : Thread nD τ).loc cc0_scratch2) slotSet slots_cover (fun s t h => slots_disjoint h) f
theorem ry_slots (c : Dev nD) (f : S4x512x512.Idx → Elt F .bf16) :
    (((c : Thread nD τ).loc cc0_scratch3) ↦{fullShare} (f : Buf (Elt F) ((c : Thread nD τ).loc cc0_scratch3)) : sProp 𝕄)
      ⊣⊢ iprop(ryPts c 0 fullShare f ∗ ryPts c 1 fullShare f ∗ ryPts c 2 fullShare f ∗ ryPts c 3 fullShare f) := by
  unfold ryPts; rw [slot_set_ry, slot_set_ry, slot_set_ry, slot_set_ry]
  exact pointsTo_slots ((c : Thread nD τ).loc cc0_scratch3) slotSet slots_cover (fun s t h => slots_disjoint h) f

end Cert.OutProof

end

end
-- ==== Proof.OutVals.lean ====
/-
# The output projection on the 2×2 mesh: what the buffers hold

The chunk of `Wo` that lies in a staging slot after its copy, the product computed from it, the chunk stored into a slot of
`sbuf`, and the whole output block of a device as one function of the chunks.
-/
module

public import proofs.«01_k».proof.Proof.OutRules

@[expose] public section

noncomputable section

namespace Cert.OutProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ
variable (oS : Dev nD → (cc0_stg0_0 : Ref sig .tc).ty.Contents (Elt F)) (wS : Dev nD → (main_arg1 : Ref sig .tc).ty.Contents (Elt F))

/-! ## The staging slots of `Wo` -/

theorem wslot_inb : ∀ (s : Fin 2) (a : Fin 3), (![s.val, 0, 0] : Fin 3 → ℕ) a + S1x4096x512.size a ≤ S2x4096x512.size a := by decide

abbrev wRect (s : Fin 2) : Rect S2x4096x512 := Rect.unit (s := S2x4096x512) ![s.val, 0, 0] S1x4096x512.size (wslot_inb s)
/-- One of the two staging slots, as the copies name it. -/
abbrev wSlot (s : Fin 2) : Memref sig .tc .vmem S4096x512 .f32 :=
  (wbM.slice (wRect s) (fun _ => rfl)).squeeze S4096x512 squeezes_S1x4096x512_S4096x512

theorem sc_w : S4096x512.ShapeCasts S1x4096x512 := by decide

/-- Loading the slot just copied into reads the copy. -/
theorem wslot_own (s : Fin 2) (f : (cc0_scratch0 : Ref sig .tc).ty.Contents (Elt F)) (d : S4096x512.Idx → Elt F .f32) :
    View.readAt (Elt F) wbM.view (wRect s).toLoadRect ((wSlot s).view.write (Elt F) f d Finset.univ)
      = shapeCast S1x4096x512 d sc_w := by
  funext i
  rw [shapeCast]
  have h := congrFun (View.read_write_univ (v := (wSlot s).view) f d) (Shape.reshapeEquiv (s := S4096x512) (s' := S1x4096x512) sc_w i)
  refine Eq.trans ?_ h
  show _ = ((wSlot s).view.write (Elt F) f d Finset.univ) (wbM.view.emb ((wRect s).emb (Shape.reshapeEquiv _ (Shape.reshapeEquiv _ i))))
  rw [Shape.reshapeEquiv_reshapeEquiv, Shape.reshapeEquiv_self]
  rfl

/-- Loading the other slot does not see the copy. -/
theorem wslot_other {s t : Fin 2} (h : s ≠ t) (f : (cc0_scratch0 : Ref sig .tc).ty.Contents (Elt F)) (d : S4096x512.Idx → Elt F .f32) :
    View.readAt (Elt F) wbM.view (wRect s).toLoadRect ((wSlot t).view.write (Elt F) f d Finset.univ)
      = View.readAt (Elt F) wbM.view (wRect s).toLoadRect f := by
  funext i
  show (wSlot t).view.write (Elt F) f d Finset.univ ((wRect s).emb i) = f ((wRect s).emb i)
  refine View.write_of_not_mem _ _ _ ?_
  rw [View.setOn_univ]
  rw [show (wSlot t).view.set = (wRect t).set from (View.set_reshape _ _).trans (View.set_slice_whole cc0_scratch0 _)]
  rw [Rect.mem_set_unit]
  intro hm
  have h0 := hm 0
  have e0 : ((wRect s).emb i 0).val = s.val + 1 * (i 0).val := rfl
  have hi : (i 0).val < 1 := (i 0).isLt
  have e1 : (![t.val, 0, 0] : Fin 3 → ℕ) 0 = t.val := rfl
  have e2 : S1x4096x512.size 0 = 1 := rfl
  rw [e1, e2, e0] at h0
  exact h (Fin.ext (by omega))

/-- A copied column chunk, seen as a slot. -/
theorem chunk_copied (w : S4096x4096.Idx → Elt F .f32) (j : Fin 8) (n : ℕ) (hn : n = 512 * j.val) (inb) (hx) :
    shapeCast (s := S4096x512) S1x4096x512 (ReadAs.same.apply (View.read (Elt F) ((wM.slice (Rect.unit (s := S4096x4096) ![0, n] S4096x512.size inb) hx).view) w)) sc_w
      = wChunk w j := by
  subst hn
  funext i
  have he : Shape.reshapeEquiv (s := S4096x512) (s' := S1x4096x512) sc_w i
      = fun a => match a with | ⟨0, _⟩ => ⟨(i 1).val, (i 1).isLt⟩ | ⟨1, _⟩ => ⟨(i 2).val, (i 2).isLt⟩ := by
    refine Shape.reshapeEquiv_eq_of_rowMajor _ ?_
    rw [Shape.rowMajor_val_two, Shape.rowMajor_val_three]
    have hi : (i 0).val < 1 := (i 0).isLt
    show (i 1).val * 512 + (i 2).val = ((i 0).val * 4096 + (i 1).val) * 512 + (i 2).val
    omega
  rw [shapeCast, he]
  · show w _ = w _
    congr 1
    funext a
    match a with
    | ⟨0, _⟩ => exact Fin.ext (by show 0 + 1 * (i 1).val = (i 1).val; omega)
    | ⟨1, _⟩ => exact Fin.ext (by show 512 * j.val + 1 * (i 2).val = 512 * j.val + (i 2).val; omega)

/-- The chunk read when its copy is the last write. -/
theorem chunk_last (w : S4096x4096.Idx → Elt F .f32) (s : Fin 2) (j : Fin 8) (n : ℕ) (hn : n = 512 * j.val) (inb) (hx) (f : (cc0_scratch0 : Ref sig .tc).ty.Contents (Elt F)) :
    View.readAt (Elt F) wbM.view (wRect s).toLoadRect ((wSlot s).view.write (Elt F) f
        (ReadAs.same.apply (View.read (Elt F) ((wM.slice (Rect.unit (s := S4096x4096) ![0, n] S4096x512.size inb) hx).view) w)) Finset.univ)
      = wChunk w j := by
  rw [wslot_own]; exact chunk_copied w j n hn inb hx

/-- The chunk read when the other slot has been copied into meanwhile. -/
theorem chunk_before (w : S4096x4096.Idx → Elt F .f32) (s t : Fin 2) (hst : s ≠ t) (j : Fin 8) (n : ℕ) (hn : n = 512 * j.val) (inb) (hx)
    (f : (cc0_scratch0 : Ref sig .tc).ty.Contents (Elt F)) (d : S4096x512.Idx → Elt F .f32) :
    View.readAt (Elt F) wbM.view (wRect s).toLoadRect ((wSlot t).view.write (Elt F) ((wSlot s).view.write (Elt F) f
        (ReadAs.same.apply (View.read (Elt F) ((wM.slice (Rect.unit (s := S4096x4096) ![0, n] S4096x512.size inb) hx).view) w)) Finset.univ) d Finset.univ)
      = wChunk w j := by
  rw [wslot_other hst]; exact chunk_last w s j n hn inb hx f

theorem o_read (inb) (f : (cc0_stg0_0 : Ref sig .tc).ty.Contents (Elt F)) :
    View.readAt (Elt F) oM.view (Rect.unit (s := S512x4096) ![0, 0] S512x4096.size inb).toLoadRect f = f :=
  Memref.readAt_unit_zero (Elt F) cc0_stg0_0 (by decide) inb f

/-! ## The slots of `sbuf` -/

abbrev sRect (s : Fin 4) : Rect S4x512x512 := Rect.unit (s := S4x512x512) ![s.val, 0, 0] S1x512x512.size (slot_inb s)

theorem sRest_emb (s : Fin 4) (x : (sRect s).shape.Idx) : Shape.reshapeEquiv (s := S512x512) (s' := S1x512x512) (by decide) x = sRest ((sRect s).emb x) := by
  refine Shape.reshapeEquiv_eq_of_rowMajor _ ?_
  rw [Shape.rowMajor_val_two, Shape.rowMajor_val_three]
  have hx : (x 0).val < 1 := (x 0).isLt
  show (0 + 1 * (x 1).val) * 512 + (0 + 1 * (x 2).val) = ((x 0).val * 512 + (x 1).val) * 512 + (x 2).val
  omega
theorem sIdx_emb (s : Fin 4) (x : (sRect s).shape.Idx) : sIdx ((sRect s).emb x) = s :=
  Fin.ext (by have hx : (x 0).val < 1 := (x 0).isLt; show s.val + 1 * (x 0).val = s.val; omega)

/-- A slot just stored with the chunk holds what is sent. -/
theorem sb_stored (c : Dev nD) (s : Fin 4) (g : (cc0_scratch1 : Ref sig .tc).ty.Contents (Elt F)) (l) (v : FVec F S512x512 .bf16)
    (hv : v = prodC oS wS c (chunkOf (yc c) s)) (hc) : ∀ i ∈ (slotM sbM s).view.set,
      sbM.view.writes (Elt F) g (⟨sRect s, shapeCast S1x512x512 v hc⟩ :: l) i = SB oS wS c i := by
  intro i hi
  rw [slot_set_sb] at hi
  obtain ⟨x, rfl⟩ := (sRect s).exists_idx_of_mem hi
  have hr : ∀ W : (cc0_scratch1 : Ref sig .tc).ty.Contents (Elt F), W ((sRect s).emb x) = sbM.view.read (Elt F) W ((sRect s).emb x) := fun _ => rfl
  refine (hr _).trans ?_
  rw [View.read_writes_cons_emb]
  show v (Shape.reshapeEquiv hc x) = SB oS wS c ((sRect s).emb x)
  rw [hv, show Shape.reshapeEquiv hc x = _ from sRest_emb s x]
  unfold SB
  rw [sIdx_emb]

/-- A slot stored with the product of the chunk copied before the latest copy. -/
theorem sb_before (c : Dev nD) (s : Fin 4) (a b : Fin 2) (hab : a ≠ b) (n : ℕ) (hn : n = 512 * (chunkOf (yc c) s).val) (inb) (hx) (inb')
    (f : (cc0_scratch0 : Ref sig .tc).ty.Contents (Elt F)) (d : S4096x512.Idx → Elt F .f32) (g : (cc0_scratch1 : Ref sig .tc).ty.Contents (Elt F)) (l) (hc) :
    ∀ i ∈ (slotM sbM s).view.set, sbM.view.writes (Elt F) g (⟨sRect s, shapeCast S1x512x512 (k0_pay1
        (View.readAt (Elt F) oM.view (Rect.unit (s := S512x4096) ![0, 0] S512x4096.size inb').toLoadRect (oS c))
        (View.readAt (Elt F) wbM.view (wRect a).toLoadRect ((wSlot b).view.write (Elt F) ((wSlot a).view.write (Elt F) f
          (ReadAs.same.apply (View.read (Elt F) ((wM.slice (Rect.unit (s := S4096x4096) ![0, n] S4096x512.size inb) hx).view) (wS c))) Finset.univ) d Finset.univ))) hc⟩ :: l) i = SB oS wS c i :=
  sb_stored oS wS c s g l _ (congrArg₂ k0_pay1 (o_read _ _) (chunk_before (wS c) a b hab _ n hn inb hx f d)) hc
/-- A slot stored with the product of the chunk copied last. -/
theorem sb_last (c : Dev nD) (s : Fin 4) (a : Fin 2) (n : ℕ) (hn : n = 512 * (chunkOf (yc c) s).val) (inb) (hx) (inb')
    (f : (cc0_scratch0 : Ref sig .tc).ty.Contents (Elt F)) (g : (cc0_scratch1 : Ref sig .tc).ty.Contents (Elt F)) (l) (hc) :
    ∀ i ∈ (slotM sbM s).view.set, sbM.view.writes (Elt F) g (⟨sRect s, shapeCast S1x512x512 (k0_pay1
        (View.readAt (Elt F) oM.view (Rect.unit (s := S512x4096) ![0, 0] S512x4096.size inb').toLoadRect (oS c))
        (View.readAt (Elt F) wbM.view (wRect a).toLoadRect ((wSlot a).view.write (Elt F) f
          (ReadAs.same.apply (View.read (Elt F) ((wM.slice (Rect.unit (s := S4096x4096) ![0, n] S4096x512.size inb) hx).view) (wS c))) Finset.univ))) hc⟩ :: l) i = SB oS wS c i :=
  sb_stored oS wS c s g l _ (congrArg₂ k0_pay1 (o_read _ _) (chunk_last (wS c) a _ n hn inb hx f)) hc

/-- The slot leaves `sbuf` for the transfer. -/
theorem sb_carve (c : Dev nD) (s : Fin 4) {S : Finset S4x512x512.Idx} (hS : (slotM sbM s).view.set ⊆ S) (f : S4x512x512.Idx → Elt F .bf16)
    (hf : ∀ i ∈ (slotM sbM s).view.set, f i = SB oS wS c i) :
    (sbM.view.loc (c : Thread nD τ) ↦[S]{fullShare} (f : Buf (Elt F) ((c : Thread nD τ).loc cc0_scratch1)) : sProp 𝕄)
      ⊢ iprop(sbPts c s fullShare (SB oS wS c) ∗ (sbM.view.loc (c : Thread nD τ) ↦[S \ (slotM sbM s).view.set]{fullShare} (f : Buf (Elt F) ((c : Thread nD τ).loc cc0_scratch1)))) := by
  unfold sbPts
  rw [← pointsTo_congr (ℓ := (slotM sbM s).view.loc (c : Thread nD τ)) hf]
  exact (pointsTo_split_subset hS).1

theorem slots_apart {s t : Fin 4} (h : s ≠ t) : Disjoint (slotM sbM s).view.set (slotM sbM t).view.set := by
  rw [slot_set_sb, slot_set_sb]; exact slots_disjoint h
theorem sb_sub1 : (slotM sbM 1).view.set ⊆ Finset.univ \ (slotM sbM 0).view.set :=
  Finset.subset_sdiff.mpr ⟨Finset.subset_univ _, slots_apart (by decide)⟩
theorem sb_sub2 : (slotM sbM 2).view.set ⊆ (Finset.univ \ (slotM sbM 0).view.set) \ (slotM sbM 1).view.set :=
  Finset.subset_sdiff.mpr ⟨Finset.subset_sdiff.mpr ⟨Finset.subset_univ _, slots_apart (by decide)⟩, slots_apart (by decide)⟩
theorem sb_sub3 : (slotM sbM 3).view.set ⊆ ((Finset.univ \ (slotM sbM 0).view.set) \ (slotM sbM 1).view.set) \ (slotM sbM 2).view.set :=
  Finset.subset_sdiff.mpr ⟨Finset.subset_sdiff.mpr ⟨Finset.subset_sdiff.mpr ⟨Finset.subset_univ _, slots_apart (by decide)⟩, slots_apart (by decide)⟩, slots_apart (by decide)⟩

/-- A received slot: one half of the share is passed on with the transfer along `y`, the other stays to be read. -/
theorem rx_halves (c : Dev nD) (s : Fin 4) (f : S4x512x512.Idx → Elt F .bf16) :
    (rxPts c s fullShare f : sProp 𝕄) ⊣⊢ iprop(rxPts c s (fullShare : PosShare TreeShare).left f ∗ ((slotM rxM s).view.loc (c : Thread nD τ) ↦[(slotM rxM s).view.set]{(fullShare : PosShare TreeShare).right} (f : Buf (Elt F) ((c : Thread nD τ).loc cc0_scratch2)))) := by
  unfold rxPts
  exact pointsTo_share (PosShare.mem_left_op_right fullShare)

theorem ry_open (c : Dev nD) (s : Fin 4) (f : S4x512x512.Idx → Elt F .bf16) :
    (ryPts c s fullShare f : sProp 𝕄) ⊢ ((slotM ryM s).view.loc (c : Thread nD τ) ↦[(slotM ryM s).view.set]{fullShare} (f : Buf (Elt F) ((c : Thread nD τ).loc cc0_scratch3))) :=
  BI.Entails.refl _

/-- What a received slot reads as. -/
theorem slot_loaded (s : Fin 4) (c : Dev nD) (hc) :
    shapeCast (s := S1x512x512) S512x512 (fun i => SB oS wS c ((sRect s).emb i)) hc = prodC oS wS c (chunkOf (yc c) s) := by
  funext x
  show SB oS wS c ((sRect s).emb (Shape.reshapeEquiv hc x)) = _
  have h : sRest ((sRect s).emb (Shape.reshapeEquiv (s := S1x512x512) (s' := S512x512) hc x)) = x :=
    (sRest_emb s _).symm.trans ((Shape.reshapeEquiv_reshapeEquiv _ _ x).trans (Shape.reshapeEquiv_self _ x))
  unfold SB
  rw [sIdx_emb, h]

/-! ## The output block -/

/-- Which device computed rows half `a`, chunk `j` of device `c`'s output. -/
def srcDev (c : Dev nD) (a : Fin 2) (j : Fin 8) : Dev nD :=
  if a = xc c then c else if j.val / 4 = (yc c).val then xn c else xn (yn c)

def oHalf (i : S4x256x4096.Idx) : Fin 2 := ⟨(i 0).val / 2, by have h : (i 0).val < 4 := (i 0).isLt; omega⟩
def oChunk (i : S4x256x4096.Idx) : Fin 8 := ⟨(i 2).val / 512, by have h : (i 2).val < 4096 := (i 2).isLt; omega⟩
def oIn (i : S4x256x4096.Idx) : S512x512.Idx := fun a => match a with
  | ⟨0, _⟩ => ⟨(i 0).val % 2 * 256 + (i 1).val, by have h : (i 1).val < 256 := (i 1).isLt; show _ < 512; omega⟩
  | ⟨1, _⟩ => ⟨(i 2).val % 512, Nat.mod_lt _ (by decide)⟩

/-- What device `c`'s output block holds in the end. -/
def outV (c : Dev nD) : S4x256x4096.Idx → Elt F .bf16 :=
  fun i => prodC oS wS (srcDev c (oHalf i) (oChunk i)) (oChunk i) (oIn i)

theorem out_inb : ∀ (a : Fin 2) (j : Fin 8) (k : Fin 3), (![2 * a.val, 0, 512 * j.val] : Fin 3 → ℕ) k + S2x256x512.size k ≤ S4x256x4096.size k := by decide

abbrev oRect (a : Fin 2) (j : Fin 8) : Rect S4x256x4096 := Rect.unit (s := S4x256x4096) ![2 * a.val, 0, 512 * j.val] S2x256x512.size (out_inb a j)

/-- A stored piece is the output's. -/
theorem piece_eq (c : Dev nD) (a : Fin 2) (j : Fin 8) (v : FVec F S512x512 .bf16) (hv : v = prodC oS wS (srcDev c a j) j) (hc)
    (x : (oRect a j).shape.Idx) : shapeCast S2x256x512 v hc x = outV oS wS c ((oRect a j).emb x) := by
  have h0 : (x 0).val < 2 := (x 0).isLt
  have h1 : (x 1).val < 256 := (x 1).isLt
  have h2 : (x 2).val < 512 := (x 2).isLt
  have e0 : (((oRect a j).emb x) 0).val = 2 * a.val + 1 * (x 0).val := rfl
  have e1 : (((oRect a j).emb x) 1).val = 0 + 1 * (x 1).val := rfl
  have e2 : (((oRect a j).emb x) 2).val = 512 * j.val + 1 * (x 2).val := rfl
  have ea : oHalf ((oRect a j).emb x) = a := Fin.ext (by show (((oRect a j).emb x) 0).val / 2 = _; rw [e0]; omega)
  have ej : oChunk ((oRect a j).emb x) = j := Fin.ext (by show (((oRect a j).emb x) 2).val / 512 = _; rw [e2]; omega)
  unfold outV
  rw [ea, ej, hv]
  show prodC oS wS _ j (Shape.reshapeEquiv _ x) = _
  congr 1
  refine Shape.reshapeEquiv_eq_of_rowMajor _ ?_
  rw [Shape.rowMajor_val_two, Shape.rowMajor_val_three]
  show ((((oRect a j).emb x) 0).val % 2 * 256 + (((oRect a j).emb x) 1).val) * 512 + (((oRect a j).emb x) 2).val % 512 = ((x 0).val * 256 + (x 1).val) * 512 + (x 2).val
  rw [e0, e1, e2]
  have : (2 * a.val + 1 * (x 0).val) % 2 = (x 0).val := by omega
  have : (512 * j.val + 1 * (x 2).val) % 512 = (x 2).val := by omega
  simp only [*]; omega

theorem oRect_mem (i : S4x256x4096.Idx) : i ∈ (oRect (oHalf i) (oChunk i)).set := by
  rw [Rect.mem_set_unit]
  intro a
  match a with
  | ⟨0, _⟩ => exact ⟨by show 2 * ((i 0).val / 2) ≤ (i 0).val; omega, by show (i 0).val < 2 * ((i 0).val / 2) + 2; omega⟩
  | ⟨1, _⟩ => exact ⟨Nat.zero_le _, by show (i 1).val < 0 + 256; have : (i 1).val < 256 := (i 1).isLt; omega⟩
  | ⟨2, _⟩ => exact ⟨by show 512 * ((i 2).val / 512) ≤ (i 2).val; omega, by show (i 2).val < 512 * ((i 2).val / 512) + 512; omega⟩

/-- Pieces that are the output's and that name every half and chunk leave the output. -/
theorem out_written (c : Dev nD) (g : (cc0_stg1_0 : Ref sig .tc).ty.Contents (Elt F)) (l : List (View.Piece (Elt F) S4x256x4096 .bf16))
    (hp : ∀ p ∈ l, ∀ x : p.1.shape.Idx, p.2 x = outV oS wS c (p.1.emb x)) (hcov : ∀ a j, ∃ p ∈ l, p.1.set = (oRect a j).set) :
    outM.view.writes (Elt F) g l = outV oS wS c := by
  funext i
  obtain ⟨p, hp', hs⟩ := hcov (oHalf i) (oChunk i)
  exact View.read_writes_apply_of_pieces outM.view g (outV oS wS c) l hp i ⟨p, hp', by rw [hs]; exact oRect_mem i⟩

end Cert.OutProof

end

end
-- ==== Proof.OutBody.lean ====
/-
# The output projection on the 2×2 mesh: one device's body

The body at a symbolic device `c`, executed once; only where the program asks for the device's place in the mesh is `c` named.
Local steps are executed symbolically, the signals, transfers and waits on the protocol's cells by the rules of `OutRules`.
-/
module

public import proofs.«01_k».proof.Proof.OutVals

@[expose] public section

noncomputable section

namespace Cert.OutProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (oS : Dev nD → (cc0_stg0_0 : Ref sig .tc).ty.Contents (Elt F)) (wS : Dev nD → (main_arg1 : Ref sig .tc).ty.Contents (Elt F))

variable (K : Dev nD × Fin 17 → ℕ)

/-- What a device starts the transfer of slot `s` along `x` with: the tokens it pays, its positions, its credit. -/
def xkit (c : Dev nD) (s : Fin 4) : sProp 𝕄 :=
  iprop(dutyTok ER (dCell c (sxS s)) 0 false ∗ dutyTok ER (dCell (xn c) (sxR s)) 0 false ∗ atPos ER (dCell c (sxS s)) 0 ∅ 0
    ∗ atPos ER (dCell c (sxR s)) 0 ∅ 0 ∗ cred (tallyAt (dCell c (sxR s)) () N))
def ykit (c : Dev nD) (s : Fin 4) : sProp 𝕄 :=
  iprop(dutyTok ER (dCell c (syS s)) 0 false ∗ dutyTok ER (dCell (yn c) (syR s)) 0 false ∗ atPos ER (dCell c (syS s)) 0 ∅ 0
    ∗ atPos ER (dCell c (syR s)) 0 ∅ 0 ∗ cred (tallyAt (dCell c (syR s)) () N))
def bkit (c : Dev nD) : sProp 𝕄 :=
  iprop(dutyTok ER (barCell (xn c)) 0 true ∗ dutyTok ER (barCell (yn c)) 0 false ∗ atPos ER (barCell c) 0 ∅ 0 ∗ cred (tallyAt (barCell c) () 2))

theorem dev1_eq (c : Dev nD) (h) : (⟨k0_dev1 c, h⟩ : Dev nD) = xn c := by revert c; decide
theorem dev2_eq (c : Dev nD) (h) : (⟨k0_dev2 c, h⟩ : Dev nD) = yn c := by revert c; decide

/-! ## The pieces stored into the output -/

/-- A piece stored into the output block holds the output there. -/
def IsPiece (c : Dev nD) (p : View.Piece (Elt F) S4x256x4096 .bf16) : Prop := ∀ x : p.1.shape.Idx, p.2 x = outV oS wS c (p.1.emb x)

theorem isPiece (c : Dev nD) (a : Fin 2) (j : Fin 8) (v : FVec F S512x512 .bf16) (hv : v = prodC oS wS (srcDev c a j) j) (hc) :
    IsPiece oS wS c ⟨oRect a j, shapeCast S2x256x512 v hc⟩ := fun x => piece_eq oS wS c a j v hv hc x

theorem src_own (c : Dev nD) (j : Fin 8) : prodC oS wS c j = prodC oS wS (srcDev c (xc c) j) j := by rw [srcDev, if_pos rfl]

/-- The product with a chunk of `Wo` copied before the latest copy. -/
theorem own_before (c : Dev nD) (j : Fin 8) (a b : Fin 2) (hab : a ≠ b) (n : ℕ) (hn : n = 512 * j.val) (inb) (hx) (inb') (f : (cc0_scratch0 : Ref sig .tc).ty.Contents (Elt F)) (d : S4096x512.Idx → Elt F .f32) (hc) :
    IsPiece oS wS c ⟨oRect (xc c) j, shapeCast S2x256x512 (k0_pay1
      (View.readAt (Elt F) oM.view (Rect.unit (s := S512x4096) ![0, 0] S512x4096.size inb').toLoadRect (oS c))
      (View.readAt (Elt F) wbM.view (wRect a).toLoadRect ((wSlot b).view.write (Elt F) ((wSlot a).view.write (Elt F) f
        (ReadAs.same.apply (View.read (Elt F) ((wM.slice (Rect.unit (s := S4096x4096) ![0, n] S4096x512.size inb) hx).view) (wS c))) Finset.univ) d Finset.univ))) hc⟩ :=
  isPiece oS wS c (xc c) j _ ((congrArg₂ k0_pay1 (o_read _ _) (chunk_before (wS c) a b hab j n hn inb hx f d)).trans (src_own oS wS c j)) hc

/-- The product with the chunk of `Wo` copied last. -/
theorem own_last (c : Dev nD) (j : Fin 8) (a : Fin 2) (n : ℕ) (hn : n = 512 * j.val) (inb) (hx) (inb') (f : (cc0_scratch0 : Ref sig .tc).ty.Contents (Elt F)) (hc) :
    IsPiece oS wS c ⟨oRect (xc c) j, shapeCast S2x256x512 (k0_pay1
      (View.readAt (Elt F) oM.view (Rect.unit (s := S512x4096) ![0, 0] S512x4096.size inb').toLoadRect (oS c))
      (View.readAt (Elt F) wbM.view (wRect a).toLoadRect ((wSlot a).view.write (Elt F) f
        (ReadAs.same.apply (View.read (Elt F) ((wM.slice (Rect.unit (s := S4096x4096) ![0, n] S4096x512.size inb) hx).view) (wS c))) Finset.univ))) hc⟩ :=
  isPiece oS wS c (xc c) j _ ((congrArg₂ k0_pay1 (o_read _ _) (chunk_last (wS c) a j n hn inb hx f)).trans (src_own oS wS c j)) hc

/-- The other half of the rows. -/
def xo (c : Dev nD) : Fin 2 := 1 - xc c

theorem src_rx : ∀ (c : Dev nD) (s : Fin 4), srcDev c (xo c) (chunkOf (yc c) s) = xn c ∧ chunkOf (yc (xn c)) s = chunkOf (yc c) s := by decide
theorem src_ry : ∀ (c : Dev nD) (s : Fin 4), srcDev c (xo c) (chunkOf (yc (yn c)) s) = xn (yn c) ∧ chunkOf (yc (xn (yn c))) s = chunkOf (yc (yn c)) s := by decide

/-- A slot received from the partner along `x`. -/
theorem rx_piece (c : Dev nD) (s : Fin 4) (hc hc') :
    IsPiece oS wS c ⟨oRect (xo c) (chunkOf (yc c) s), shapeCast S2x256x512 (shapeCast (s := S1x512x512) S512x512 (fun i => RX oS wS c ((sRect s).emb i)) hc') hc⟩ :=
  isPiece oS wS c _ _ _ ((slot_loaded oS wS s (xn c) hc').trans (by rw [(src_rx c s).1, (src_rx c s).2])) hc
/-- A slot received by way of the partner along `y`. -/
theorem ry_piece (c : Dev nD) (s : Fin 4) (hc hc') :
    IsPiece oS wS c ⟨oRect (xo c) (chunkOf (yc (yn c)) s), shapeCast S2x256x512 (shapeCast (s := S1x512x512) S512x512 (fun i => RY oS wS c ((sRect s).emb i)) hc') hc⟩ :=
  isPiece oS wS c _ _ _ ((slot_loaded oS wS s (xn (yn c)) hc').trans (by rw [(src_ry c s).1, (src_ry c s).2])) hc

/-- Where, counted from the last store, the piece of rows half `a`, chunk `j` was stored. -/
def storedAt (c : Dev nD) (a : Fin 2) (j : Fin 8) : ℕ :=
  if a = xc c then ![15, 13, 10, 7, 14, 12, 9, 6] j
  else if j.val / 4 = (yc c).val then ![11, 8, 5, 4] (⟨j.val % 4, Nat.mod_lt _ (by decide)⟩ : Fin 4) else 3 - j.val % 4

theorem storedAt_lt : ∀ (c : Dev nD) (a : Fin 2) (j : Fin 8), storedAt c a j < 16 := by decide

theorem out_close (c : Dev nD) (g : (cc0_stg1_0 : Ref sig .tc).ty.Contents (Elt F)) (l : List (View.Piece (Elt F) S4x256x4096 .bf16))
    (hp : ∀ p ∈ l, IsPiece oS wS c p) (hlen : l.length = 16) (hcov : ∀ a j h, (l[storedAt c a j]'h).1 = oRect a j) :
    (outM.view.loc (c : Thread nD τ) ↦[Finset.univ]{fullShare} (outM.view.writes (Elt F) g l : Buf (Elt F) ((c : Thread nD τ).loc cc0_stg1_0)) : sProp 𝕄)
      ⊢ (((c : Thread nD τ).loc cc0_stg1_0) ↦{fullShare} (outV oS wS c : Buf (Elt F) ((c : Thread nD τ).loc cc0_stg1_0))) :=
  Entails.of_eq (congrArg (fun f => (outM.view.loc (c : Thread nD τ) ↦[Finset.univ]{fullShare} f : sProp 𝕄))
    (out_written oS wS c g l hp fun a j => ⟨_, List.getElem_mem (hlen ▸ storedAt_lt c a j), congrArg (fun r : Rect S4x256x4096 => r.set) (hcov a j _)⟩))

/-! ## What is left after the body -/

/-- The scratch buffers at some contents, as the region's end takes them. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f) ∗ rxAll (F := F) c ∗ ryAll (F := F) c)

/-- The cells of the transfers and of the local copies, back at zero. -/
def zeros (c : Dev nD) : sProp 𝕄 :=
  iprop(semVal (dCell c ⟨2, by decide⟩) 0 ∗ semVal (dCell c ⟨3, by decide⟩) 0
    ∗ (semVal (dCell c (sxS 0)) 0 ∗ semVal (dCell c (sxS 1)) 0 ∗ semVal (dCell c (sxS 2)) 0 ∗ semVal (dCell c (sxS 3)) 0)
    ∗ (semVal (dCell c (sxR 0)) 0 ∗ semVal (dCell c (sxR 1)) 0 ∗ semVal (dCell c (sxR 2)) 0 ∗ semVal (dCell c (sxR 3)) 0)
    ∗ (semVal (dCell c (syS 0)) 0 ∗ semVal (dCell c (syS 1)) 0 ∗ semVal (dCell c (syS 2)) 0 ∗ semVal (dCell c (syS 3)) 0)
    ∗ (semVal (dCell c (syR 0)) 0 ∗ semVal (dCell c (syR 1)) 0 ∗ semVal (dCell c (syR 2)) 0 ∗ semVal (dCell c (syR 3)) 0))

/-- A received slot made whole again: the half passed on, come back, and the half kept. -/
theorem rx_joined (c : Dev nD) (s : Fin 4) (f : S4x512x512.Idx → Elt F .bf16) :
    iprop(rxPts c s (fullShare : PosShare TreeShare).left f ∗ ((slotM rxM s).view.loc (c : Thread nD τ) ↦[(slotM rxM s).view.set]{(fullShare : PosShare TreeShare).right} (f : Buf (Elt F) ((c : Thread nD τ).loc cc0_scratch2))))
      ⊢ (rxPts c s fullShare f : sProp 𝕄) := (rx_halves c s f).2

theorem ry_shut (c : Dev nD) (s : Fin 4) (f : S4x512x512.Idx → Elt F .bf16) :
    ((slotM ryM s).view.loc (c : Thread nD τ) ↦[(slotM ryM s).view.set]{fullShare} (f : Buf (Elt F) ((c : Thread nD τ).loc cc0_scratch3)))
      ⊢ (ryPts c s fullShare f : sProp 𝕄) := BI.Entails.refl _

theorem places : ∀ c : Dev nD, c = (0 : Fin 4) ∨ c = (1 : Fin 4) ∨ c = (2 : Fin 4) ∨ c = (3 : Fin 4) := by decide

set_option sl_exec.dmaWindow true in
set_option maxHeartbeats 16000000 in
/-- One device's body, from its tokens, positions and buffers to its output block. -/
theorem body_run (c : Dev nD) (W : Waits sig Unit)
    (f0 : (cc0_scratch0 : Ref sig .tc).ty.Contents (Elt F))
    (f1 : (cc0_scratch1 : Ref sig .tc).ty.Contents (Elt F)) (fo : (cc0_stg1_0 : Ref sig .tc).ty.Contents (Elt F)) (Kt : PUnit → sProp 𝕄) :
    iprop(records oS wS K ∗ levAts L lv ∗ owes (c : Thread nD τ) (O c 0) W ∗ bkit (F := F) c
      ∗ (xkit (F := F) c 0 ∗ xkit (F := F) c 1 ∗ xkit (F := F) c 2 ∗ xkit (F := F) c 3) ∗ (ykit (F := F) c 0 ∗ ykit (F := F) c 1 ∗ ykit (F := F) c 2 ∗ ykit (F := F) c 3)
      ∗ (oM.view.loc (c : Thread nD τ) ↦[Finset.univ]{fullShare} oS c) ∗ (wM.view.loc (c : Thread nD τ) ↦[Finset.univ]{fullShare} wS c)
      ∗ (wbM.view.loc (c : Thread nD τ) ↦[Finset.univ]{fullShare} f0) ∗ (sbM.view.loc (c : Thread nD τ) ↦[Finset.univ]{fullShare} f1) ∗ rxAll (F := F) c ∗ ryAll (F := F) c
      ∗ (outM.view.loc (c : Thread nD τ) ↦[Finset.univ]{fullShare} fo) ∗ semVal (dCell c ⟨2, by decide⟩) 0 ∗ semVal (dCell c ⟨3, by decide⟩) 0
      ∗ (((∃ W', owes (c : Thread nD τ) (O c 10) W') ∗ (oM.view.loc (c : Thread nD τ) ↦[Finset.univ]{fullShare} oS c) ∗ (wM.view.loc (c : Thread nD τ) ↦[Finset.univ]{fullShare} wS c)
        ∗ (((c : Thread nD τ).loc cc0_stg1_0) ↦{fullShare} (outV oS wS c : Buf (Elt F) ((c : Thread nD τ).loc cc0_stg1_0))) ∗ scratch (F := F) c ∗ semVal (barCell c) 0 ∗ zeros (F := F) c) -∗ Kt ⟨⟩))
      ⊢ wp frame (wpE (defs₀ (F := F)) 𝒱₀ (c : Thread nD τ) none) Set.univ
          (cc0__out_body oM (Memref.isWhole_whole _) wM (Memref.isWhole_whole _) outM (Memref.isWhole_whole _) wbM (Memref.isWhole_whole _)
            sbM (Memref.isWhole_whole _) rxM (Memref.isWhole_whole _) ryM (Memref.isWhole_whole _) cc0_scratch4 cc0_scratch5 cc0_scratch6 cc0_scratch7 cc0_scratch8) Kt := by
  unfold bkit xkit ykit
  iintro ⟨#HR, #Hlev, HO, ⟨HtX, HtY, HatB, HcB⟩, ⟨⟨X0a, X0b, X0c, X0d, X0e⟩, ⟨X1a, X1b, X1c, X1d, X1e⟩, ⟨X2a, X2b, X2c, X2d, X2e⟩, ⟨X3a, X3b, X3c, X3d, X3e⟩⟩,
    ⟨⟨Y0a, Y0b, Y0c, Y0d, Y0e⟩, ⟨Y1a, Y1b, Y1c, Y1d, Y1e⟩, ⟨Y2a, Y2b, Y2c, Y2d, Y2e⟩, ⟨Y3a, Y3b, Y3c, Y3d, Y3e⟩⟩, Ho, Hw, Hwb, Hsb, Hrx, Hry, Hout, Hz2, Hz3, Hk⟩
  have hmw := fun (q : DmaSem sig) n h => mayWait_low (F := F) c (.dma q) n h
  rw [cc0__out_body_eq_skeleton]; unfold cc0__out_body_skel
  sl_exec
  iapply (wp_sig_x oS wS K c (dev1_eq c _) rfl) $$ [HO HtX Hrx]
  · isplitr; · iexact HR
    isplitl [HO]; · iexact HO
    isplitl [HtX]; · iexact HtX
    iexact Hrx
  iintro HO
  sl_exec
  iapply (wp_sig_y oS wS K c (dev2_eq c _) rfl) $$ [HO HtY Hry]
  · isplitr; · iexact HR
    isplitl [HO]; · iexact HO
    isplitl [HtY]; · iexact HtY
    iexact Hry
  iintro HO
  sl_exec
  iapply (wp_wait_bar oS wS K c rfl) $$ [HO HcB HatB]
  · isplitr; · iexact HR
    isplitr; · iexact Hlev
    isplitl [HcB]; · iexact HcB
    isplitl [HO]; · iexact HO
    iexact HatB
  unfold rxAll ryAll
  iintro ⟨HO, HzB, ⟨%fy, Hry⟩, ⟨%fx, Hrx⟩⟩
  ihave Hrx := (rx_slots (xn c) fx).1 $$ Hrx
  icases Hrx with ⟨R0, R1, R2, R3⟩
  ihave Hry := (ry_slots (yn c) fy).1 $$ Hry
  icases Hry with ⟨T0, T1, T2, T3⟩
  -- from here on the program asks for the place of the device in the mesh
  rcases places c with hc | hc | hc | hc
  all_goals
    sl_exec (disch := (subst hc; decide))
    ihave Hsb := (sb_carve oS wS c 0 (Finset.subset_univ _) _ ?_) $$ Hsb
    · first
      | (have hy : yc c = 0 := (by subst hc; decide)); exact sb_before oS wS c 0 0 1 (by decide) _ (by subst hc; rfl) _ _ _ _ _ _ _ _
      | (have hy : yc c = 1 := (by subst hc; decide)); exact sb_before oS wS c 0 1 0 (by decide) _ (by subst hc; rfl) _ _ _ _ _ _ _ _
    icases Hsb with ⟨S0, Hsb⟩
    iapply (wp_send_x oS wS K c 0 (by subst hc; rfl) rfl rfl rfl rfl 2 rfl fx) $$ [S0 R0 HO X0a X0b]
    · isplitr; · iexact HR
      isplitl [S0]; · iexact S0
      isplitl [R0]; · iexact R0
      isplitl [HO]; · iexact HO
      isplitl [X0a]; · iexact X0a
      iexact X0b
    iintro ⟨X0a, HO⟩
    sl_exec (disch := (subst hc; decide))
    ihave Hsb := (sb_carve oS wS c 1 sb_sub1 _ ?_) $$ Hsb
    · first
      | (have hy : yc c = 0 := (by subst hc; decide)); exact sb_before oS wS c 1 0 1 (by decide) _ (by subst hc; rfl) _ _ _ _ _ _ _ _
      | (have hy : yc c = 1 := (by subst hc; decide)); exact sb_before oS wS c 1 1 0 (by decide) _ (by subst hc; rfl) _ _ _ _ _ _ _ _
    icases Hsb with ⟨S1, Hsb⟩
    iapply (wp_send_x oS wS K c 1 (by subst hc; rfl) rfl rfl rfl rfl 3 rfl fx) $$ [S1 R1 HO X1a X1b]
    · isplitr; · iexact HR
      isplitl [S1]; · iexact S1
      isplitl [R1]; · iexact R1
      isplitl [HO]; · iexact HO
      isplitl [X1a]; · iexact X1a
      iexact X1b
    iintro ⟨X1a, HO⟩
    sl_exec (disch := (subst hc; decide))
    iapply (wp_wait_xfer oS wS K c (sxR 0) (by decide) rfl (credit_rx 0) 4 (by decide)) $$ [X0e HO X0d]
    · isplitr; · iexact HR
      isplitr; · iexact Hlev
      isplitl [X0e]; · iexact X0e
      isplitl [HO]; · iexact HO
      iexact X0d
    iintro ⟨HO, X0d, X0e⟩
    ihave X0e := (Entails.of_eq (pay_sxR oS wS c 0)) $$ X0e
    sl_exec (disch := (subst hc; decide))
    ihave X0e := (rx_halves c 0 _).1 $$ X0e
    icases X0e with ⟨U0, X0e⟩
    iapply (wp_send_y oS wS K c 0 (by subst hc; rfl) rfl rfl rfl rfl 4 rfl fy) $$ [U0 T0 HO Y0a Y0b]
    · isplitr; · iexact HR
      isplitl [U0]; · iexact U0
      isplitl [T0]; · iexact T0
      isplitl [HO]; · iexact HO
      isplitl [Y0a]; · iexact Y0a
      iexact Y0b
    iintro ⟨Y0a, HO⟩
    sl_exec (disch := (subst hc; decide))
    ihave Hsb := (sb_carve oS wS c 2 sb_sub2 _ ?_) $$ Hsb
    · first
      | (have hy : yc c = 0 := (by subst hc; decide)); exact sb_before oS wS c 2 0 1 (by decide) _ (by subst hc; rfl) _ _ _ _ _ _ _ _
      | (have hy : yc c = 1 := (by subst hc; decide)); exact sb_before oS wS c 2 1 0 (by decide) _ (by subst hc; rfl) _ _ _ _ _ _ _ _
    icases Hsb with ⟨S2, Hsb⟩
    iapply (wp_send_x oS wS K c 2 (by subst hc; rfl) rfl rfl rfl rfl 5 rfl fx) $$ [S2 R2 HO X2a X2b]
    · isplitr; · iexact HR
      isplitl [S2]; · iexact S2
      isplitl [R2]; · iexact R2
      isplitl [HO]; · iexact HO
      isplitl [X2a]; · iexact X2a
      iexact X2b
    iintro ⟨X2a, HO⟩
    sl_exec (disch := (subst hc; decide))
    iapply (wp_wait_xfer oS wS K c (sxR 1) (by decide) rfl (credit_rx 1) 6 (by decide)) $$ [X1e HO X1d]
    · isplitr; · iexact HR
      isplitr; · iexact Hlev
      isplitl [X1e]; · iexact X1e
      isplitl [HO]; · iexact HO
      iexact X1d
    iintro ⟨HO, X1d, X1e⟩
    ihave X1e := (Entails.of_eq (pay_sxR oS wS c 1)) $$ X1e
    sl_exec (disch := (subst hc; decide))
    ihave X1e := (rx_halves c 1 _).1 $$ X1e
    icases X1e with ⟨U1, X1e⟩
    iapply (wp_send_y oS wS K c 1 (by subst hc; rfl) rfl rfl rfl rfl 6 rfl fy) $$ [U1 T1 HO Y1a Y1b]
    · isplitr; · iexact HR
      isplitl [U1]; · iexact U1
      isplitl [T1]; · iexact T1
      isplitl [HO]; · iexact HO
      isplitl [Y1a]; · iexact Y1a
      iexact Y1b
    iintro ⟨Y1a, HO⟩
    sl_exec (disch := (subst hc; decide))
    ihave Hsb := (sb_carve oS wS c 3 sb_sub3 _ ?_) $$ Hsb
    · first
      | (have hy : yc c = 0 := (by subst hc; decide)); exact sb_before oS wS c 3 0 1 (by decide) _ (by subst hc; rfl) _ _ _ _ _ _ _ _
      | (have hy : yc c = 1 := (by subst hc; decide)); exact sb_last oS wS c 3 1 _ (by subst hc; rfl) _ _ _ _ _ _ _
    icases Hsb with ⟨S3, Hsb⟩
    iapply (wp_send_x oS wS K c 3 (by subst hc; rfl) rfl rfl rfl rfl 7 rfl fx) $$ [S3 R3 HO X3a X3b]
    · isplitr; · iexact HR
      isplitl [S3]; · iexact S3
      isplitl [R3]; · iexact R3
      isplitl [HO]; · iexact HO
      isplitl [X3a]; · iexact X3a
      iexact X3b
    iintro ⟨X3a, HO⟩
    sl_exec (disch := (subst hc; decide))
    iapply (wp_wait_xfer oS wS K c (sxR 2) (by decide) rfl (credit_rx 2) 8 (by decide)) $$ [X2e HO X2d]
    · isplitr; · iexact HR
      isplitr; · iexact Hlev
      isplitl [X2e]; · iexact X2e
      isplitl [HO]; · iexact HO
      iexact X2d
    iintro ⟨HO, X2d, X2e⟩
    ihave X2e := (Entails.of_eq (pay_sxR oS wS c 2)) $$ X2e
    sl_exec (disch := (subst hc; decide))
    ihave X2e := (rx_halves c 2 _).1 $$ X2e
    icases X2e with ⟨U2, X2e⟩
    iapply (wp_send_y oS wS K c 2 (by subst hc; rfl) rfl rfl rfl rfl 8 rfl fy) $$ [U2 T2 HO Y2a Y2b]
    · isplitr; · iexact HR
      isplitl [U2]; · iexact U2
      isplitl [T2]; · iexact T2
      isplitl [HO]; · iexact HO
      isplitl [Y2a]; · iexact Y2a
      iexact Y2b
    iintro ⟨Y2a, HO⟩
    sl_exec (disch := (subst hc; decide))
    iapply (wp_wait_xfer oS wS K c (sxR 3) (by decide) rfl (credit_rx 3) 9 (by decide)) $$ [X3e HO X3d]
    · isplitr; · iexact HR
      isplitr; · iexact Hlev
      isplitl [X3e]; · iexact X3e
      isplitl [HO]; · iexact HO
      iexact X3d
    iintro ⟨HO, X3d, X3e⟩
    ihave X3e := (Entails.of_eq (pay_sxR oS wS c 3)) $$ X3e
    sl_exec (disch := (subst hc; decide))
    ihave X3e := (rx_halves c 3 _).1 $$ X3e
    icases X3e with ⟨U3, X3e⟩
    iapply (wp_send_y oS wS K c 3 (by subst hc; rfl) rfl rfl rfl rfl 9 rfl fy) $$ [U3 T3 HO Y3a Y3b]
    · isplitr; · iexact HR
      isplitl [U3]; · iexact U3
      isplitl [T3]; · iexact T3
      isplitl [HO]; · iexact HO
      isplitl [Y3a]; · iexact Y3a
      iexact Y3b
    iintro ⟨Y3a, HO⟩
    sl_exec (disch := (subst hc; decide))
    iapply (wp_wait_xfer oS wS K c (syR 0) (by decide) rfl (credit_ry 0) 10 (by decide)) $$ [Y0e HO Y0d]
    · isplitr; · iexact HR
      isplitr; · iexact Hlev
      isplitl [Y0e]; · iexact Y0e
      isplitl [HO]; · iexact HO
      iexact Y0d
    iintro ⟨HO, Y0d, Y0e⟩
    ihave Y0e := (Entails.of_eq (pay_syR oS wS c 0)) $$ Y0e
    ihave Y0e := (ry_open c 0 _) $$ Y0e
    sl_exec (disch := (subst hc; decide))
    iapply (wp_wait_xfer oS wS K c (syR 1) (by decide) rfl (credit_ry 1) 10 (by decide)) $$ [Y1e HO Y1d]
    · isplitr; · iexact HR
      isplitr; · iexact Hlev
      isplitl [Y1e]; · iexact Y1e
      isplitl [HO]; · iexact HO
      iexact Y1d
    iintro ⟨HO, Y1d, Y1e⟩
    ihave Y1e := (Entails.of_eq (pay_syR oS wS c 1)) $$ Y1e
    ihave Y1e := (ry_open c 1 _) $$ Y1e
    sl_exec (disch := (subst hc; decide))
    iapply (wp_wait_xfer oS wS K c (syR 2) (by decide) rfl (credit_ry 2) 10 (by decide)) $$ [Y2e HO Y2d]
    · isplitr; · iexact HR
      isplitr; · iexact Hlev
      isplitl [Y2e]; · iexact Y2e
      isplitl [HO]; · iexact HO
      iexact Y2d
    iintro ⟨HO, Y2d, Y2e⟩
    ihave Y2e := (Entails.of_eq (pay_syR oS wS c 2)) $$ Y2e
    ihave Y2e := (ry_open c 2 _) $$ Y2e
    sl_exec (disch := (subst hc; decide))
    iapply (wp_wait_xfer oS wS K c (syR 3) (by decide) rfl (credit_ry 3) 10 (by decide)) $$ [Y3e HO Y3d]
    · isplitr; · iexact HR
      isplitr; · iexact Hlev
      isplitl [Y3e]; · iexact Y3e
      isplitl [HO]; · iexact HO
      iexact Y3d
    iintro ⟨HO, Y3d, Y3e⟩
    ihave Y3e := (Entails.of_eq (pay_syR oS wS c 3)) $$ Y3e
    ihave Y3e := (ry_open c 3 _) $$ Y3e
    sl_exec (disch := (subst hc; decide))
    iapply (wp_wait_xfer oS wS K c (sxS 0) (by decide) rfl (credit_sb 0) 10 (by decide)) $$ [X0a HO X0c]
    · isplitr; · iexact HR
      isplitr; · iexact Hlev
      isplitl [X0a]; · iexact X0a
      isplitl [HO]; · iexact HO
      iexact X0c
    iintro ⟨HO, X0c, X0a⟩
    ihave X0a := (Entails.of_eq (pay_sxS oS wS c 0)) $$ X0a
    sl_exec (disch := (subst hc; decide))
    iapply (wp_wait_xfer oS wS K c (syS 0) (by decide) rfl (credit_rx 0) 10 (by decide)) $$ [Y0a HO Y0c]
    · isplitr; · iexact HR
      isplitr; · iexact Hlev
      isplitl [Y0a]; · iexact Y0a
      isplitl [HO]; · iexact HO
      iexact Y0c
    iintro ⟨HO, Y0c, Y0a⟩
    ihave Y0a := (Entails.of_eq (pay_syS oS wS c 0)) $$ Y0a
    sl_exec (disch := (subst hc; decide))
    iapply (wp_wait_xfer oS wS K c (sxS 1) (by decide) rfl (credit_sb 1) 10 (by decide)) $$ [X1a HO X1c]
    · isplitr; · iexact HR
      isplitr; · iexact Hlev
      isplitl [X1a]; · iexact X1a
      isplitl [HO]; · iexact HO
      iexact X1c
    iintro ⟨HO, X1c, X1a⟩
    ihave X1a := (Entails.of_eq (pay_sxS oS wS c 1)) $$ X1a
    sl_exec (disch := (subst hc; decide))
    iapply (wp_wait_xfer oS wS K c (syS 1) (by decide) rfl (credit_rx 1) 10 (by decide)) $$ [Y1a HO Y1c]
    · isplitr; · iexact HR
      isplitr; · iexact Hlev
      isplitl [Y1a]; · iexact Y1a
      isplitl [HO]; · iexact HO
      iexact Y1c
    iintro ⟨HO, Y1c, Y1a⟩
    ihave Y1a := (Entails.of_eq (pay_syS oS wS c 1)) $$ Y1a
    sl_exec (disch := (subst hc; decide))
    iapply (wp_wait_xfer oS wS K c (sxS 2) (by decide) rfl (credit_sb 2) 10 (by decide)) $$ [X2a HO X2c]
    · isplitr; · iexact HR
      isplitr; · iexact Hlev
      isplitl [X2a]; · iexact X2a
      isplitl [HO]; · iexact HO
      iexact X2c
    iintro ⟨HO, X2c, X2a⟩
    ihave X2a := (Entails.of_eq (pay_sxS oS wS c 2)) $$ X2a
    sl_exec (disch := (subst hc; decide))
    iapply (wp_wait_xfer oS wS K c (syS 2) (by decide) rfl (credit_rx 2) 10 (by decide)) $$ [Y2a HO Y2c]
    · isplitr; · iexact HR
      isplitr; · iexact Hlev
      isplitl [Y2a]; · iexact Y2a
      isplitl [HO]; · iexact HO
      iexact Y2c
    iintro ⟨HO, Y2c, Y2a⟩
    ihave Y2a := (Entails.of_eq (pay_syS oS wS c 2)) $$ Y2a
    sl_exec (disch := (subst hc; decide))
    iapply (wp_wait_xfer oS wS K c (sxS 3) (by decide) rfl (credit_sb 3) 10 (by decide)) $$ [X3a HO X3c]
    · isplitr; · iexact HR
      isplitr; · iexact Hlev
      isplitl [X3a]; · iexact X3a
      isplitl [HO]; · iexact HO
      iexact X3c
    iintro ⟨HO, X3c, X3a⟩
    ihave X3a := (Entails.of_eq (pay_sxS oS wS c 3)) $$ X3a
    sl_exec (disch := (subst hc; decide))
    iapply (wp_wait_xfer oS wS K c (syS 3) (by decide) rfl (credit_rx 3) 10 (by decide)) $$ [Y3a HO Y3c]
    · isplitr; · iexact HR
      isplitr; · iexact Hlev
      isplitl [Y3a]; · iexact Y3a
      isplitl [HO]; · iexact HO
      iexact Y3c
    iintro ⟨HO, Y3c, Y3a⟩
    ihave Y3a := (Entails.of_eq (pay_syS oS wS c 3)) $$ Y3a
    sl_exec (disch := (subst hc; decide))
    ihave Hout := (out_close oS wS c fo _ ?_ rfl ?_) $$ Hout
    · simp only [List.forall_mem_cons, List.not_mem_nil, false_imp_iff, implies_true, and_true]
      refine ⟨?_, ?_, ?_, ?_, ?_, ?_, ?_, ?_, ?_, ?_, ?_, ?_, ?_, ?_, ?_, ?_⟩
      · subst hc; exact ry_piece oS wS _ 3 _ _
      · subst hc; exact ry_piece oS wS _ 2 _ _
      · subst hc; exact ry_piece oS wS _ 1 _ _
      · subst hc; exact ry_piece oS wS _ 0 _ _
      · subst hc; exact rx_piece oS wS _ 3 _ _
      · subst hc; exact rx_piece oS wS _ 2 _ _
      · subst hc; exact own_last oS wS _ 7 1 _ rfl _ _ _ _ _
      · subst hc; exact own_before oS wS _ 3 0 1 (by decide) _ rfl _ _ _ _ _ _
      · subst hc; exact rx_piece oS wS _ 1 _ _
      · subst hc; exact own_before oS wS _ 6 1 0 (by decide) _ rfl _ _ _ _ _ _
      · subst hc; exact own_before oS wS _ 2 0 1 (by decide) _ rfl _ _ _ _ _ _
      · subst hc; exact rx_piece oS wS _ 0 _ _
      · subst hc; exact own_before oS wS _ 5 1 0 (by decide) _ rfl _ _ _ _ _ _
      · subst hc; exact own_before oS wS _ 1 0 1 (by decide) _ rfl _ _ _ _ _ _
      · subst hc; exact own_before oS wS _ 4 1 0 (by decide) _ rfl _ _ _ _ _ _
      · subst hc; exact own_before oS wS _ 0 0 1 (by decide) _ rfl _ _ _ _ _ _
    · subst hc; intro a j _
      fin_cases a <;> fin_cases j <;> rfl
    rw [wp_ret]; imodintro
    iapply Hk
    isplitl [HO]
    · iexists _; iexact HO
    isplitl [Ho]; · iexact Ho
    isplitl [Hw]; · iexact Hw
    isplitl [Hout]; · iexact Hout
    isplitl [Hwb X0a X1a X2a X3a X0e X1e X2e X3e Y0a Y1a Y2a Y3a Y0e Y1e Y2e Y3e]
    · unfold scratch rxAll ryAll
      isplitl [Hwb]; · iexists _; iexact Hwb
      isplitl [X0a X1a X2a X3a]
      · iexists _; iapply (sb_slots c _).2
        isplitl [X0a]; · iexact X0a
        isplitl [X1a]; · iexact X1a
        isplitl [X2a] <;> iassumption
      isplitl [X0e X1e X2e X3e Y0a Y1a Y2a Y3a]
      · iexists (RX oS wS c); iapply (rx_slots c _).2
        isplitl [X0e Y0a]; · iapply (rx_joined c 0 _); isplitl [Y0a] <;> iassumption
        isplitl [X1e Y1a]; · iapply (rx_joined c 1 _); isplitl [Y1a] <;> iassumption
        isplitl [X2e Y2a]; · iapply (rx_joined c 2 _); isplitl [Y2a] <;> iassumption
        iapply (rx_joined c 3 _); isplitl [Y3a] <;> iassumption
      iexists (RY oS wS c); iapply (ry_slots c _).2
      isplitl [Y0e]; · iapply (ry_shut c 0 _); iexact Y0e
      isplitl [Y1e]; · iapply (ry_shut c 1 _); iexact Y1e
      isplitl [Y2e]; · iapply (ry_shut c 2 _); iexact Y2e
      iapply (ry_shut c 3 _); iexact Y3e
    isplitl [HzB]; · iexact HzB
    unfold zeros
    isplitl [Hz2]; · iexact Hz2
    isplitl [Hz3]; · iexact Hz3
    isplitl [X0c X1c X2c X3c]
    · isplitl [X0c]; · iexact X0c
      isplitl [X1c]; · iexact X1c
      isplitl [X2c] <;> iassumption
    isplitl [X0d X1d X2d X3d]
    · isplitl [X0d]; · iexact X0d
      isplitl [X1d]; · iexact X1d
      isplitl [X2d] <;> iassumption
    isplitl [Y0c Y1c Y2c Y3c]
    · isplitl [Y0c]; · iexact Y0c
      isplitl [Y1c]; · iexact Y1c
      isplitl [Y2c] <;> iassumption
    isplitl [Y0d]; · iexact Y0d
    isplitl [Y1d]; · iexact Y1d
    isplitl [Y2d] <;> iassumption

end Cert.OutProof
end
end
-- ==== Proof.OutLaunch.lean ====
/-
# The output projection on the 2×2 mesh: the launch and the run

From the launch's resources every device gets the protocol's records, its positions, the tokens of the duties it pays and the
credit of its cells; with them each runs the body of `OutBody`. The run of `@main` follows, over any float values.
-/
module

public import proofs.«01_k».proof.Proof.OutBody
public import Idealize.ShloMosaic.Lib.Pipeline.CollectiveSegs
public import Idealize.ShloMosaic.Lib.Quiescent

@[expose] public section

noncomputable section

namespace Cert.OutProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## Families over the four slots -/

/-- A fact about each of the four semaphores of one kind. -/
def four (f : Fin 4 → DmaSem sig) (Φ : DmaSem sig → sProp 𝕄) : sProp 𝕄 := bigSep Finset.univ fun s : Fin 4 => Φ (f s)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem assoc_eq (P Q R : sProp 𝕄) : iprop((P ∗ Q) ∗ R) = iprop(P ∗ Q ∗ R) := sep_assoc.antisymm sep_assoc'

/-- The sixteen semaphores of the transfers, kind by kind. -/
def kinds (Φ : DmaSem sig → sProp 𝕄) : sProp 𝕄 := iprop(four sxS Φ ∗ four sxR Φ ∗ four syS Φ ∗ four syR Φ)

theorem kinds_chain (Φ : DmaSem sig → sProp 𝕄) : kinds Φ
    = iprop(Φ (sxS 0) ∗ Φ (sxS 1) ∗ Φ (sxS 2) ∗ Φ (sxS 3) ∗ Φ (sxR 0) ∗ Φ (sxR 1) ∗ Φ (sxR 2) ∗ Φ (sxR 3)
        ∗ Φ (syS 0) ∗ Φ (syS 1) ∗ Φ (syS 2) ∗ Φ (syS 3) ∗ Φ (syR 0) ∗ Φ (syR 1) ∗ Φ (syR 2) ∗ Φ (syR 3)) := by
  unfold kinds four; simp only [bigSep_fin4, assoc_eq]

theorem seventeen (Ψ : SemLoc sig → sProp 𝕄) :
    bigSep Finset.univ (fun k : Fin 17 => Ψ (csem k)) = iprop(Ψ (.reg barS) ∗ kinds fun q => Ψ (.dma q)) := by
  rw [kinds_chain]
  exact bigSep_univ_eq_bigSepL [0, 1, 2, 3, 4, 5, 6, 7, 8, 9, 10, 11, 12, 13, 14, 15, 16] (by decide) (by decide) _

/-- The kernel's own semaphores: the local transfers' two and the sixteen of the protocol. -/
def osem : Fin 18 → SemLoc sig := fun k => .dma ⟨k.val + 2, by show _ < 20; omega⟩

theorem ownSemFacts : Pipeline.OwnSemFacts cfg0.spec osem := by decide

/-- The local transfers' semaphores at zero. -/
def locals (c : Dev nD) : sProp 𝕄 := iprop(semVal (dCell c ⟨2, by decide⟩) 0 ∗ semVal (dCell c ⟨3, by decide⟩) 0)

theorem ownSems0_eq (c : Dev nD) : (Pipeline.ownSems0 (Ix := Unit) (Name := ℕ) (U := UU) (Lvl := ℕ) (Val := Elt F) (τ := τ) osem c : sProp 𝕄)
    = iprop(locals c ∗ kinds fun q => semVal (dCell c q) 0) := by
  rw [Pipeline.ownSems0_eq_of_list c osem [0, 1, 2, 3, 4, 5, 6, 7, 8, 9, 10, 11, 12, 13, 14, 15, 16, 17] (by decide) (by decide), kinds_chain]
  unfold locals; rw [assoc_eq]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem zeros_eq (c : Dev nD) : (zeros c : sProp 𝕄) = iprop(locals c ∗ kinds fun q => semVal (dCell c q) 0) := by
  unfold zeros locals kinds four; simp only [bigSep_fin4, assoc_eq]

/-! ## The tokens -/

/-- The two duties of a barrier and the one of each transfer's cell. -/
abbrev TokIx : Type := Bool ⊕ (Fin 4 × Fin 4)
/-- The semaphores of the transfers, by kind and slot. -/
def kindSem (k s : Fin 4) : DmaSem sig := match k with | 0 => sxS s | 1 => sxR s | 2 => syS s | 3 => syR s
abbrev tokOf (cj : Dev nD × TokIx) : GSem nD τ sig × ℕ × Bool := match cj.2 with
  | .inl b => (barCell cj.1, 0, b)
  | .inr ks => (dCell cj.1 (kindSem ks.1 ks.2), 0, false)

theorem kindSem_inj : Function.Injective (fun ks : Fin 4 × Fin 4 => kindSem ks.1 ks.2) := by decide

theorem tokOf_injective : Function.Injective tokOf := by
  rintro ⟨c, j⟩ ⟨c', j'⟩ h
  have h1 : c = c' := by
    have := congrArg (fun x : GSem nD τ sig × ℕ × Bool => x.1.1.1) h
    rcases j with b | ks <;> rcases j' with b' | ks' <;> exact this
  subst h1
  rcases j with b | ks <;> rcases j' with b' | ks'
  · have := congrArg (fun x : GSem nD τ sig × ℕ × Bool => x.2.2) h
    have hb : b = b' := this
    rw [hb]
  · exact absurd (congrArg (fun x : GSem nD τ sig × ℕ × Bool => x.1.2) h) (fun h' => by cases h')
  · exact absurd (congrArg (fun x : GSem nD τ sig × ℕ × Bool => x.1.2) h) (fun h' => by cases h')
  · have h2 : SemLoc.dma (kindSem ks.1 ks.2) = SemLoc.dma (kindSem ks'.1 ks'.2) := congrArg (fun x : GSem nD τ sig × ℕ × Bool => x.1.2) h
    rw [show ks = ks' from kindSem_inj (SemLoc.dma.inj h2)]

theorem csem_inj : Function.Injective csem := by decide
theorem kcell_injective : Function.Injective (kcell : Dev nD × Fin 17 → GSem nD τ sig) := by
  rintro ⟨c, k⟩ ⟨c', k'⟩ h
  have h1 : c = c' := congrArg (fun g : GSem nD τ sig => g.1.1) h
  subst h1
  have h2 : k = k' := csem_inj (congrArg Prod.snd h)
  subst h2; rfl

def allCells : Finset (GSem nD τ sig) := Finset.univ.map ⟨kcell, kcell_injective⟩
def allToks : Finset (GSem nD τ sig × ℕ × Bool) := Finset.univ.map ⟨tokOf, tokOf_injective⟩

def u₀ : UU :=
  (initOf (Pipeline.cells cfgs cellOf_inj) (Pipeline.launchToks cfgs cellOf_inj), (initOf allCells allToks, 1))

/-- The token of a transfer's cell. -/
def tokD (c : Dev nD) (q : DmaSem sig) : sProp 𝕄 := dutyTok ER (dCell c q) 0 false

/-- The tokens of device `c`'s own cells; -/
def toks (c : Dev nD) : sProp 𝕄 :=
  iprop((dutyTok ER (barCell c) 0 false ∗ dutyTok ER (barCell c) 0 true) ∗ four sxS (tokD c) ∗ four sxR (tokD c) ∗ four syS (tokD c) ∗ four syR (tokD c))
/-- and the tokens it pays with. -/
def payToks (c : Dev nD) : sProp 𝕄 :=
  iprop((dutyTok ER (barCell (yn c)) 0 false ∗ dutyTok ER (barCell (xn c)) 0 true)
    ∗ four sxS (tokD c) ∗ four sxR (tokD (xn c)) ∗ four syS (tokD c) ∗ four syR (tokD (yn c)))

theorem toks_eq (c : Dev nD) : (bigSep Finset.univ fun j : TokIx => (dutyTok ER (tokOf (c, j)).1 (tokOf (c, j)).2.1 (tokOf (c, j)).2.2 : sProp 𝕄)) = toks c := by
  rw [bigSep_univ_sum, bigSep_univ_prod, bigSep_univ_eq_bigSepL [false, true] (by decide) (by decide), bigSep_fin4]
  rfl

theorem toks_around : (bigSep Finset.univ fun c : Dev nD => (toks c : sProp 𝕄)) ⊢ bigSep Finset.univ fun c : Dev nD => payToks c := by
  unfold toks payToks
  simp only [bigSep_sep']
  rw [bigSep_univ_equiv yEquiv (fun c : Dev nD => (dutyTok ER (barCell c) 0 false : sProp 𝕄)),
    bigSep_univ_equiv xEquiv (fun c : Dev nD => (dutyTok ER (barCell c) 0 true : sProp 𝕄)),
    bigSep_univ_equiv xEquiv (fun c : Dev nD => (four sxR (tokD c) : sProp 𝕄)),
    bigSep_univ_equiv yEquiv (fun c : Dev nD => (four syR (tokD c) : sProp 𝕄))]
  exact BI.Entails.refl _

/-! ## What the launch deals -/

section Launch
variable (oS : Dev nD → (cc0_stg0_0 : Ref sig .tc).ty.Contents (Elt F)) (wS : Dev nD → (main_arg1 : Ref sig .tc).ty.Contents (Elt F))

def G (c : Dev nD) : sProp 𝕄 :=
  iprop((bigSep Finset.univ fun k : Fin 17 => roundState ER (outRd oS wS) (kcell (c, k)) 0)
    ∗ (bigSep Finset.univ fun k : Fin 17 => iprop(atPos ER (kcell (c, k)) 0 ∅ 0 ∗ reached ER (kcell (c, k)) 0)) ∗ toks c)

theorem fund : BI.own (ER (initOf allCells allToks)) ⊢ (|==> bigSep Finset.univ (G oS wS) : sProp 𝕄) := by
  have hX (Φ : GSem nD τ sig → sProp 𝕄) : bigSep allCells Φ = bigSep Finset.univ fun c : Dev nD => bigSep Finset.univ fun k : Fin 17 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (outRd oS wS) allCells allToks) $$ HX with ⟨Hst, Hr, Hat, Htok⟩
  imodintro
  ihave Hst' := (Entails.of_eq (hX fun g => roundState ER (outRd oS wS) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's positions at its cells. -/
def posD (c : Dev nD) (q : DmaSem sig) : sProp 𝕄 := atPos ER (dCell c q) 0 ∅ 0

/-- What stays with one device. -/
def linear (c : Dev nD) : sProp 𝕄 := iprop(locals c ∗ (atPos ER (barCell c) 0 ∅ 0 ∗ kinds (posD c)) ∗ payToks c)
def G' (c : Dev nD) : sProp 𝕄 := iprop((∃ K, records oS wS K) ∗ linear c)

theorem core_alloc (c : Dev nD) :
    iprop(Pipeline.ownSems0 (Ix := Unit) (Name := ℕ) (U := UU) (Lvl := ℕ) (Val := Elt F) (τ := τ) osem c ∗ unscopedSems0 c ∗ G oS wS c)
      ⊢ |={Set.univ}=> iprop((bigSep Finset.univ fun k => iprop(∃ κ : ℕ, cellInv ER (outRd oS wS) κ (kcell (c, k))))
          ∗ (bigSep Finset.univ fun k => reached ER (kcell (c, k)) 0) ∗ locals c ∗ (bigSep Finset.univ fun k => atPos ER (kcell (c, k)) 0 ∅ 0) ∗ toks c) := by
  unfold G
  rw [ownSems0_eq, unscopedSems0_eq, bigSep_sep']
  iintro ⟨⟨Hloc, Hos⟩, Hus, Hst, ⟨Hat, Hr⟩, Htok⟩
  ihave Hv := (Entails.of_eq (seventeen (F := F) fun sm => semVal ((c : Thread nD τ), sm) 0).symm) $$ [Hos Hus]
  · isplitl [Hus] <;> iassumption
  imod (show iprop((bigSep Finset.univ fun k : Fin 17 => semVal (kcell (c, k)) 0) ∗ bigSep Finset.univ fun k : Fin 17 => roundState ER (outRd oS wS) (kcell (c, k)) 0)
      ⊢ (|={Set.univ}=> bigSep Finset.univ fun k => iprop(∃ κ : ℕ, cellInv ER (outRd oS wS) κ (kcell (c, k))) : sProp 𝕄) from by
        rw [← bigSep_sep']
        exact (bigSep_mono fun k _ => (Rounds.body_intro ER (outRd oS wS) (kcell (c, k))).trans inv_alloc).trans (bigSep_fupd _ _)) $$ [Hv Hst] with Hinv
  · isplitl [Hv] <;> iassumption
  imodintro
  iframe

theorem regroup :
    (bigSep Finset.univ fun c : Dev nD => iprop((bigSep Finset.univ fun k => iprop(∃ κ : ℕ, cellInv ER (outRd oS wS) κ (kcell (c, k))))
          ∗ (bigSep Finset.univ fun k => reached ER (kcell (c, k)) 0) ∗ locals c ∗ (bigSep Finset.univ fun k => atPos ER (kcell (c, k)) 0 ∅ 0) ∗ toks c) : sProp 𝕄)
      ⊢ bigSep Finset.univ (G' oS wS) := by
  rw [bigSep_sep', bigSep_sep', bigSep_sep', bigSep_sep', ← bigSep_univ_prod (fun ck : Dev nD × Fin 17 => iprop(∃ κ : ℕ, cellInv ER (outRd oS wS) κ (kcell ck))),
    ← bigSep_univ_prod (fun ck : Dev nD × Fin 17 => (reached ER (kcell ck) 0 : sProp 𝕄))]
  iintro ⟨HI, #HR, Hloc, Hat, Htok⟩
  ihave HK := (BI.bigSep_exists_pi Finset.univ (fun (ck : Dev nD × Fin 17) (κ : ℕ) => (cellInv ER (outRd oS wS) κ (kcell ck) : sProp 𝕄))) $$ HI
  icases HK with ⟨%K, #HI⟩
  ihave Htk := (toks_around (F := F)) $$ Htok
  ihave Hlin := (show iprop((bigSep Finset.univ fun c : Dev nD => locals c) ∗ (bigSep Finset.univ fun c : Dev nD => bigSep Finset.univ fun k : Fin 17 => atPos ER (kcell (c, k)) 0 ∅ 0)
      ∗ bigSep Finset.univ fun c : Dev nD => payToks c) ⊢ (bigSep Finset.univ fun c : Dev nD => linear c : sProp 𝕄) from by
        unfold linear
        rw [bigSep_sep', bigSep_sep', bigSep_congr (s := Finset.univ) (fun (c : Dev nD) _ => seventeen (F := F) fun sm => atPos ER ((c : Thread nD τ), sm) 0 ∅ 0)]
        exact BI.Entails.refl _) $$ [Hloc Hat Htk]
  · iframe
  ihave Hrec := (BI.bigSep_of_persistent (Finset.univ : Finset (Dev nD)) (iprop(∃ K, records oS wS K) : sProp 𝕄)) $$ []
  · iexists K; unfold records; isplitl; · iexact HI
    iexact HR
  unfold G'
  rw [bigSep_sep']
  iframe

theorem glob : (bigSep Finset.univ fun c => iprop(Pipeline.ownSems0 (Ix := Unit) (Name := ℕ) (U := UU) (Lvl := ℕ) (Val := Elt F) (τ := τ) osem c ∗ unscopedSems0 c ∗ G oS wS c) : sProp 𝕄)
    ⊢ |={Set.univ}=> bigSep Finset.univ (G' oS wS) :=
  ((bigSep_mono fun c _ => core_alloc oS wS c).trans (bigSep_fupd _ _)).trans (BI.fupd_mono (regroup oS wS))

end Launch

/-! ## The launch credit -/

theorem peer_peer (c : Dev nD) (b : Bool) : peer (peer c b) b = c := by
  unfold peer; cases b
  · exact yn_yn c
  · exact xn_xn c

/-- All devices together owe a cell its amount for each entry of the list that names its semaphore. -/
theorem oweL_sum (c : Dev nD) (sm : SemLoc sig) (l : List (Bool × SemLoc sig)) :
    ∑ d : Dev nD, oweL d l ((c : Thread nD τ), sm) () = (l.countP fun e => e.2 = sm) * amt sm := by
  induction l with
  | nil => exact (Finset.sum_const_zero).trans (Nat.zero_mul _).symm
  | cons e l ih =>
    have step (d : Dev nD) : oweL d (e :: l) ((c : Thread nD τ), sm) () = oweL d l ((c : Thread nD τ), sm) () + if d = peer c e.1 then (if e.2 = sm then amt sm else 0) else 0 := by
      rw [oweL, Pi.add_apply, Finsupp.add_apply, tallyAt_apply]
      congr 1
      by_cases hd : d = peer c e.1
      · subst hd; rw [if_pos rfl, peer_peer]
        by_cases hs : e.2 = sm
        · subst hs; rw [if_pos rfl, if_pos ⟨rfl, rfl⟩]
        · rw [if_neg hs, if_neg fun h => hs (congrArg Prod.snd h.1).symm]
      · rw [if_neg hd, if_neg fun h => hd (by
          have h1 : c = peer d e.1 := Fin.ext (congrArg (fun g : GSem nD τ sig => g.1.1.val) h.1)
          rw [h1, peer_peer])]
    rw [Finset.sum_congr rfl fun d _ => step d, Finset.sum_add_distrib, ih, Finset.sum_ite_eq' Finset.univ (peer c e.1) fun _ => _, if_pos (Finset.mem_univ _), List.countP_cons]
    by_cases hs : e.2 = sm
    · rw [if_pos hs, if_pos (decide_eq_true hs), Nat.add_mul, Nat.one_mul]
    · rw [if_neg hs, if_neg (by rw [decide_eq_false hs]; exact Bool.false_ne_true), Nat.add_zero, Nat.add_zero]

theorem launch_cell (c : Dev nD) (sm : SemLoc sig) (n : ℕ) (hn : (owedS.countP fun e => e.2 = sm) * amt sm = n) :
    tallyOn ((c : Thread nD τ), sm) (launchCredit (Pipeline.owing fun d => O d 0) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, ← hn]
  exact oweL_sum c sm owedS

theorem count_recv : ∀ s : Fin 4, (owedS.countP fun e => e.2 = .dma (sxR s)) = 1 ∧ (owedS.countP fun e => e.2 = .dma (syR s)) = 1 := by decide
theorem count_bar : (owedS.countP fun e => e.2 = .reg barS) = 2 := by decide

def credD (c : Dev nD) (q : DmaSem sig) : sProp 𝕄 := cred (tallyAt (dCell c q) () N)

/-- The cells a device's credit is for. -/
def recvIx : Bool × Fin 4 → SemLoc sig := fun k => .dma (if k.1 then sxR k.2 else syR k.2)
theorem recvIx_inj : Function.Injective recvIx := by decide

theorem creds (c : Dev nD) :
    (Pipeline.launchCred (fun d => O d 0) c : sProp 𝕄) ⊢ iprop(cred (tallyAt (barCell c) () 2) ∗ four sxR (credD c) ∗ four syR (credD c)) := by
  unfold Pipeline.launchCred
  rw [bigSep_univ_at _ (SemLoc.reg barS), launch_cell c _ 2 (by rw [count_bar]; rfl)]
  refine sep_mono_right ?_
  refine (bigSep_subset (t := Finset.univ.map ⟨recvIx, recvIx_inj⟩) (fun x hx => ?_)).trans ?_
  · obtain ⟨k, -, rfl⟩ := Finset.mem_map.mp hx
    exact Finset.mem_erase.mpr ⟨(fun h => by cases h), Finset.mem_univ _⟩
  · rw [bigSep_map, bigSep_univ_prod, bigSep_univ_eq_bigSepL [true, false] (by decide) (by decide)]
    refine sep_mono (bigSep_mono fun s _ => ?_) (bigSep_mono fun s _ => ?_)
    · exact Entails.of_eq (congrArg cred (launch_cell c (.dma (sxR s)) N (by rw [(count_recv s).1, Nat.one_mul]; rfl)))
    · exact Entails.of_eq (congrArg cred (launch_cell c (.dma (syR s)) N (by rw [(count_recv s).2, Nat.one_mul]; rfl)))

end Cert.OutProof

end

end
-- ==== Proof.OutRun.lean ====
/-
# The output projection on the 2×2 mesh: the run of `@main`

The pipeline's proof data (the one grid point, before and after), the body obligation, and the run of `@main` on the four
devices from any memory whose counters are zero: every device's result ends at `outV`, its arguments as they were.
-/
module

public import proofs.«01_k».proof.Proof.OutLaunch
public import Idealize.ShloMosaic.Lib.Pipeline.CollectiveSegs
public import Idealize.ShloMosaic.Lib.Quiescent

@[expose] public section

noncomputable section

namespace Cert.OutProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- A device's rows of `o`, as staged, and its `Wo`. -/
def oS (c : Dev nD) : (cc0_stg0_0 : Ref sig .tc).ty.Contents (Elt F) :=
  (win0_0.blk (0 : Fin 1)).view.read (Elt F) (m ((c : Thread nD τ).loc main_arg0))
def wS (c : Dev nD) : (main_arg1 : Ref sig .tc).ty.Contents (Elt F) := m ((c : Thread nD τ).loc main_arg1)

/-! ## What a device starts the body with, and ends it with -/

def woPts (c : Dev nD) : sProp 𝕄 := iprop(((c : Thread nD τ).loc main_arg1) ↦{fullShare} m ((c : Thread nD τ).loc main_arg1))

def credits (c : Dev nD) : sProp 𝕄 := iprop(cred (tallyAt (barCell c) () 2) ∗ four sxR (credD c) ∗ four syR (credD c))

def start (c : Dev nD) : sProp 𝕄 := iprop(woPts m c ∗ levAts L lv ∗ credits c ∗ G' (oS m) (wS m) c)
def Φ₀ (c : Dev nD) : sProp 𝕄 := iprop(start m c ∗ scratch c)
def Φ₁ (c : Dev nD) : sProp 𝕄 := iprop(woPts m c ∗ scratch c ∗ semVal (barCell c) 0 ∗ zeros c)

/-- The kits of the transfers along one axis, slot by slot. -/
theorem kits (c : Dev nD) : iprop((atPos ER (barCell c) 0 ∅ 0 ∗ kinds (posD c)) ∗ payToks c ∗ credits c)
    ⊢ (iprop(bkit c ∗ (bigSep Finset.univ fun s => xkit c s) ∗ bigSep Finset.univ fun s => ykit c s) : sProp 𝕄) := by
  unfold kinds payToks credits bkit xkit ykit four posD tokD credD
  simp only [bigSep_sep']
  iintro ⟨⟨Hb, Ha1, Ha2, Ha3, Ha4⟩, ⟨⟨Ht0, Ht1⟩, Ht2, Ht3, Ht4, Ht5⟩, Hc0, Hc1, Hc2⟩
  iframe

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => oS m c
    | ⟨1, _⟩ => outV (oS m) (wS m) c
  Φ t := match t with
    | ⟨0, _⟩ => Φ₀ m c
    | ⟨_ + 1, _⟩ => Φ₁ m c
  q _ := fullShare
  owed t := match t with
    | ⟨0, _⟩ => O c 0
    | ⟨_ + 1, _⟩ => O c 10

theorem fetch_0 (t : Fin cfg0.N) : (cfg0.win (0 : Fin 2)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m c ∗ (dats m ρ 0 c).owesAt () t0_0.succ ∗ stg c cc0_stg0_0 (oS m c) ∗ stg c cc0_stg1_0 (outV (oS m) (wS m) c))

set_option maxRecDepth 4000 in
theorem body_sound (c : Dev nD) :
    bodyPre m ρ c ⊢ wp frame (wpE (defs₀ (F := F)) 𝒱₀ (c : Thread nD τ) none) Set.univ
          (cc0__out_body oM (Memref.isWhole_whole _) wM (Memref.isWhole_whole _) outM (Memref.isWhole_whole _) wbM (Memref.isWhole_whole _)
            sbM (Memref.isWhole_whole _) rxM (Memref.isWhole_whole _) ryM (Memref.isWhole_whole _) cc0_scratch4 cc0_scratch5 cc0_scratch6 cc0_scratch7 cc0_scratch8)
          (fun _ => bodyPost m ρ c) := by
  unfold bodyPre Φ₀ start G' linear scratch locals
  iintro ⟨⟨⟨Hw, #Hlev, Hcr, ⟨%K, #HR⟩, ⟨Hz2, Hz3⟩, Hpos, Hpay⟩, ⟨%f0, Hwb⟩, ⟨%f1, Hsb⟩, Hrx, Hry⟩, Ho, ⟨%d0, %g0, %hg0, Hx⟩, ⟨%d1, %g1, %hg1, Hout⟩⟩
  have hx : g0 = oS m c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O c 0 from rfl]
  ihave Hk := (kits (F := F) c) $$ [Hpos Hpay Hcr]
  · iframe
  icases Hk with ⟨Hb, Hxk, Hyk⟩
  ihave Hxk' := (Entails.of_eq (bigSep_fin4 fun s => xkit (F := F) c s)) $$ Hxk
  ihave Hyk' := (Entails.of_eq (bigSep_fin4 fun s => ykit (F := F) c s)) $$ Hyk
  iapply (body_run (oS m) (wS m) K c W f0 f1 g1 fun _ => bodyPost m ρ c)
  unfold woPts
  isplitr; · iexact HR
  isplitr; · iexact Hlev
  isplitl [HO]; · iexact HO
  isplitl [Hb]; · iexact Hb
  isplitl [Hxk']; · iexact Hxk'
  isplitl [Hyk']; · iexact Hyk'
  isplitl [Hx]; · iexact Hx
  isplitl [Hw]; · iexact Hw
  isplitl [Hwb]; · iexact Hwb
  isplitl [Hsb]; · iexact Hsb
  isplitl [Hrx]; · iexact Hrx
  isplitl [Hry]; · iexact Hry
  isplitl [Hout]; · iexact Hout
  isplitl [Hz2]; · iexact Hz2
  isplitl [Hz3]; · iexact Hz3
  iintro ⟨⟨%W', HO⟩, Hx, Hw, Hout, Hs, Hb, Hz⟩
  unfold bodyPost Φ₁ Dat.owesAt Pipeline.owesWithin woPts
  rw [show (dats m ρ 0 c).owed t0_0.succ = O c 10 from rfl]
  isplitl [Hw Hs Hb Hz]
  · isplitl [Hw]; · iexact Hw
    iframe
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
theorem body_obligation (c : Dev nD) : BodyObligation (dats (F := F) m ρ 0 c) (defs₀ (F := F)) 𝒱₀ () Set.univ := fun t => by
  rw [fin_N0 t]
  rw [show (bigSep Finset.univ : (Fin cfg0.W → sProp 𝕄) → sProp 𝕄) = fun Φ => iprop(Φ (0 : Fin 2) ∗ Φ (1 : Fin 2)) from funext fun Φ => bigSep_W0 Φ]
  simp only [owns_whole_eq]
  exact body_sound m ρ c

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' (oS m) (wS m) c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  imodintro
  unfold start woPts credits
  isplitl
  · iframe
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch rxAll ryAll
  iintro ⟨Hs, -, Hr⟩
  isplitl [Hs]; · iexact Hs
  iexact Hr

theorem phi1_exit (c : Dev nD) :
    (dats m ρ 0 c).Φ (Fin.last cfg0.N) ⊢ iprop((unscopedSems0 c ∗ woPts m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq, ← zeros_eq]
  unfold Φ₁ scratch rxAll ryAll
  iintro ⟨Hw, Hs, Hb, Hz⟩
  isplitl [Hb Hw]
  · isplitl [Hb] <;> iassumption
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t => by
    have hz : lvS (.dma (((cfgs 0).spec w).sem s)) = 0 := by fin_cases w <;> fin_cases s <;> decide
    rcases t with ⟨_ | _, ht⟩
    · exact mayWait_low c _ 0 hz
    · exact mayWait_low c _ 10 hz

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := fun d => O d 0) (howed₀ := fun _ => rfl) (howedN := fun _ => rfl)
    (L := L) (lv := lv) (hL := L_of_ne) (hwaits := waits m ρ)
    (G := G (oS m) (wS m)) (G' := G' (oS m) (wS m)) (u₀ := u₀)
    (hu₀ := by
      unfold u₀
      iintro Hu
      ihave H := (ownU_pair _ _) $$ Hu
      icases H with ⟨HP, HX⟩
      ihave H' := (own_pair_emb _ _ _) $$ HX
      icases H' with ⟨HX, -⟩
      imod (show BI.own (((Emb.inl : Emb UB (UB × Counters)).trans embR) (initOf allCells allToks)) ⊢ (|==> bigSep Finset.univ (G (oS m) (wS m)) : sProp 𝕄) from
        fund (oS m) (wS m)) $$ HX with HG
      imodintro
      isplitl [HP] <;> iassumption)
    (hglob := glob (oS m) (wS m))
    (hA := fun _ _ => rfl) (hpf := fun _ k => k.elim0)
    (X := start m) (Y := fun c => iprop(unscopedSems0 c ∗ woPts m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold woPts
      iintro ⟨⟨Hu, Hw⟩, -, HSI⟩
      icombine HSI Hw gives %h
      imod (Pipeline.unscopedSems0_read (X := unscopedSems0 c) (c := c) fupd_intro s') $$ [Hu HSI] with ⟨%hs, HSI⟩
      · isplitl [Hu] <;> iassumption
      imodintro
      isplitr; · ipureintro; exact ⟨hs, Buf.eq_of_forall_mem_univ h⟩
      iexact HSI)
    (hQ := fun _ h hs => ⟨fun c => ⟨fun w => (h c).1 w, (h c).2.2.2⟩, sem_eq_zero hs fun c => (h c).2.2.1⟩)

/-- `o` after the run holds what it held; -/
theorem finalA_o (c : Dev nD) : finalA m ρ c (0 : Fin 2) = (s₀ m ρ).mem (win0_0.arr.view.loc (c : Thread nD τ)) :=
  (dats (F := F) m ρ 0 c).arrAt_in (0 : Fin 2) rfl _

end Cert.OutProof

end

end
-- ==== Proof.OutValue.lean ====
module

public import proofs.«01_k».proof.Proof.OutRun
public import Idealize.ShloMosaic.Lib.Pipeline.ValueKit.Geometry
public import Idealize.ShloMosaic.Lib.MatmulPlain
public import Idealize.ShloMosaic.Lib.StackMember
public import Idealize.ShloMosaic.Lib.Pointwise
public import Idealize.ShloMosaic.Lib.Layout
public import proofs.«01_k».proof.Proof.Gen.ReferenceIdeal.Run
public import Idealize.ShloMosaic.Lib.Quiescent

@[expose] public section

noncomputable section

namespace Cert.OutProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

section
variable (m : (ℓ : Loc nD τ sig) → Buf (Elt F) ℓ) (ρ : Dev nD → PrngReg)

/-- The one point's block of either array is the whole array. -/
theorem oS_eq (c : Dev nD) : oS m c = m ((c : Thread nD τ).loc main_arg0) := by
  funext i
  show m ((c : Thread nD τ).loc main_arg0) ((win0_0.blk (0 : Fin 1)).view.emb i) = _
  refine congrArg _ (funext fun a => Fin.ext ?_)
  match a with
  | ⟨0, _⟩ => show 0 * 512 + 1 * (i 0).val = _; rw [Nat.zero_mul, Nat.zero_add, Nat.one_mul]; rfl
  | ⟨1, _⟩ => show 0 * 4096 + 1 * (i 1).val = _; rw [Nat.zero_mul, Nat.zero_add, Nat.one_mul]; rfl

theorem whole_1 : (cfg0.win (1 : Fin 2)).WholeAt t0_0 := by decide +kernel

/-- Every device's result array at the end: the stacked blocks. -/
theorem finalA_out (c : Dev nD) : finalA m ρ c (1 : Fin 2) = outV (oS m) (wS m) c :=
  (dats m ρ 0 c).arrAt_eq_of_after_last (1 : Fin 2) t0_0 whole_1 _ fun j => rfl
end

/-- One product block over the extended reals, entry by entry. -/
theorem prod_apply (o : Vec Ideal S512x4096 .bf16) (w : S4096x4096.Idx → Elt Ideal .f32) (j : Fin 8) (p : S512x512.Idx) (q : Fin 4096)
    (hq : q.val = 512 * j.val + (p 1).val) :
    k0_pay1 (F := Ideal) o (wChunk w j) p = ∑ k : Fin 4096, o (ValueIdx.ix2 (p 0) k) * w (ValueIdx.ix2 k q) := by
  unfold_payloads
  pointwise
  refine Finset.sum_congr rfl fun k _ => ?_
  refine congrArg₂ (· * ·) rfl (congrArg w (funext fun a => Fin.ext ?_))
  match a with
  | ⟨0, _⟩ => rfl
  | ⟨1, _⟩ => exact hq.symm

/-- The reference's result as one term of its arguments, -/
def refOut (o : FVec Ideal Cert.ReferenceIdeal.S1024x4096 .bf16) (w : FVec Ideal Cert.ReferenceIdeal.S4096x4096 .f32) :
    FVec Ideal Cert.ReferenceIdeal.S4x256x4096 .bf16 :=
  truncf .bf16 (shapeCast _ (Host.dotGeneral Cert.ReferenceIdeal.dot_S1024x4096_S4096x4096_S1024x4096_1_0_0_1_n_n none
    (extf .f32 o Cert.ReferenceIdeal.Gen.bitsLt_bf16_f32) w) Cert.ReferenceIdeal.Gen.shapeCasts_S1024x4096_S4x256x4096) Cert.ReferenceIdeal.Gen.bitsLt_bf16_f32

/-- and entry by entry: row `256 a + b` of the product at `(a, b)`. -/
theorem ref_apply (o : FVec Ideal Cert.ReferenceIdeal.S1024x4096 .bf16) (w : FVec Ideal Cert.ReferenceIdeal.S4096x4096 .f32)
    (i : Cert.ReferenceIdeal.S4x256x4096.Idx) (r : Fin 1024) (hr : r.val = 256 * (i 0).val + (i 1).val) :
    refOut o w i = ∑ k : Fin 4096, o (ValueIdx.ix2 r k) * w (ValueIdx.ix2 k (i 2)) := by
  unfold refOut
  pointwise
  rw [show r = ⟨(i 0).val * 256 + (i 1).val, by have := r.isLt; omega⟩ from Fin.ext (by show r.val = (i 0).val * 256 + (i 1).val; omega)]
  rfl

/-- The device a block comes from has the half's first coordinate. -/
theorem srcDev_half : ∀ (c : Dev nD) (a : Fin 2) (j : Fin 8), xc (srcDev c a j) = a := by decide

/-- The entry of a block at `(p, k)`, in the whole array at `(r, l)`. -/
theorem blockN_ix2 {α : Type} {A B C D : ℕ} {kN : Fin 2 → ℕ} (j : (b : Fin 2) → Fin (kN b)) (v : (⟨2, ![C, D]⟩ : Shape).Idx → α) (h)
    (p : Fin A) (k : Fin B) (r : Fin C) (l : Fin D) (hr : (j 0).val * A + p.val = r.val) (hl : (j 1).val * B + k.val = l.val) :
    Layout.blockN ⟨2, ![A, B]⟩ ⟨2, ![C, D]⟩ j v h (ValueIdx.ix2 p k) = v (ValueIdx.ix2 r l) := by
  rw [Layout.blockN_apply]
  refine congrArg v (funext fun a => Fin.ext ?_)
  match a with
  | ⟨0, _⟩ => exact hr
  | ⟨1, _⟩ => exact hl

/-- A device's row block starts at its first coordinate's rows, and at the first column. -/
theorem meshBlock_row : ∀ d : Dev nD, (Layout.meshBlock [2, 2] ![[0], []] d (by decide) (0 : Fin 2)).val = d.val / 2 := by decide
theorem meshBlock_col : ∀ d : Dev nD, (Layout.meshBlock [2, 2] ![[0], []] d (by decide) (1 : Fin 2)).val = 0 := by decide

theorem row_idx (d : Dev nD) (o : FVec Ideal Cert.ReferenceIdeal.S1024x4096 .bf16) (h) (p : Fin 512) (k : Fin 4096) (r : Fin 1024)
    (hr : d.val / 2 * 512 + p.val = r.val) :
    Layout.blockN ⟨2, ![512, 4096]⟩ ⟨2, ![1024, 4096]⟩ (Layout.meshBlock [2, 2] ![[0], []] d) o h (ValueIdx.ix2 p k) = o (ValueIdx.ix2 r k) :=
  blockN_ix2 _ o h p k r k (by rw [meshBlock_row]; exact hr) (by rw [meshBlock_col, Nat.zero_mul, Nat.zero_add])

/-- Every device's stacked blocks are the reference's result, from arguments laid out over the mesh. -/
theorem out_value (m : (ℓ : Loc nD τ sig) → Buf (Elt Ideal) ℓ) (o : FVec Ideal Cert.ReferenceIdeal.S1024x4096 .bf16)
    (w : FVec Ideal Cert.ReferenceIdeal.S4096x4096 .f32)
    (h : ∀ c : Dev nD, m ((c : Thread nD τ).loc main_arg0) = Layout.blockN ⟨2, ![512, 4096]⟩ ⟨2, ![1024, 4096]⟩ (Layout.meshBlock [2, 2] ![[0], []] c) o
      ∧ m ((c : Thread nD τ).loc main_arg1) = w) (c : Dev nD) :
    outV (oS m) (wS m) c = refOut o w := by
  funext i
  have h0 : (i 0).val < 4 := (i 0).isLt
  have h1 : (i 1).val < 256 := (i 1).isLt
  have h2 : (i 2).val < 4096 := (i 2).isLt
  rw [ref_apply o w i ⟨256 * (i 0).val + (i 1).val, by omega⟩ rfl]
  unfold outV prodC
  have hs := congrArg Fin.val (srcDev_half c (oHalf i) (oChunk i))
  generalize srcDev c (oHalf i) (oChunk i) = d at hs ⊢
  rw [prod_apply _ _ _ _ (i 2) (by show (i 2).val = 512 * ((i 2).val / 512) + (i 2).val % 512; omega)]
  refine Finset.sum_congr rfl fun k _ => ?_
  rw [oS_eq, (h d).1, show wS m d = w from (h d).2]
  refine congrArg₂ (· * ·) ?_ rfl
  have hs' : d.val / 2 = (i 0).val / 2 := hs
  refine row_idx d o _ _ k _ ?_
  show d.val / 2 * 512 + ((i 0).val % 2 * 256 + (i 1).val) = 256 * (i 0).val + (i 1).val
  omega

end Cert.OutProof
-- ==== Proof.ExCells.lean ====
/-
# The exchange on the 2×2 mesh: who waits for whom

A device `c = (x, y)` (`c = 2·x + y`) has one partner, `yn c = (x, 1 − y)`. Each computes its columns of the compressed
rows `c = x·Wdkv` and holds its rows of `Wuk` and `Wuv`; each sends the three to its partner, into the same place of the
same buffer. So in the end both devices of a row of the mesh hold the same three buffers.

This module names the buffers, the semaphore cells and what each landing hands over, and states the schedule of the rounds.
-/
module

public import proofs.«01_k».proof.Proof.Gen.ExchangeIdeal
public import proofs.«01_k».proof.Proof.Gen.ExchangeIdeal.Skeleton
public import proofs.«01_k».proof.Proof.Gen.ExchangeIdeal.Launch
public import Idealize.ShloMosaic.Lib.Pipeline.Launch
public import Idealize.ShloMosaic.Lib.Pipeline.Kit
public import Idealize.ShloMosaic.Lib.Tactic

@[expose] public section

noncomputable section

namespace Cert.ExProof

open Cert.ExchangeIdeal Cert.ExchangeIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the protocol's (duties `Bool`), the counters of the local transfers -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's part of the algebra. -/
def ER : Emb UB (MT nD τ sig Unit (Elt F) ℕ UU ℕ) := (Emb.inl : Emb UB (UB × Counters)).trans embR

/-! ## The mesh -/

/-- A device's place along `x`, and along `y`; the other place along `y`. -/
def xc (c : Dev nD) : Fin 2 := ⟨c.val / 2, by have h : c.val < 4 := c.isLt; omega⟩
def yc (c : Dev nD) : Fin 2 := ⟨c.val % 2, by omega⟩
def oc (c : Dev nD) : Fin 2 := ⟨1 - c.val % 2, by omega⟩
/-- The partner. -/
def yn (c : Dev nD) : Dev nD := ⟨2 * (c.val / 2) + (1 - c.val % 2), by have h : c.val < 4 := c.isLt; show _ < 4; omega⟩
/-- The device of `c`'s row of the mesh with place `s` along `y`. -/
def at_ (c : Dev nD) (s : Fin 2) : Dev nD := ⟨2 * (c.val / 2) + s.val, by have h : c.val < 4 := c.isLt; show _ < 4; omega⟩

theorem yn_yn (c : Dev nD) : yn (yn c) = c := by revert c; decide
theorem oc_yn (c : Dev nD) : oc (yn c) = yc c := by revert c; decide
theorem at_yn (c : Dev nD) : at_ (yn c) = at_ c := by revert c; decide
theorem at_yc (c : Dev nD) : at_ c (yc c) = c := by revert c; decide

def yEquiv : Dev nD ≃ Dev nD := ⟨yn, yn, yn_yn, yn_yn⟩

/-! ## Buffers and their halves -/

abbrev xM : Memref sig .tc .vmem S4x256x4096 .f32 := Memref.whole cc0_stg0_0
abbrev wdM : Memref sig .tc .vmem S4096x128 .bf16 := Memref.whole cc0_stg1_0
abbrev ukM : Memref sig .tc .vmem S128x4096 .bf16 := Memref.whole cc0_stg2_0
abbrev uvM : Memref sig .tc .vmem S128x4096 .bf16 := Memref.whole cc0_stg3_0
abbrev wrM : Memref sig .tc .vmem S4096x64 .bf16 := Memref.whole cc0_stg4_0
abbrev wqM : Memref sig .tc .hbm S4096x2048 .f32 := Memref.whole main_arg5
abbrev kM : Memref sig .tc .vmem S512x4096 .bf16 := Memref.whole cc0_stg5_0
abbrev vM : Memref sig .tc .vmem S512x4096 .bf16 := Memref.whole cc0_stg6_0
abbrev krM : Memref sig .tc .vmem S512x64 .bf16 := Memref.whole cc0_stg7_0
abbrev xbM : Memref sig .tc .vmem S512x4096 .bf16 := Memref.whole cc0_stg8_0
abbrev qrM : Memref sig .tc .vmem S512x2048 .bf16 := Memref.whole cc0_stg9_0
abbrev cM : Memref sig .tc .vmem S2x512x128 .bf16 := Memref.whole cc0_scratch0
abbrev cfM : Memref sig .tc .vmem S512x256 .bf16 := Memref.whole cc0_scratch1
abbrev wkM : Memref sig .tc .vmem S256x4096 .bf16 := Memref.whole cc0_scratch2
abbrev wvM : Memref sig .tc .vmem S256x4096 .bf16 := Memref.whole cc0_scratch3
abbrev qbM : Memref sig .tc .vmem S2x4096x256 .f32 := Memref.whole cc0_scratch4

theorem row_inb : ∀ (s : Fin 2) (a : Fin 2), (![128 * s.val, 0] : Fin 2 → ℕ) a + S128x4096.size a ≤ S256x4096.size a := by decide
theorem slot_inb : ∀ (s : Fin 2) (a : Fin 3), (![s.val, 0, 0] : Fin 3 → ℕ) a + S1x512x128.size a ≤ S2x512x128.size a := by decide

/-- Half `s` of the rows of the two weight buffers, and slot `s` of the buffer of compressed rows. -/
abbrev rowRect (s : Fin 2) : Rect S256x4096 := Rect.unit (s := S256x4096) ![128 * s.val, 0] S128x4096.size (row_inb s)
abbrev slotRect (s : Fin 2) : Rect S2x512x128 := Rect.unit (s := S2x512x128) ![s.val, 0, 0] S1x512x128.size (slot_inb s)

/-- The halves as the program names them. -/
abbrev halfM (M : Memref sig .tc .vmem S256x4096 .bf16) (s : Fin 2) : Memref sig .tc .vmem S128x4096 .bf16 := M.slice (rowRect s) (fun _ => rfl)
abbrev slotM (s : Fin 2) : Memref sig .tc .vmem S512x128 .bf16 := (cM.slice (slotRect s) (fun _ => rfl)).squeeze S512x128 squeezes_S1x512x128_S512x128

theorem mem_rowRect (s : Fin 2) (i : S256x4096.Idx) : i ∈ (rowRect s).set ↔ (i 0).val / 128 = s.val := by
  rw [Rect.mem_set_unit]
  have hi : (i 0).val < 256 := (i 0).isLt
  constructor
  · intro h
    have h0 := h 0
    have e1 : (![128 * s.val, 0] : Fin 2 → ℕ) 0 = 128 * s.val := rfl
    have e2 : S128x4096.size 0 = 128 := rfl
    rw [e1, e2] at h0; omega
  · intro h a
    match a with
    | ⟨0, _⟩ => exact ⟨by show 128 * s.val ≤ (i 0).val; omega, by show (i 0).val < 128 * s.val + 128; omega⟩
    | ⟨1, _⟩ => exact ⟨Nat.zero_le _, by show (i 1).val < 0 + 4096; have : (i 1).val < 4096 := (i 1).isLt; omega⟩

theorem mem_slotRect (s : Fin 2) (i : S2x512x128.Idx) : i ∈ (slotRect s).set ↔ (i 0).val = s.val := by
  rw [Rect.mem_set_unit]
  constructor
  · intro h
    have h0 := h 0
    have e1 : (![s.val, 0, 0] : Fin 3 → ℕ) 0 = s.val := rfl
    have e2 : S1x512x128.size 0 = 1 := rfl
    rw [e1, e2] at h0; omega
  · intro h a
    match a with
    | ⟨0, _⟩ => exact ⟨le_of_eq h.symm, by show (i 0).val < s.val + 1; omega⟩
    | ⟨1, _⟩ => exact ⟨Nat.zero_le _, by show (i 1).val < 0 + 512; have : (i 1).val < 512 := (i 1).isLt; omega⟩
    | ⟨2, _⟩ => exact ⟨Nat.zero_le _, by show (i 2).val < 0 + 128; have : (i 2).val < 128 := (i 2).isLt; omega⟩

theorem half_set_wk (s : Fin 2) : (halfM wkM s).view.set = (rowRect s).set := View.set_slice_whole cc0_scratch2 _
theorem half_set_wv (s : Fin 2) : (halfM wvM s).view.set = (rowRect s).set := View.set_slice_whole cc0_scratch3 _
theorem slot_set (s : Fin 2) : (slotM s).view.set = (slotRect s).set := (View.set_reshape _ _).trans (View.set_slice_whole cc0_scratch0 _)

/-- The other half is all that half `s` leaves. -/
theorem row_compl (c : Dev nD) : (rowRect (oc c)).set = Finset.univ \ (rowRect (yc c)).set := by
  ext i
  rw [Finset.mem_sdiff, mem_rowRect, mem_rowRect]
  have hi : (i 0).val < 256 := (i 0).isLt
  show (i 0).val / 128 = 1 - c.val % 2 ↔ i ∈ Finset.univ ∧ ¬ (i 0).val / 128 = c.val % 2
  constructor
  · intro h; exact ⟨Finset.mem_univ _, by omega⟩
  · intro h; have := h.2; omega
theorem slot_compl (c : Dev nD) : (slotRect (oc c)).set = Finset.univ \ (slotRect (yc c)).set := by
  ext i
  rw [Finset.mem_sdiff, mem_slotRect, mem_slotRect]
  have hi : (i 0).val < 2 := (i 0).isLt
  show (i 0).val = 1 - c.val % 2 ↔ i ∈ Finset.univ ∧ ¬ (i 0).val = c.val % 2
  constructor
  · intro h; exact ⟨Finset.mem_univ _, by omega⟩
  · intro h; have := h.2; omega

/-- A transfer's credit: of rows of a weight, of compressed rows. -/
abbrev NW : ℕ := (halfM wkM 0).view.dmaCredit
abbrev NC : ℕ := (slotM 0).view.dmaCredit
theorem NW_pos : 0 < NW := View.dmaCredit_pos _ (by decide)
theorem NC_pos : 0 < NC := View.dmaCredit_pos _ (by decide)

/-! ## The cells -/

/-- The barrier semaphore of the call (unscoped). -/
abbrev barS : Sem sig := (SemArray.scalar (sig.barrier 0 rfl) : Sems sig S_).sem

/-- The semaphores of the three transfers (`Wuk`, `Wuv`, the compressed rows), at the sender and at the receiver. -/
def tS (t : Fin 3) : DmaSem sig := ⟨10 + t.val, by show _ < 18; omega⟩
def tR (t : Fin 3) : DmaSem sig := ⟨13 + t.val, by show _ < 18; omega⟩

abbrev barCell (c : Dev nD) : GSem nD τ sig := ((c : Thread nD τ), .reg barS)
abbrev dCell (c : Dev nD) (q : DmaSem sig) : GSem nD τ sig := ((c : Thread nD τ), .dma q)

/-- The seven cells of the protocol on one device: the barrier, and the six of the transfers. -/
def csem : Fin 7 → SemLoc sig := fun k => if h : k.val = 0 then .reg barS else .dma ⟨k.val + 9, by show _ < 18; omega⟩
abbrev kcell (ck : Dev nD × Fin 7) : GSem nD τ sig := ((ck.1 : Thread nD τ), csem ck.2)

/-! ## Contents -/

/-- What each device is given: the staged rows and weights, and `Wqr`. -/
structure Args (F : FTy → Type) [FloatOps F] where
  x : Dev nD → (cc0_stg0_0 : Ref sig .tc).ty.Contents (Elt F)
  wd : Dev nD → (cc0_stg1_0 : Ref sig .tc).ty.Contents (Elt F)
  uk : Dev nD → (cc0_stg2_0 : Ref sig .tc).ty.Contents (Elt F)
  uv : Dev nD → (cc0_stg3_0 : Ref sig .tc).ty.Contents (Elt F)
  wr : Dev nD → (cc0_stg4_0 : Ref sig .tc).ty.Contents (Elt F)
  wq : Dev nD → (main_arg5 : Ref sig .tc).ty.Contents (Elt F)

variable (A : Args F)

theorem x_inb : ∀ (a : Fin 2) (k : Fin 3), (![2 * a.val, 0, 0] : Fin 3 → ℕ) k + S2x256x4096.size k ≤ S4x256x4096.size k := by decide
abbrev xRect (a : Fin 2) : Rect S4x256x4096 := Rect.unit (s := S4x256x4096) ![2 * a.val, 0, 0] S2x256x4096.size (x_inb a)

/-- A device's rows of `x`, rounded. -/
def XB (c : Dev nD) : FVec F S512x4096 .bf16 := k0_pay10 (F := F) (fun i => A.x c ((xRect (xc c)).emb i))
/-- Its columns of the compressed rows. -/
def CM (c : Dev nD) : FVec F S512x128 .bf16 := k0_pay13 (F := F) (k0_pay12 (F := F) (XB A c) (A.wd c))

/-- Which half or slot an index lies in, and where there. -/
def rHalf (i : S256x4096.Idx) : Fin 2 := ⟨(i 0).val / 128, by have h : (i 0).val < 256 := (i 0).isLt; omega⟩
def rIn (i : S256x4096.Idx) : S128x4096.Idx := fun a => match a with
  | ⟨0, _⟩ => ⟨(i 0).val % 128, Nat.mod_lt _ (by decide)⟩
  | ⟨1, _⟩ => ⟨(i 1).val, (i 1).isLt⟩
def sIdx (i : S2x512x128.Idx) : Fin 2 := ⟨(i 0).val, (i 0).isLt⟩
def sRest (i : S2x512x128.Idx) : S512x128.Idx := fun a => match a with
  | ⟨0, _⟩ => ⟨(i 1).val, (i 1).isLt⟩
  | ⟨1, _⟩ => ⟨(i 2).val, (i 2).isLt⟩

/-- The three exchanged buffers in the end. -/
def WK (c : Dev nD) : S256x4096.Idx → Elt F .bf16 := fun i => A.uk (at_ c (rHalf i)) (rIn i)
def WV (c : Dev nD) : S256x4096.Idx → Elt F .bf16 := fun i => A.uv (at_ c (rHalf i)) (rIn i)
def CB (c : Dev nD) : S2x512x128.Idx → Elt F .bf16 := fun i => CM A (at_ c (sIdx i)) (sRest i)

theorem WK_yn (c : Dev nD) : WK A (yn c) = WK A c := by unfold WK; rw [at_yn]
theorem WV_yn (c : Dev nD) : WV A (yn c) = WV A c := by unfold WV; rw [at_yn]
theorem CB_yn (c : Dev nD) : CB A (yn c) = CB A c := by unfold CB; rw [at_yn]

/-- A view's elements at some contents. -/
def mPts (c : Dev nD) {sh : Shape} {e : EltTy} (M : Memref sig .tc .vmem sh e) (f : M.view.ty.Contents (Elt F)) : sProp 𝕄 :=
  M.view.loc (c : Thread nD τ) ↦[M.view.set]{fullShare} (f : Buf (Elt F) (M.view.loc (c : Thread nD τ)))

/-- The three halves of device `c` that its partner sends to. -/
def land (c : Dev nD) : sProp 𝕄 :=
  iprop((∃ f : S256x4096.Idx → Elt F .bf16, mPts c (halfM wkM (oc c)) f) ∗ (∃ f : S256x4096.Idx → Elt F .bf16, mPts c (halfM wvM (oc c)) f)
    ∗ (∃ f : S2x512x128.Idx → Elt F .bf16, mPts c (slotM (oc c)) f))

/-- What a transfer's cell hands over when it is waited for: the half sent, or the half received. -/
def xferPay (c : Dev nD) (q : DmaSem sig) : sProp 𝕄 :=
  if q = tS 0 then mPts c (halfM wkM (yc c)) (WK A c)
  else if q = tS 1 then mPts c (halfM wvM (yc c)) (WV A c)
  else if q = tS 2 then mPts c (slotM (yc c)) (CB A c)
  else if q = tR 0 then mPts c (halfM wkM (oc c)) (WK A c)
  else if q = tR 1 then mPts c (halfM wvM (oc c)) (WV A c)
  else if q = tR 2 then mPts c (slotM (oc c)) (CB A c)
  else iprop(emp)

instance mPts_storable (c : Dev nD) {sh : Shape} {e : EltTy} (M : Memref sig .tc .vmem sh e) (f : M.view.ty.Contents (Elt F)) :
    BI.Storable (upEmb : UEmb _ 𝕄) (mPts c M f) := by unfold mPts; infer_instance
instance land_storable (c : Dev nD) : BI.Storable (upEmb : UEmb _ 𝕄) (land (F := F) c) := by unfold land; infer_instance
instance xferPay_storable (c : Dev nD) (q) : BI.Storable (upEmb : UEmb _ 𝕄) (xferPay A c q) := by
  unfold xferPay; (repeat' split) <;> infer_instance

/-! ## The schedule: one round -/

/-- The cells with duties: the barrier and the transfers' of each TensorCore. -/
def dutiesOf : SemLoc sig → Finset Bool
  | .reg b => if b = barS then {false} else ∅
  | .dma q => if 10 ≤ q.val ∧ q.val < 16 then {false} else ∅

/-- One unit of a barrier, a transfer's credit. -/
def amtD (q : DmaSem sig) : ℕ := if q = tS 2 ∨ q = tR 2 then NC else NW
def amt : SemLoc sig → ℕ | .reg _ => 1 | .dma q => amtD q

theorem amtD_pos (q : DmaSem sig) : 0 < amtD q := by unfold amtD; split; · exact NC_pos
                                                     · exact NW_pos

def exRd : Rounds.Schedule (GSem nD τ sig) Bool 𝕄 where
  duties g r := if r = 0 ∧ g.1.2 = .tc then dutiesOf g.2 else ∅
  unitless _ := False
  amount g _ _ := amt g.2
  payload g _ _ := match g.2 with | .reg _ => land (yn g.1.1) | .dma q => xferPay A g.1.1 q
  amount_pos g _ _ _ := by
    show 0 < amt g.2
    cases g.2 with
    | reg b => exact Nat.one_pos
    | dma q => exact amtD_pos q

instance exRd_payload_storable (g : GSem nD τ sig) (r : ℕ) (d : Bool) :
    BI.Storable (upEmb : UEmb _ 𝕄) ((exRd A).payload g r d) := by
  obtain ⟨t, s⟩ := g
  cases s with
  | reg b => show BI.Storable upEmb (land (yn t.1)); infer_instance
  | dma q => show BI.Storable upEmb (xferPay A t.1 q); infer_instance

/-- The transfers' cells. -/
abbrev IsT (q : DmaSem sig) : Prop := 10 ≤ q.val ∧ q.val < 16
theorem isT_S (t : Fin 3) : IsT (tS t) := ⟨Nat.le_add_right 10 _, by show 10 + t.val < 16; omega⟩
theorem isT_R (t : Fin 3) : IsT (tR t) := ⟨by show 10 ≤ 13 + t.val; omega, by show 13 + t.val < 16; omega⟩

section Sched
variable (c : Dev nD)

theorem duties_bar : (exRd A).duties (barCell c) 0 = {false} :=
  by dsimp only [exRd, dutiesOf]; rw [if_pos ⟨rfl, rfl⟩, if_pos rfl]
theorem duties_dma (q : DmaSem sig) (h : IsT q) : (exRd A).duties (dCell c q) 0 = {false} :=
  by dsimp only [exRd, dutiesOf]; rw [if_pos ⟨rfl, rfl⟩, if_pos h]
theorem duties_later (g : GSem nD τ sig) : ∀ r, 1 ≤ r → (exRd A).duties g r = ∅ :=
  fun r hr => if_neg fun h => by omega

theorem amount_bar (d : Bool) : (exRd A).amount (barCell c) 0 d = 1 := rfl
theorem amount_dma (q : DmaSem sig) (d : Bool) : (exRd A).amount (dCell c q) 0 d = amtD q := rfl

theorem expect_bar : (exRd A).expect (barCell c) 0 = 1 := by
  unfold Schedule.expect Schedule.amountOf
  rw [duties_bar, Finset.sum_singleton, amount_bar]
theorem expect_dma (q : DmaSem sig) (h : IsT q) : (exRd A).expect (dCell c q) 0 = amtD q := by
  unfold Schedule.expect Schedule.amountOf; rw [duties_dma A c q h, Finset.sum_singleton, amount_dma]

theorem payload_bar (d : Bool) : (exRd A).payload (barCell c) 0 d = land (yn c) := rfl
theorem payload_dma (q : DmaSem sig) (d : Bool) : (exRd A).payload (dCell c q) 0 d = xferPay A c q := rfl

theorem pay_S0 : xferPay A c (tS 0) = mPts c (halfM wkM (yc c)) (WK A c) := by
  unfold xferPay; rw [if_pos rfl]
theorem pay_S1 : xferPay A c (tS 1) = mPts c (halfM wvM (yc c)) (WV A c) := by
  unfold xferPay; rw [if_neg (by decide), if_pos rfl]
theorem pay_S2 : xferPay A c (tS 2) = mPts c (slotM (yc c)) (CB A c) := by
  unfold xferPay; rw [if_neg (by decide), if_neg (by decide), if_pos rfl]
theorem pay_R0 : xferPay A c (tR 0) = mPts c (halfM wkM (oc c)) (WK A c) := by
  unfold xferPay; rw [if_neg (by decide), if_neg (by decide), if_neg (by decide), if_pos rfl]
theorem pay_R1 : xferPay A c (tR 1) = mPts c (halfM wvM (oc c)) (WV A c) := by
  unfold xferPay; rw [if_neg (by decide), if_neg (by decide), if_neg (by decide), if_neg (by decide), if_pos rfl]
theorem pay_R2 : xferPay A c (tR 2) = mPts c (slotM (oc c)) (CB A c) := by
  unfold xferPay; rw [if_neg (by decide), if_neg (by decide), if_neg (by decide), if_neg (by decide), if_neg (by decide), if_pos rfl]

/-- The rest of a round, no duty taken. -/
theorem rest_bar : bigSep ((exRd A).duties (barCell c) 0 \ ∅) (fun d => (exRd A).payload (barCell c) 0 d) = land (F := F) (yn c) := by
  rw [Finset.sdiff_empty, duties_bar, bigSep_singleton, payload_bar]
theorem rest_dma (q : DmaSem sig) (h : IsT q) :
    bigSep ((exRd A).duties (dCell c q) 0 \ ∅) (fun d => (exRd A).payload (dCell c q) 0 d) = xferPay A c q := by
  rw [Finset.sdiff_empty, duties_dma A c q h, bigSep_singleton, payload_dma]

end Sched

/-! ## What each device owes its partner, in the order it pays; the levels -/

/-- In order of payment (the same on every device): the barrier, then the transfers of `Wuk`, of the compressed rows, of `Wuv`. -/
def owedS : List (SemLoc sig) := [.reg barS, .dma (tR 0), .dma (tR 2), .dma (tR 1)]

def oweL (c : Dev nD) : List (SemLoc sig) → CellTallies nD τ sig Unit
  | [] => 0
  | e :: l => oweL c l + tallyAt ((yn c : Thread nD τ), e) () (amt e)

/-- What device `c` still owes after its first `n` payments. -/
def O (c : Dev nD) (n : ℕ) : CellTallies nD τ sig Unit := oweL c (owedS.drop n)

theorem oweL_pos {c : Dev nD} {l : List (SemLoc sig)} {g : GSem nD τ sig} {u : Unit} (h : 0 < oweL c l g u) :
    ∃ e ∈ l, g = ((yn c : Thread nD τ), e) := by
  induction l with
  | nil => exact absurd h (Nat.lt_irrefl 0)
  | cons e l ih =>
    unfold oweL at h
    rw [Pi.add_apply, Finsupp.add_apply, tallyAt_apply] at h
    by_cases hg : g = ((yn c : Thread nD τ), e) ∧ u = ()
    · exact ⟨e, List.mem_cons_self, hg.1⟩
    · rw [if_neg hg, Nat.add_zero] at h
      obtain ⟨e', he, hg'⟩ := ih h
      exact ⟨e', List.mem_cons_of_mem _ he, hg'⟩

def L (g : GSem nD τ sig) : Finset Unit := if g.1.2 = .tc then {()} else ∅
/-- The barrier lies above the local cells, the receive cells above it. -/
def lvS : SemLoc sig → ℕ
  | .reg _ => 1
  | .dma q => if 13 ≤ q.val ∧ q.val < 16 then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- A wait on a cell below everything still owed is allowed. -/
theorem mayWait_O (c : Dev nD) (sm : SemLoc sig) (n : ℕ) (h : ∀ e ∈ owedS.drop n, lvS sm < lvS e) :
    (levAts L lv : sProp 𝕄) ⊢ MayWait (c : Thread nD τ) sm () (O c n) :=
  MayOwe.of_cut (L := L) (lev := lv) (lvS sm) (fun p hp => by rw [Finset.mem_singleton.mp hp, L_tc]; exact Finset.mem_singleton_self _)
    (fun g u hg => by obtain ⟨e, -, rfl⟩ := oweL_pos hg; exact Finset.mem_singleton_self _)
    (fun p hp => by rw [Finset.mem_singleton.mp hp]; exact le_refl _)
    (fun g u hg => by obtain ⟨e, he, rfl⟩ := oweL_pos hg; exact h e he)

theorem owed_pos : ∀ e ∈ owedS, 0 < lvS e := by decide

/-- The cells of local transfers and the senders' cells lie below everything. -/
theorem mayWait_low (c : Dev nD) (sm : SemLoc sig) (n : ℕ) (h : lvS sm = 0) :
    (levAts L lv : sProp 𝕄) ⊢ MayWait (c : Thread nD τ) sm () (O c n) :=
  mayWait_O c sm n fun e he => by rw [h]; exact owed_pos e (List.mem_of_mem_drop he)

theorem mayWait_bar (c : Dev nD) : (levAts L lv : sProp 𝕄) ⊢ MayWait (c : Thread nD τ) (.reg barS) () (O c 1) :=
  mayWait_O c _ 1 (by decide)

end Cert.ExProof

end

end
-- ==== Proof.ExRules.lean ====
/-
# The exchange on the 2×2 mesh: the rules of its signals, transfers and waits

Each step of the protocol as one rule, stated at any device and any of the three transfers; then the halves of the buffers,
taken apart for the transfers and put together after them.
-/
module

public import proofs.«01_k».proof.Proof.ExCells

@[expose] public section

noncomputable section

namespace Cert.ExProof

open Cert.ExchangeIdeal Cert.ExchangeIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (A : Args F)

instance ER_landsIn : (ER : Emb UB (MT nD τ sig Unit (Elt F) ℕ UU ℕ)).LandsIn (upEmb : UEmb _ 𝕄) := by unfold ER; infer_instance

abbrev 𝒱₀ : Variants := Variants.none

/-! ## The records every device shares: the cells' invariants, and that every cell has reached round 0 -/

def records (K : Dev nD × Fin 7 → ℕ) : sProp 𝕄 :=
  iprop((bigSep Finset.univ fun ck : Dev nD × Fin 7 => cellInv ER (exRd A) (K ck) (kcell ck))
    ∗ bigSep Finset.univ fun ck : Dev nD × Fin 7 => reached ER (kcell ck) 0)

instance records_persistent (K : Dev nD × Fin 7 → ℕ) : BI.Persistent (records A K) := by unfold records; infer_instance

/-- Where a transfer's cell stands among the seven. -/
def kOf (q : DmaSem sig) : Fin 7 := if h : IsT q then ⟨q.val - 9, by omega⟩ else 0
theorem csem_kOf (q : DmaSem sig) (h : IsT q) : csem (kOf q) = .dma q := by
  unfold csem kOf
  rw [dif_pos h, dif_neg (show ¬ q.val - 9 = 0 by omega)]
  congr 1; exact Fin.ext (by show q.val - 9 + 9 = q.val; omega)
theorem csem_zero : csem 0 = .reg barS := dif_pos rfl

variable (K : Dev nD × Fin 7 → ℕ)

theorem inv_at (ck : Dev nD × Fin 7) : records A K ⊢ cellInv ER (exRd A) (K ck) (kcell ck) := by
  unfold records
  exact sep_elim_left.trans (bigSep_elim (Φ := fun ck : Dev nD × Fin 7 => (cellInv ER (exRd A) (K ck) (kcell ck) : sProp 𝕄)) (Finset.mem_univ ck))
theorem reached_at (ck : Dev nD × Fin 7) : records A K ⊢ reached ER (kcell ck) 0 := by
  unfold records
  exact sep_elim_right.trans (bigSep_elim (Φ := fun ck : Dev nD × Fin 7 => (reached ER (kcell ck) 0 : sProp 𝕄)) (Finset.mem_univ ck))

theorem kcell_bar (c : Dev nD) : kcell (c, 0) = barCell c := by unfold kcell; rw [csem_zero]
theorem kcell_dma (c : Dev nD) (q : DmaSem sig) (h : IsT q) : kcell (c, kOf q) = dCell c q := by unfold kcell; rw [csem_kOf q h]

theorem inv_bar (c : Dev nD) : records A K ⊢ cellInv ER (exRd A) (K (c, 0)) (barCell c) := by
  rw [← kcell_bar]; exact inv_at A K _
theorem inv_dma (c : Dev nD) (q : DmaSem sig) (h : IsT q) : records A K ⊢ cellInv ER (exRd A) (K (c, kOf q)) (dCell c q) := by
  rw [← kcell_dma c q h]; exact inv_at A K _
theorem reached_bar (c : Dev nD) : records A K ⊢ reached ER (barCell c) 0 := by
  rw [← kcell_bar]; exact reached_at A K _
theorem reached_dma (c : Dev nD) (q : DmaSem sig) (h : IsT q) : records A K ⊢ reached ER (dCell c q) 0 := by
  rw [← kcell_dma c q h]; exact reached_at A K _

/-! ## The rules of the protocol's steps -/

section Rules
variable (K : Dev nD × Fin 7 → ℕ) (c : Dev nD)

/-- The signal to the partner hands it the halves it will send to. -/
theorem wp_sig {α : Type} {Q : α → sProp 𝕄} {k : PUnit → Prog (TpuEff nD τ sig (Elt F) Λ₀ .tc) α} {d : Dev nD} (hd : d = yn c) {n : ℤ} (hn : n = ((1 : ℕ) : ℤ)) {W : Waits sig Unit} :
    iprop(records A K ∗ owes (c : Thread nD τ) (O c 0) W ∗ dutyTok ER (barCell (yn c)) 0 false ∗ land (F := F) c)
      ⊢ iprop((owes (c : Thread nD τ) (O c 1) W -∗ wp frame (wpE (defs₀ (F := F)) 𝒱₀ (c : Thread nD τ) none) Set.univ (k ⟨⟩) Q) -∗ wp frame (wpE (defs₀ (F := F)) 𝒱₀ (c : Thread nD τ) none) Set.univ (.op (.semSignal (d, Proc.tc) barS n) k) Q) := by
  subst hd; subst hn
  iintro ⟨#HR, HO, Ht, Hf⟩ Hk
  iapply (Rounds.wp_signal 𝒱₀ ER (exRd A) (c : Thread nD τ) none (dst := (yn c : Thread nD τ)) (κ := K (yn c, 0))
      (d := false) (by rw [duties_bar]; exact Finset.mem_singleton_self _) (amount_bar A (yn c) false) () (O c 1) rfl) $$ [HO Ht Hf]
  · isplitr; · iapply (inv_bar A K (yn c)); iexact HR
    isplitl [HO]; · iexact HO
    isplitl [Ht]; · iexact Ht
    isplitl [Hf]
    · rw [payload_bar]; rw [yn_yn]; iexact Hf
    · iapply (reached_bar A K (yn c)); iexact HR
  iexact Hk

/-- The wait for the partner: its landing halves come with it, and the cell closes. -/
theorem wp_wait_bar {α : Type} {Q : α → sProp 𝕄} {k : PUnit → Prog (TpuEff nD τ sig (Elt F) Λ₀ .tc) α} {n : ℤ} (hn : n = ((1 : ℕ) : ℤ)) {W : Waits sig Unit} :
    iprop(records A K ∗ levAts L lv ∗ cred (tallyAt (barCell c) () 1) ∗ owes (c : Thread nD τ) (O c 1) W ∗ atPos ER (barCell c) 0 ∅ 0)
      ⊢ iprop(((owes (c : Thread nD τ) (O c 1) (insert (SemLoc.reg barS, ()) W) ∗ semVal (barCell c) 0 ∗ land (F := F) (yn c)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  iintro ⟨#HR, #Hlev, Hc, HO, Hat⟩ Hk
  iapply (Rounds.wp_wait_rest_token 𝒱₀ ER (exRd A) (c : Thread nD τ) none (κ := K (c, 0))
      (wpE_semWait_eq 𝒱₀ (c : Thread nD τ) none Set.univ) (Set.mem_univ _) () (O := O c 1) (W := W) (R := 0) (m := 0) (T := ∅)
      (by rw [expect_bar])) $$ [Hc HO Hat]
  · isplitr; · iapply (inv_bar A K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar A c)) $$ Hpay
  imod (Rounds.cell_close ER (exRd A) (Set.mem_univ (K (c, 0))) (fun h => h) (R := 0 + 1) (duties_later A (barCell c))) $$ [Hat] with Hz
  · isplitr; · iapply (inv_bar A K c); iexact HR
    iexact Hat
  iapply Hk
  isplitl [HO]; · iexact HO
  isplitl [Hz]; · iexact Hz
  iexact Hp

/-- A wait on a transfer's cell: what the transfer hands over, and the cell closes. -/
theorem wp_wait_xfer {α : Type} {Q : α → sProp 𝕄} {k : PUnit → Prog (TpuEff nD τ sig (Elt F) Λ₀ .tc) α} (q : DmaSem sig) (hq : IsT q) {sm : DmaSem sig} (hs : sm = q) {sp sp' : Space} {s s' : Shape} {e e' : EltTy} {κ' : Kind}
    {src : Memref sig .tc sp' s' e'} {dst : Memref sig κ' sp s e} {hsrc : src.view.WordExact} {hdst : dst.view.WordExact}
    (hcr : dst.view.dmaCredit = amtD q) (n : ℕ) {W : Waits sig Unit} (hl : ∀ e ∈ owedS.drop n, lvS (.dma q) < lvS e) :
    iprop(records A K ∗ levAts L lv ∗ cred (tallyAt (dCell c q) () (amtD q)) ∗ owes (c : Thread nD τ) (O c n) W ∗ atPos ER (dCell c q) 0 ∅ 0)
      ⊢ iprop(((owes (c : Thread nD τ) (O c n) (insert (SemLoc.dma q, ()) W) ∗ semVal (dCell c q) 0 ∗ xferPay A c q) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hs
  iintro ⟨#HR, #Hlev, Hc, HO, Hat⟩ Hk
  rw [← hcr]
  iapply (Rounds.wp_wait_rest_token 𝒱₀ ER (exRd A) (c : Thread nD τ) none (κ := K (c, kOf sm))
      (wpE_waitDma2_eq 𝒱₀ (c : Thread nD τ) none Set.univ) (Set.mem_univ _) () (O := O c n) (W := W) (R := 0) (m := 0) (T := ∅)
      (by rw [expect_dma A c sm hq, Nat.zero_add]; exact hcr)) $$ [Hc HO Hat]
  · isplitr; · iapply (inv_dma A K c sm hq); iexact HR
    isplitl [Hc]; · iexact Hc
    isplitl [HO]; · iexact HO
    isplitr; · iapply (mayWait_O c (.dma sm) n hl); iexact Hlev
    iexact Hat
  iintro ⟨HO, Hat, -, Hpay⟩
  ihave Hp := (Entails.of_eq (rest_dma A c sm hq)) $$ Hpay
  imod (Rounds.cell_close ER (exRd A) (Set.mem_univ (K (c, kOf sm))) (fun h => h) (R := 0 + 1) (duties_later A (dCell c sm))) $$ [Hat] with Hz
  · isplitr; · iapply (inv_dma A K c sm hq); iexact HR
    iexact Hat
  iapply Hk
  isplitl [HO]; · iexact HO
  isplitl [Hz]; · iexact Hz
  iexact Hp

/-- A half sent to the partner, into the same place of the same buffer. -/
theorem wp_send {α : Type} {Q : α → sProp 𝕄} {k : PUnit → Prog (TpuEff nD τ sig (Elt F) Λ₀ .tc) α} (t : Fin 3) {n : Dev nD} (hn : n = yn c)
    {sh : Shape} (M : Memref sig .tc .vmem sh .bf16) {src dst : Memref sig .tc .vmem sh .bf16} (hS : src = M) (hD : dst = M)
    {a b : DmaSem sig} (ha : a = tS t) (hb : b = tR t)
    {hsc : (show Memref sig (Dev.tc n : Thread nD τ).2.kind .vmem sh .bf16 from dst).view.ref.isScScratch = false}
    {hsrc : src.view.WordExact} {hdst : dst.view.WordExact}
    {hsem : DmaTarget.Typed .vmem (.dma b) (.remote (Dev.tc n : Thread nD τ) dst (.dma a) hsc)}
    (j : ℕ) (hj : O c j = O c (j + 1) + tallyAt (dCell (yn c) (tR t)) () (amtD (tR t)))
    (fs fd : M.view.ty.Contents (Elt F)) (hcr : M.view.dmaCredit = amtD (tR t)) (hamt : amtD (tS t) = amtD (tR t))
    (hp₁ : xferPay A c (tS t) = mPts c M fs) (hp₂ : xferPay A (yn c) (tR t) = mPts (yn c) M fs) {W : Waits sig Unit} :
    iprop(records A K ∗ mPts c M fs ∗ mPts (yn c) M fd ∗ owes (c : Thread nD τ) (O c j) W
        ∗ dutyTok ER (dCell c (tS t)) 0 false ∗ dutyTok ER (dCell (yn c) (tR t)) 0 false)
      ⊢ iprop(((cred (tallyAt (dCell c (tS t)) () (amtD (tS t))) ∗ owes (c : Thread nD τ) (O c (j + 1)) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n : Thread nD τ) dst (.dma a) hsc) (.dma b) hsrc hdst hsem) k) Q) := by
  subst hn; subst hS; subst hD; subst ha; subst hb
  rw [hamt]
  iintro ⟨#HR, Hs, Hd, HO, Ht1, Ht2⟩
  have hland : ∀ i ∈ dst.view.set, dst.view.write (Elt F) fd (dst.view.read (Elt F) fs) Finset.univ i = fs i := by
    intro i hi
    obtain ⟨x, -, rfl⟩ := Finset.mem_map.mp hi
    rw [View.write_emb_of_mem _ _ (Finset.mem_univ x)]
    exact (cast_cast _ _ _).trans (cast_eq _ _)
  unfold mPts at hp₁ hp₂ ⊢
  iapply (Rounds.wp_send_pointsTo 𝒱₀ ER (exRd A) (c : Thread nD τ) none (κ₁ := K (c, kOf (tS t))) (κ₂ := K (yn c, kOf (tR t)))
    (r₁ := 0) (r₂ := 0) (d₁ := false) (d₂ := false) (c' := (yn c : Thread nD τ)) (src := dst) (dst := dst) (sS := .dma (tS t)) (sem := .dma (tR t))
    (fd := fd) (fs := fs) (q := fullShare)
    (by rw [duties_dma A _ _ (isT_S t)]; exact Finset.mem_singleton_self _)
    (by rw [duties_dma A _ _ (isT_R t)]; exact Finset.mem_singleton_self _)
    () () (amtD (tR t)) hcr ((amount_dma A c _ false).trans hamt) (amount_dma A (yn c) _ false) (O c (j + 1)) hj (W := W)
    (by rw [payload_dma, hp₁])
    (by rw [payload_dma, hp₂]; exact Entails.of_eq (pointsTo_congr hland)))
  isplitr; · iapply (inv_dma A K c _ (isT_S t)); iexact HR
  isplitr; · iapply (inv_dma A K (yn c) _ (isT_R t)); iexact HR
  isplitl [Hs]; · iexact Hs
  isplitl [Hd]; · iexact Hd
  isplitl [HO]; · iexact HO
  isplitl [Ht1]; · iexact Ht1
  isplitr; · iapply (reached_dma A K c _ (isT_S t)); iexact HR
  isplitl [Ht2]; · iexact Ht2
  iapply (reached_dma A K (yn c) _ (isT_R t)); iexact HR

end Rules

/-! ## A half and what it leaves -/

/-- A half taken out of a buffer, its contents named. -/
theorem half_out (c : Dev nD) {sh : Shape} {e : EltTy} (M : Memref sig .tc .vmem sh e) (f g : M.view.ty.Contents (Elt F))
    (S : Finset (Idx (M.view.loc (c : Thread nD τ)))) (hS : M.view.set ⊆ S) (hf : ∀ i ∈ M.view.set, f i = g i) :
    (M.view.loc (c : Thread nD τ) ↦[S]{fullShare} (f : Buf (Elt F) (M.view.loc (c : Thread nD τ))) : sProp 𝕄)
      ⊢ iprop(mPts c M g ∗ (M.view.loc (c : Thread nD τ) ↦[S \ M.view.set]{fullShare} (f : Buf (Elt F) (M.view.loc (c : Thread nD τ))))) := by
  unfold mPts
  rw [← pointsTo_congr (ℓ := M.view.loc (c : Thread nD τ)) hf]
  exact (pointsTo_split_subset hS).1

/-- The halves together. -/
theorem halves_join (ℓ : Loc nD τ sig) (I J : Finset (Idx ℓ)) (hJ : J = Finset.univ \ I) (f : Buf (Elt F) ℓ) :
    iprop((ℓ ↦[I]{fullShare} f) ∗ (ℓ ↦[J]{fullShare} f)) ⊢ (ℓ ↦[Finset.univ]{fullShare} f : sProp 𝕄) := by
  subst hJ; exact (pointsTo_split_subset (Finset.subset_univ I)).2

theorem wk_join (c : Dev nD) (f : S256x4096.Idx → Elt F .bf16) :
    iprop(mPts c (halfM wkM (yc c)) f ∗ mPts c (halfM wkM (oc c)) f) ⊢ (wkM.view.loc (c : Thread nD τ) ↦[Finset.univ]{fullShare} f : sProp 𝕄) := by
  unfold mPts; rw [half_set_wk, half_set_wk]; exact halves_join (wkM.view.loc (c : Thread nD τ)) _ _ (row_compl c) f
theorem wv_join (c : Dev nD) (f : S256x4096.Idx → Elt F .bf16) :
    iprop(mPts c (halfM wvM (yc c)) f ∗ mPts c (halfM wvM (oc c)) f) ⊢ (wvM.view.loc (c : Thread nD τ) ↦[Finset.univ]{fullShare} f : sProp 𝕄) := by
  unfold mPts; rw [half_set_wv, half_set_wv]; exact halves_join (wvM.view.loc (c : Thread nD τ)) _ _ (row_compl c) f
theorem c_join (c : Dev nD) (f : S2x512x128.Idx → Elt F .bf16) :
    iprop(mPts c (slotM (yc c)) f ∗ mPts c (slotM (oc c)) f) ⊢ (cM.view.loc (c : Thread nD τ) ↦[Finset.univ]{fullShare} f : sProp 𝕄) := by
  unfold mPts; rw [slot_set, slot_set]; exact halves_join (cM.view.loc (c : Thread nD τ)) _ _ (slot_compl c) f

/-- What the partner sends to is what half `oc c` of each buffer holds. -/
theorem wk_give (c : Dev nD) (o : Fin 2) (ho : oc c = o) (f : S256x4096.Idx → Elt F .bf16) :
    (wkM.view.loc (c : Thread nD τ) ↦[Finset.univ]{fullShare} f : sProp 𝕄) ⊢ iprop(mPts c (halfM wkM (oc c)) f ∗ (wkM.view.loc (c : Thread nD τ) ↦[Finset.univ \ (halfM wkM o).view.set]{fullShare} f)) := by
  subst ho; exact half_out c (halfM wkM (oc c)) f f Finset.univ (Finset.subset_univ _) fun _ _ => rfl
theorem wv_give (c : Dev nD) (o : Fin 2) (ho : oc c = o) (f : S256x4096.Idx → Elt F .bf16) :
    (wvM.view.loc (c : Thread nD τ) ↦[Finset.univ]{fullShare} f : sProp 𝕄) ⊢ iprop(mPts c (halfM wvM (oc c)) f ∗ (wvM.view.loc (c : Thread nD τ) ↦[Finset.univ \ (halfM wvM o).view.set]{fullShare} f)) := by
  subst ho; exact half_out c (halfM wvM (oc c)) f f Finset.univ (Finset.subset_univ _) fun _ _ => rfl
theorem c_give (c : Dev nD) (o : Fin 2) (ho : oc c = o) (f : S2x512x128.Idx → Elt F .bf16) :
    (cM.view.loc (c : Thread nD τ) ↦[Finset.univ]{fullShare} f : sProp 𝕄) ⊢ iprop(mPts c (slotM (oc c)) f ∗ (cM.view.loc (c : Thread nD τ) ↦[Finset.univ \ (slotM o).view.set]{fullShare} f)) := by
  subst ho; exact half_out c (slotM (oc c)) f f Finset.univ (Finset.subset_univ _) fun _ _ => rfl

theorem yc_of_oc {c : Dev nD} {o : Fin 2} (h : oc c = o) : (rowRect o).set = Finset.univ \ (rowRect (yc c)).set ∧ (slotRect o).set = Finset.univ \ (slotRect (yc c)).set := by
  subst h; exact ⟨row_compl c, slot_compl c⟩

/-- What was kept, once it holds what is sent, is the half to send. -/
theorem wk_send (c : Dev nD) (o : Fin 2) (ho : oc c = o) (f : S256x4096.Idx → Elt F .bf16) (hf : ∀ i ∈ (rowRect (yc c)).set, f i = WK A c i) :
    (wkM.view.loc (c : Thread nD τ) ↦[Finset.univ \ (halfM wkM o).view.set]{fullShare} f : sProp 𝕄) ⊢ mPts c (halfM wkM (yc c)) (WK A c) := by
  unfold mPts; rw [half_set_wk, half_set_wk, (yc_of_oc ho).1, Finset.sdiff_sdiff_eq_self (Finset.subset_univ _)]
  exact Entails.of_eq (pointsTo_congr hf)
theorem wv_send (c : Dev nD) (o : Fin 2) (ho : oc c = o) (f : S256x4096.Idx → Elt F .bf16) (hf : ∀ i ∈ (rowRect (yc c)).set, f i = WV A c i) :
    (wvM.view.loc (c : Thread nD τ) ↦[Finset.univ \ (halfM wvM o).view.set]{fullShare} f : sProp 𝕄) ⊢ mPts c (halfM wvM (yc c)) (WV A c) := by
  unfold mPts; rw [half_set_wv, half_set_wv, (yc_of_oc ho).1, Finset.sdiff_sdiff_eq_self (Finset.subset_univ _)]
  exact Entails.of_eq (pointsTo_congr hf)
theorem c_send (c : Dev nD) (o : Fin 2) (ho : oc c = o) (f : S2x512x128.Idx → Elt F .bf16) (hf : ∀ i ∈ (slotRect (yc c)).set, f i = CB A c i) :
    (cM.view.loc (c : Thread nD τ) ↦[Finset.univ \ (slotM o).view.set]{fullShare} f : sProp 𝕄) ⊢ mPts c (slotM (yc c)) (CB A c) := by
  unfold mPts; rw [slot_set, slot_set, (yc_of_oc ho).2, Finset.sdiff_sdiff_eq_self (Finset.subset_univ _)]
  exact Entails.of_eq (pointsTo_congr hf)

end Cert.ExProof

end

end
-- ==== Proof.ExVals.lean ====
/-
# The exchange on the 2×2 mesh: what the buffers hold

The results of a device as functions of what the four devices are given; what each load reads; the halves just before they are sent.
-/
module

public import proofs.«01_k».proof.Proof.ExRules

@[expose] public section

noncomputable section

namespace Cert.ExProof

open Cert.ExchangeIdeal Cert.ExchangeIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (A : Args F)

/-! ## A buffer stored whole; a buffer stored column by column -/

/-- A store over the whole buffer is all that is left. -/
theorem whole_written {sp : Space} {s : Shape} {e : EltTy} (v : View sig .tc sp s e) {off : Fin s.rank → ℕ} (h : off = fun _ => 0) (inb : ∀ a, off a + s.size a ≤ s.size a)
    (g : v.ty.Contents (Elt F)) (l) (w : s.Idx → Elt F e) : v.read (Elt F) (v.writes (Elt F) g (⟨Rect.unit (s := s) off s.size inb, w⟩ :: l)) = w := by
  funext x
  have hx : (Rect.unit (s := s) off s.size inb).emb x = x := by
    funext a; exact Fin.ext (by show off a + 1 * (x a).val = (x a).val; rw [h]; show 0 + 1 * (x a).val = _; omega)
  have h' := View.read_writes_cons_emb (v := v) g (Rect.unit (s := s) off s.size inb) w l x
  rw [hx] at h'; exact h'

section Cols
variable {m n w N : ℕ} {e : EltTy}

/-- Columns put side by side, `w` at a time. -/
def colsOf (hw : 0 < w) (hN : N = n * w) (G : Fin n → (⟨2, ![m, w]⟩ : Shape).Idx → Elt F e) : (⟨2, ![m, N]⟩ : Shape).Idx → Elt F e := fun i =>
  G ⟨(i 1).val / w, Nat.div_lt_of_lt_mul (lt_of_lt_of_eq (show (i 1).val < N from (i 1).isLt) (hN.trans (Nat.mul_comm _ _)))⟩
    (fun a => match a with
      | ⟨0, _⟩ => ⟨(i 0).val, (i 0).isLt⟩
      | ⟨1, _⟩ => ⟨(i 1).val % w, Nat.mod_lt _ hw⟩)

/-- A piece stored into columns `w·j …` is the whole's. -/
theorem col_piece (hw : 0 < w) (hN : N = n * w) (G : Fin n → (⟨2, ![m, w]⟩ : Shape).Idx → Elt F e) (j : Fin n) (o : ℕ) (ho : o = w * j.val)
    (inb : ∀ a, (![0, o] : Fin 2 → ℕ) a + (![m, w] : Fin 2 → ℕ) a ≤ (![m, N] : Fin 2 → ℕ) a) (v : (⟨2, ![m, w]⟩ : Shape).Idx → Elt F e) (hv : v = G j)
    (x : (⟨2, ![m, w]⟩ : Shape).Idx) : v x = colsOf hw hN G ((Rect.unit (s := ⟨2, ![m, N]⟩) ![0, o] ![m, w] inb).emb x) := by
  have h1 : (x 1).val < w := (x 1).isLt
  have e0 : (((Rect.unit (s := ⟨2, ![m, N]⟩) ![0, o] ![m, w] inb).emb x) 0).val = 0 + 1 * (x 0).val := rfl
  have e1 : (((Rect.unit (s := ⟨2, ![m, N]⟩) ![0, o] ![m, w] inb).emb x) 1).val = o + 1 * (x 1).val := rfl
  have d1 : (o + 1 * (x 1).val) / w = j.val := by
    rw [ho, Nat.one_mul, Nat.mul_add_div hw, Nat.div_eq_of_lt h1, Nat.add_zero]
  have d2 : (o + 1 * (x 1).val) % w = (x 1).val := by
    rw [ho, Nat.one_mul, Nat.mul_add_mod, Nat.mod_eq_of_lt h1]
  unfold colsOf
  rw [hv]
  refine congr (congrArg G (Fin.ext ?_)) (funext fun a => ?_)
  · show j.val = _ / w; rw [e1, d1]
  · match a with
    | ⟨0, _⟩ => exact Fin.ext (by show (x 0).val = _; rw [e0]; omega)
    | ⟨1, _⟩ => exact Fin.ext (by show (x 1).val = _ % w; rw [e1, d2])

/-- Pieces that are the whole's, one for each `w` columns, the last stored first in the list, leave the whole. -/
theorem cols_written (hw : 0 < w) (hN : N = n * w) (G : Fin n → (⟨2, ![m, w]⟩ : Shape).Idx → Elt F e) {sp : Space} (v : View sig .tc sp ⟨2, ![m, N]⟩ e)
    (g : v.ty.Contents (Elt F)) (l : List (View.Piece (Elt F) ⟨2, ![m, N]⟩ e))
    (hp : ∀ p ∈ l, ∀ x : p.1.shape.Idx, p.2 x = colsOf hw hN G (p.1.emb x)) (hlen : l.length = n)
    (hcov : ∀ (j : Fin n) h, ∃ inb, (l[n - 1 - j.val]'h).1 = Rect.unit (s := ⟨2, ![m, N]⟩) ![0, w * j.val] ![m, w] inb) :
    v.read (Elt F) (v.writes (Elt F) g l) = colsOf hw hN G := by
  funext i
  have hi : (i 1).val < N := (i 1).isLt
  have hi0 : (i 0).val < m := (i 0).isLt
  have hj : (i 1).val / w < n := Nat.div_lt_of_lt_mul (lt_of_lt_of_eq hi (hN.trans (Nat.mul_comm _ _)))
  have hl : n - 1 - (i 1).val / w < l.length := by
    rw [hlen]; exact (fun q (h : q < n) => (by omega : n - 1 - q < n)) _ hj
  obtain ⟨inb, hr⟩ := hcov ⟨(i 1).val / w, hj⟩ hl
  refine View.read_writes_apply_of_pieces v g (colsOf hw hN G) l hp i ⟨_, List.getElem_mem hl, ?_⟩
  rw [hr, Rect.mem_set_unit]
  have hd := Nat.div_add_mod (i 1).val w
  have hm := Nat.mod_lt (i 1).val hw
  intro a
  match a with
  | ⟨0, _⟩ => exact ⟨Nat.zero_le _, by show (i 0).val < 0 + m; omega⟩
  | ⟨1, _⟩ => exact ⟨by show w * ((i 1).val / w) ≤ (i 1).val; omega, by show (i 1).val < w * ((i 1).val / w) + w; omega⟩

end Cols

/-! ## The results -/

/-- Column chunk `j` of `Wqr`, as it lies in one slot of the staging buffer. -/
def qChunk (w : S4096x2048.Idx → Elt F .f32) (j : Fin 8) : Vec F S1x4096x256 .f32 :=
  fun i => w (fun a => match a with
    | ⟨0, _⟩ => ⟨(i 1).val, (i 1).isLt⟩
    | ⟨1, _⟩ => ⟨256 * j.val + (i 2).val, by have h : (i 2).val < 256 := (i 2).isLt; have := j.isLt; show _ < 2048; omega⟩)

/-- Column chunk `j` of an exchanged weight. -/
def kChunk (w : S256x4096.Idx → Elt F .bf16) (j : Fin 4) : Vec F S256x1024 .bf16 :=
  fun i => w (fun a => match a with
    | ⟨0, _⟩ => ⟨(i 0).val, (i 0).isLt⟩
    | ⟨1, _⟩ => ⟨1024 * j.val + (i 1).val, by have h : (i 1).val < 1024 := (i 1).isLt; have := j.isLt; show _ < 4096; omega⟩)

/-- The compressed rows, both halves of the columns. -/
def CF (c : Dev nD) : S512x256.Idx → Elt F .bf16 := colsOf (n := 2) (w := 128) (by decide) rfl fun s => CM A (at_ c s)
/-- The results of device `c`: keys, values, rotary keys, rotary queries (and the rounded rows `XB`). -/
def KV (c : Dev nD) : S512x4096.Idx → Elt F .bf16 := colsOf (n := 4) (w := 1024) (by decide) rfl fun j => k0_pay26 (F := F) (CF A c) (kChunk (WK A c) j)
def VV (c : Dev nD) : S512x4096.Idx → Elt F .bf16 := colsOf (n := 4) (w := 1024) (by decide) rfl fun j => k0_pay26 (F := F) (CF A c) (kChunk (WV A c) j)
def KR (c : Dev nD) : S512x64.Idx → Elt F .bf16 := k0_pay14 (F := F) (XB A c) (A.wr c)
def QR (c : Dev nD) : S512x2048.Idx → Elt F .bf16 := colsOf (n := 8) (w := 256) (by decide) rfl fun j => k0_pay15 (F := F) (XB A c) (qChunk (A.wq c) j)

/-! ## The staging slots of `Wqr` -/

theorem qslot_inb : ∀ (s : Fin 2) (a : Fin 3), (![s.val, 0, 0] : Fin 3 → ℕ) a + S1x4096x256.size a ≤ S2x4096x256.size a := by decide

abbrev qRect (s : Fin 2) : Rect S2x4096x256 := Rect.unit (s := S2x4096x256) ![s.val, 0, 0] S1x4096x256.size (qslot_inb s)
/-- One of the two staging slots, as the copies name it. -/
abbrev qSlot (s : Fin 2) : Memref sig .tc .vmem S4096x256 .f32 :=
  (qbM.slice (qRect s) (fun _ => rfl)).squeeze S4096x256 squeezes_S1x4096x256_S4096x256

theorem sc_q : S4096x256.ShapeCasts S1x4096x256 := by decide

/-- Loading the slot just copied into reads the copy. -/
theorem qslot_own (s : Fin 2) (f : (cc0_scratch4 : Ref sig .tc).ty.Contents (Elt F)) (d : S4096x256.Idx → Elt F .f32) :
    View.readAt (Elt F) qbM.view (qRect s).toLoadRect ((qSlot s).view.write (Elt F) f d Finset.univ)
      = shapeCast S1x4096x256 d sc_q := by
  funext i
  rw [shapeCast]
  have h := congrFun (View.read_write_univ (v := (qSlot s).view) f d) (Shape.reshapeEquiv (s := S4096x256) (s' := S1x4096x256) sc_q i)
  refine Eq.trans ?_ h
  show _ = ((qSlot s).view.write (Elt F) f d Finset.univ) (qbM.view.emb ((qRect s).emb (Shape.reshapeEquiv _ (Shape.reshapeEquiv _ i))))
  rw [Shape.reshapeEquiv_reshapeEquiv, Shape.reshapeEquiv_self]
  rfl

/-- Loading the other slot does not see the copy. -/
theorem qslot_other {s t : Fin 2} (h : s ≠ t) (f : (cc0_scratch4 : Ref sig .tc).ty.Contents (Elt F)) (d : S4096x256.Idx → Elt F .f32) :
    View.readAt (Elt F) qbM.view (qRect s).toLoadRect ((qSlot t).view.write (Elt F) f d Finset.univ)
      = View.readAt (Elt F) qbM.view (qRect s).toLoadRect f := by
  funext i
  show (qSlot t).view.write (Elt F) f d Finset.univ ((qRect s).emb i) = f ((qRect s).emb i)
  refine View.write_of_not_mem _ _ _ ?_
  rw [View.setOn_univ]
  rw [show (qSlot t).view.set = (qRect t).set from (View.set_reshape _ _).trans (View.set_slice_whole cc0_scratch4 _)]
  rw [Rect.mem_set_unit]
  intro hm
  have h0 := hm 0
  have e0 : ((qRect s).emb i 0).val = s.val + 1 * (i 0).val := rfl
  have hi : (i 0).val < 1 := (i 0).isLt
  have e1 : (![t.val, 0, 0] : Fin 3 → ℕ) 0 = t.val := rfl
  have e2 : S1x4096x256.size 0 = 1 := rfl
  rw [e1, e2, e0] at h0
  exact h (Fin.ext (by omega))

/-- A copied column chunk, seen as a slot. -/
theorem chunk_copied (w : S4096x2048.Idx → Elt F .f32) (j : Fin 8) (n : ℕ) (hn : n = 256 * j.val) (inb) (hx) :
    shapeCast (s := S4096x256) S1x4096x256 (ReadAs.same.apply (View.read (Elt F) ((wqM.slice (Rect.unit (s := S4096x2048) ![0, n] S4096x256.size inb) hx).view) w)) sc_q
      = qChunk w j := by
  subst hn
  funext i
  have he : Shape.reshapeEquiv (s := S4096x256) (s' := S1x4096x256) sc_q i
      = fun a => match a with | ⟨0, _⟩ => ⟨(i 1).val, (i 1).isLt⟩ | ⟨1, _⟩ => ⟨(i 2).val, (i 2).isLt⟩ := by
    refine Shape.reshapeEquiv_eq_of_rowMajor _ ?_
    rw [Shape.rowMajor_val_two, Shape.rowMajor_val_three]
    have hi : (i 0).val < 1 := (i 0).isLt
    show (i 1).val * 256 + (i 2).val = ((i 0).val * 4096 + (i 1).val) * 256 + (i 2).val
    omega
  rw [shapeCast, he]
  · show w _ = w _
    congr 1
    funext a
    match a with
    | ⟨0, _⟩ => exact Fin.ext (by show 0 + 1 * (i 1).val = (i 1).val; omega)
    | ⟨1, _⟩ => exact Fin.ext (by show 256 * j.val + 1 * (i 2).val = 256 * j.val + (i 2).val; omega)

/-- The chunk read when its copy is the last write. -/
theorem chunk_last (w : S4096x2048.Idx → Elt F .f32) (s : Fin 2) (j : Fin 8) (n : ℕ) (hn : n = 256 * j.val) (inb) (hx) (f : (cc0_scratch4 : Ref sig .tc).ty.Contents (Elt F)) :
    View.readAt (Elt F) qbM.view (qRect s).toLoadRect ((qSlot s).view.write (Elt F) f
        (ReadAs.same.apply (View.read (Elt F) ((wqM.slice (Rect.unit (s := S4096x2048) ![0, n] S4096x256.size inb) hx).view) w)) Finset.univ)
      = qChunk w j := by
  rw [qslot_own]; exact chunk_copied w j n hn inb hx

/-- The chunk read when the other slot has been copied into meanwhile. -/
theorem chunk_before (w : S4096x2048.Idx → Elt F .f32) (s t : Fin 2) (hst : s ≠ t) (j : Fin 8) (n : ℕ) (hn : n = 256 * j.val) (inb) (hx)
    (f : (cc0_scratch4 : Ref sig .tc).ty.Contents (Elt F)) (d : S4096x256.Idx → Elt F .f32) :
    View.readAt (Elt F) qbM.view (qRect s).toLoadRect ((qSlot t).view.write (Elt F) ((qSlot s).view.write (Elt F) f
        (ReadAs.same.apply (View.read (Elt F) ((wqM.slice (Rect.unit (s := S4096x2048) ![0, n] S4096x256.size inb) hx).view) w)) Finset.univ) d Finset.univ)
      = qChunk w j := by
  rw [qslot_other hst]; exact chunk_last w s j n hn inb hx f

/-! ## What the loads read -/

theorem x_val (c : Dev nD) (a : Fin 2) (ha : xc c = a) (n : ℕ) (hn : n = 2 * a.val) (inb) :
    k0_pay10 (F := F) (View.readAt (Elt F) xM.view (Rect.unit (s := S4x256x4096) ![n, 0, 0] S2x256x4096.size inb).toLoadRect (A.x c)) = XB A c := by
  subst ha; subst hn; rfl
theorem xb_read (inb) (f : (cc0_stg8_0 : Ref sig .tc).ty.Contents (Elt F)) :
    View.readAt (Elt F) xbM.view (Rect.unit (s := S512x4096) ![0, 0] S512x4096.size inb).toLoadRect f = f := Memref.readAt_unit_zero (Elt F) cc0_stg8_0 (by decide) inb f
theorem wd_read (inb) (f : (cc0_stg1_0 : Ref sig .tc).ty.Contents (Elt F)) :
    View.readAt (Elt F) wdM.view (Rect.unit (s := S4096x128) ![0, 0] S4096x128.size inb).toLoadRect f = f := Memref.readAt_unit_zero (Elt F) cc0_stg1_0 (by decide) inb f
theorem uk_read (inb) (f : (cc0_stg2_0 : Ref sig .tc).ty.Contents (Elt F)) :
    View.readAt (Elt F) ukM.view (Rect.unit (s := S128x4096) ![0, 0] S128x4096.size inb).toLoadRect f = f := Memref.readAt_unit_zero (Elt F) cc0_stg2_0 (by decide) inb f
theorem uv_read (inb) (f : (cc0_stg3_0 : Ref sig .tc).ty.Contents (Elt F)) :
    View.readAt (Elt F) uvM.view (Rect.unit (s := S128x4096) ![0, 0] S128x4096.size inb).toLoadRect f = f := Memref.readAt_unit_zero (Elt F) cc0_stg3_0 (by decide) inb f
theorem wr_read (inb) (f : (cc0_stg4_0 : Ref sig .tc).ty.Contents (Elt F)) :
    View.readAt (Elt F) wrM.view (Rect.unit (s := S4096x64) ![0, 0] S4096x64.size inb).toLoadRect f = f := Memref.readAt_unit_zero (Elt F) cc0_stg4_0 (by decide) inb f
theorem cf_read (inb) (f : (cc0_scratch1 : Ref sig .tc).ty.Contents (Elt F)) :
    View.readAt (Elt F) cfM.view (Rect.unit (s := S512x256) ![0, 0] S512x256.size inb).toLoadRect f = f := Memref.readAt_unit_zero (Elt F) cc0_scratch1 (by decide) inb f

theorem kChunk_read (w : S256x4096.Idx → Elt F .bf16) (j : Fin 4) (n : ℕ) (hn : n = 1024 * j.val) (inb) :
    (fun i : S256x1024.Idx => w ((Rect.unit (s := S256x4096) ![0, n] S256x1024.size inb).emb i)) = kChunk w j := by
  subst hn
  funext i
  unfold kChunk
  congr 1
  funext a
  match a with
  | ⟨0, _⟩ => exact Fin.ext (by show 0 + 1 * (i 0).val = (i 0).val; omega)
  | ⟨1, _⟩ => exact Fin.ext (by show 1024 * j.val + 1 * (i 1).val = 1024 * j.val + (i 1).val; omega)

/-! ## The halves before they are sent -/

theorem row_emb (s : Fin 2) (x : (rowRect s).shape.Idx) : rHalf ((rowRect s).emb x) = s ∧ rIn ((rowRect s).emb x) = x := by
  have h0 : (x 0).val < 128 := (x 0).isLt
  have e0 : (((rowRect s).emb x) 0).val = 128 * s.val + 1 * (x 0).val := rfl
  have e1 : (((rowRect s).emb x) 1).val = 0 + 1 * (x 1).val := rfl
  refine ⟨Fin.ext (by show (((rowRect s).emb x) 0).val / 128 = _; rw [e0]; omega), funext fun a => ?_⟩
  match a with
  | ⟨0, _⟩ => exact Fin.ext (by show (((rowRect s).emb x) 0).val % 128 = (x 0).val; rw [e0]; omega)
  | ⟨1, _⟩ => exact Fin.ext (by show (((rowRect s).emb x) 1).val = (x 1).val; rw [e1]; omega)

/-- A half stored with the device's own rows holds what is sent. -/
theorem wk_stored (c : Dev nD) (s : Fin 2) (hs : yc c = s) (g : (cc0_scratch2 : Ref sig .tc).ty.Contents (Elt F)) (l) (v : FVec F S128x4096 .bf16) (hv : v = A.uk c) :
    ∀ i ∈ (rowRect (yc c)).set, wkM.view.writes (Elt F) g (⟨rowRect s, v⟩ :: l) i = WK A c i := by
  subst hs
  intro i hi
  obtain ⟨x, rfl⟩ := (rowRect (yc c)).exists_idx_of_mem hi
  have hr : ∀ W : (cc0_scratch2 : Ref sig .tc).ty.Contents (Elt F), W ((rowRect (yc c)).emb x) = wkM.view.read (Elt F) W ((rowRect (yc c)).emb x) := fun _ => rfl
  refine (hr _).trans ?_
  rw [View.read_writes_cons_emb]
  show v x = WK A c ((rowRect (yc c)).emb x)
  unfold WK
  rw [(row_emb (yc c) x).1, (row_emb (yc c) x).2, at_yc, hv]
theorem wv_stored (c : Dev nD) (s : Fin 2) (hs : yc c = s) (g : (cc0_scratch3 : Ref sig .tc).ty.Contents (Elt F)) (l) (v : FVec F S128x4096 .bf16) (hv : v = A.uv c) :
    ∀ i ∈ (rowRect (yc c)).set, wvM.view.writes (Elt F) g (⟨rowRect s, v⟩ :: l) i = WV A c i := by
  subst hs
  intro i hi
  obtain ⟨x, rfl⟩ := (rowRect (yc c)).exists_idx_of_mem hi
  have hr : ∀ W : (cc0_scratch3 : Ref sig .tc).ty.Contents (Elt F), W ((rowRect (yc c)).emb x) = wvM.view.read (Elt F) W ((rowRect (yc c)).emb x) := fun _ => rfl
  refine (hr _).trans ?_
  rw [View.read_writes_cons_emb]
  show v x = WV A c ((rowRect (yc c)).emb x)
  unfold WV
  rw [(row_emb (yc c) x).1, (row_emb (yc c) x).2, at_yc, hv]

theorem sRest_emb (s : Fin 2) (x : (slotRect s).shape.Idx) : Shape.reshapeEquiv (s := S512x128) (s' := S1x512x128) (by decide) x = sRest ((slotRect s).emb x) := by
  refine Shape.reshapeEquiv_eq_of_rowMajor _ ?_
  rw [Shape.rowMajor_val_two, Shape.rowMajor_val_three]
  have hx : (x 0).val < 1 := (x 0).isLt
  show (0 + 1 * (x 1).val) * 128 + (0 + 1 * (x 2).val) = ((x 0).val * 512 + (x 1).val) * 128 + (x 2).val
  omega
theorem sIdx_emb (s : Fin 2) (x : (slotRect s).shape.Idx) : sIdx ((slotRect s).emb x) = s :=
  Fin.ext (by have hx : (x 0).val < 1 := (x 0).isLt; show s.val + 1 * (x 0).val = s.val; omega)

theorem c_stored (c : Dev nD) (s : Fin 2) (hs : yc c = s) (g : (cc0_scratch0 : Ref sig .tc).ty.Contents (Elt F)) (l) (v : FVec F S512x128 .bf16) (hv : v = CM A c) (hc) :
    ∀ i ∈ (slotRect (yc c)).set, cM.view.writes (Elt F) g (⟨slotRect s, shapeCast S1x512x128 v hc⟩ :: l) i = CB A c i := by
  subst hs
  intro i hi
  obtain ⟨x, rfl⟩ := (slotRect (yc c)).exists_idx_of_mem hi
  have hr : ∀ W : (cc0_scratch0 : Ref sig .tc).ty.Contents (Elt F), W ((slotRect (yc c)).emb x) = cM.view.read (Elt F) W ((slotRect (yc c)).emb x) := fun _ => rfl
  refine (hr _).trans ?_
  rw [View.read_writes_cons_emb]
  show v (Shape.reshapeEquiv hc x) = CB A c ((slotRect (yc c)).emb x)
  rw [hv, show Shape.reshapeEquiv hc x = _ from sRest_emb (yc c) x]
  unfold CB
  rw [sIdx_emb, at_yc]

/-- What a slot of the compressed rows reads as. -/
theorem slot_loaded (s : Fin 2) (c : Dev nD) (hc) :
    shapeCast (s := S1x512x128) S512x128 (fun i => CB A c ((slotRect s).emb i)) hc = CM A (at_ c s) := by
  funext x
  show CB A c ((slotRect s).emb (Shape.reshapeEquiv hc x)) = _
  have h : sRest ((slotRect s).emb (Shape.reshapeEquiv (s := S1x512x128) (s' := S512x128) hc x)) = x :=
    (sRest_emb s _).symm.trans ((Shape.reshapeEquiv_reshapeEquiv _ _ x).trans (Shape.reshapeEquiv_self _ x))
  unfold CB
  rw [sIdx_emb, h]

end Cert.ExProof

end

end
-- ==== Proof.ExKit.lean ====
/-
# The exchange on the 2×2 mesh: what one device is given and leaves

The tokens, positions and buffers a device starts with and ends with, and what its first stores leave.
-/
module

public import proofs.«01_k».proof.Proof.ExVals
public import Idealize.ShloMosaic.Lib.Pipeline.Value

@[expose] public section

noncomputable section

namespace Cert.ExProof

open Cert.ExchangeIdeal Cert.ExchangeIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (A : Args F)
variable (K : Dev nD × Fin 7 → ℕ)

/-- What a device starts transfer `t` with: the tokens it pays, its positions, its credit. -/
def tkit (c : Dev nD) (t : Fin 3) : sProp 𝕄 :=
  iprop(dutyTok ER (dCell c (tS t)) 0 false ∗ dutyTok ER (dCell (yn c) (tR t)) 0 false ∗ atPos ER (dCell c (tS t)) 0 ∅ 0
    ∗ atPos ER (dCell c (tR t)) 0 ∅ 0 ∗ cred (tallyAt (dCell c (tR t)) () (amtD (tR t))))
def bkit (c : Dev nD) : sProp 𝕄 :=
  iprop(dutyTok ER (barCell (yn c)) 0 false ∗ atPos ER (barCell c) 0 ∅ 0 ∗ cred (tallyAt (barCell c) () 1))

theorem dev1_eq (c : Dev nD) (h) : (⟨k0_dev1 c, h⟩ : Dev nD) = yn c := by revert c; decide

theorem places : ∀ c : Dev nD, c = (0 : Fin 4) ∨ c = (1 : Fin 4) ∨ c = (2 : Fin 4) ∨ c = (3 : Fin 4) := by decide

/-- A buffer at some contents. -/
def anyAt (c : Dev nD) (b : Ref sig .tc) : sProp 𝕄 := iprop(∃ f : Buf (Elt F) ((c : Thread nD τ).loc b), ((c : Thread nD τ).loc b) ↦{fullShare} f)

/-- The scratch buffers at some contents, as the region's end takes them. -/
def scratch (c : Dev nD) : sProp 𝕄 :=
  iprop(anyAt c cc0_scratch0 ∗ anyAt c cc0_scratch1 ∗ anyAt c cc0_scratch2 ∗ anyAt c cc0_scratch3 ∗ anyAt c cc0_scratch4)

/-- The cells of the transfers and of the local copies, back at zero. -/
def zeros (c : Dev nD) : sProp 𝕄 :=
  iprop((semVal (dCell c (tS 0)) 0 ∗ semVal (dCell c (tS 1)) 0 ∗ semVal (dCell c (tS 2)) 0)
    ∗ (semVal (dCell c (tR 0)) 0 ∗ semVal (dCell c (tR 1)) 0 ∗ semVal (dCell c (tR 2)) 0)
    ∗ semVal (dCell c ⟨16, by decide⟩) 0 ∗ semVal (dCell c ⟨17, by decide⟩) 0)

/-- What the body is given and leaves as it was. -/
def given (c : Dev nD) : sProp 𝕄 :=
  iprop((xM.view.loc (c : Thread nD τ) ↦[Finset.univ]{fullShare} A.x c) ∗ (wdM.view.loc (c : Thread nD τ) ↦[Finset.univ]{fullShare} A.wd c)
    ∗ (ukM.view.loc (c : Thread nD τ) ↦[Finset.univ]{fullShare} A.uk c) ∗ (uvM.view.loc (c : Thread nD τ) ↦[Finset.univ]{fullShare} A.uv c)
    ∗ (wrM.view.loc (c : Thread nD τ) ↦[Finset.univ]{fullShare} A.wr c) ∗ (wqM.view.loc (c : Thread nD τ) ↦[Finset.univ]{fullShare} A.wq c))

/-- The five results. -/
def results (c : Dev nD) : sProp 𝕄 :=
  iprop((kM.view.loc (c : Thread nD τ) ↦[Finset.univ]{fullShare} (KV A c : Buf (Elt F) ((c : Thread nD τ).loc cc0_stg5_0)))
    ∗ (vM.view.loc (c : Thread nD τ) ↦[Finset.univ]{fullShare} (VV A c : Buf (Elt F) ((c : Thread nD τ).loc cc0_stg6_0)))
    ∗ (krM.view.loc (c : Thread nD τ) ↦[Finset.univ]{fullShare} (KR A c : Buf (Elt F) ((c : Thread nD τ).loc cc0_stg7_0)))
    ∗ (xbM.view.loc (c : Thread nD τ) ↦[Finset.univ]{fullShare} (XB A c : Buf (Elt F) ((c : Thread nD τ).loc cc0_stg8_0)))
    ∗ (qrM.view.loc (c : Thread nD τ) ↦[Finset.univ]{fullShare} (QR A c : Buf (Elt F) ((c : Thread nD τ).loc cc0_stg9_0))))

theorem credit_wk (s : Fin 2) : (halfM wkM s).view.dmaCredit = amtD (tR 0) := by unfold amtD; rw [if_neg (by decide)]
theorem credit_wv (s : Fin 2) : (halfM wvM s).view.dmaCredit = amtD (tR 1) := by unfold amtD; rw [if_neg (by decide)]
theorem credit_c (s : Fin 2) : (slotM s).view.dmaCredit = amtD (tR 2) := by unfold amtD; rw [if_pos (by decide)]
theorem amtD_S (t : Fin 3) : amtD (tS t) = amtD (tR t) := by
  unfold amtD
  have h : (tS t = tS 2 ∨ tS t = tR 2) ↔ (tR t = tS 2 ∨ tR t = tR 2) := by revert t; decide
  by_cases h' : tR t = tS 2 ∨ tR t = tR 2
  · rw [if_pos h', if_pos (h.mpr h')]
  · rw [if_neg h', if_neg (fun e => h' (h.mp e))]

theorem pay_R0' (c : Dev nD) : xferPay A (yn c) (tR 0) = mPts (yn c) (halfM wkM (yc c)) (WK A c) := by rw [pay_R0, oc_yn, WK_yn]
theorem pay_R1' (c : Dev nD) : xferPay A (yn c) (tR 1) = mPts (yn c) (halfM wvM (yc c)) (WV A c) := by rw [pay_R1, oc_yn, WV_yn]
theorem pay_R2' (c : Dev nD) : xferPay A (yn c) (tR 2) = mPts (yn c) (slotM (yc c)) (CB A c) := by rw [pay_R2, oc_yn, CB_yn]

theorem uk_val (inb) (f : (cc0_stg2_0 : Ref sig .tc).ty.Contents (Elt F)) :
    k0_pay8 (F := F) (View.readAt (Elt F) ukM.view (Rect.unit (s := S128x4096) ![0, 0] S128x4096.size inb).toLoadRect f) = f := by
  rw [uk_read]; exact (shapeCast_self _ _).trans (shapeCast_self _ _)
theorem uv_val (inb) (f : (cc0_stg3_0 : Ref sig .tc).ty.Contents (Elt F)) :
    k0_pay5 (F := F) (View.readAt (Elt F) uvM.view (Rect.unit (s := S128x4096) ![0, 0] S128x4096.size inb).toLoadRect f) = f := by
  rw [uv_read]; exact (shapeCast_self _ _).trans (shapeCast_self _ _)

theorem zero2 : (![0, 0] : Fin 2 → ℕ) = fun _ => 0 := by decide
theorem xb_self (W : (cc0_stg8_0 : Ref sig .tc).ty.Contents (Elt F)) : W = xbM.view.read (Elt F) W := rfl
theorem xb_whole (c : Dev nD) (a : Fin 2) (ha : xc c = a) (n : ℕ) (hn : n = 2 * a.val) (inb) (inb') (f : (cc0_stg8_0 : Ref sig .tc).ty.Contents (Elt F)) (l) :
    xbM.view.writes (Elt F) f (⟨Rect.unit (s := S512x4096) ![0, 0] S512x4096.size inb', k0_pay10 (F := F) (View.readAt (Elt F) xM.view (Rect.unit (s := S4x256x4096) ![n, 0, 0] S2x256x4096.size inb).toLoadRect (A.x c))⟩ :: l) = XB A c :=
  (xb_self _).trans ((whole_written xbM.view zero2 inb' f l _).trans (x_val A c a ha n hn inb))
theorem xb_stored (c : Dev nD) (a : Fin 2) (ha : xc c = a) (n : ℕ) (hn : n = 2 * a.val) (inb) (inb') (inb'') (f : (cc0_stg8_0 : Ref sig .tc).ty.Contents (Elt F)) (l) :
    View.readAt (Elt F) xbM.view (Rect.unit (s := S512x4096) ![0, 0] S512x4096.size inb'').toLoadRect
      (xbM.view.writes (Elt F) f (⟨Rect.unit (s := S512x4096) ![0, 0] S512x4096.size inb', k0_pay10 (F := F) (View.readAt (Elt F) xM.view (Rect.unit (s := S4x256x4096) ![n, 0, 0] S2x256x4096.size inb).toLoadRect (A.x c))⟩ :: l)) = XB A c :=
  (xb_read _ _).trans (xb_whole A c a ha n hn inb inb' f l)

/-- A buffer's contents named. -/
theorem named {ℓ : Loc nD τ sig} {f g : Buf (Elt F) ℓ} (h : f = g) : (ℓ ↦{fullShare} f : sProp 𝕄) ⊢ (ℓ ↦{fullShare} g) := Entails.of_eq (by rw [h])

/-- The slot stored with the product of the rounded rows just stored. -/
theorem c_step (c : Dev nD) (s : Fin 2) (hs : yc c = s) (a : Fin 2) (ha : xc c = a) (n : ℕ) (hn : n = 2 * a.val) (inb) (inb') (inb'') (inb₁)
    (l) (g : (cc0_scratch0 : Ref sig .tc).ty.Contents (Elt F)) (l') (hc) :
    ∀ i ∈ (slotRect (yc c)).set, cM.view.writes (Elt F) g (⟨slotRect s, shapeCast S1x512x128 (k0_pay13 (F := F) (k0_pay12 (F := F)
      (xbM.view.readCov (Val := Elt F) (⟨Rect.unit (s := S512x4096) ![0, 0] S512x4096.size inb', k0_pay10 (F := F) (View.readAt (Elt F) xM.view (Rect.unit (s := S4x256x4096) ![n, 0, 0] S2x256x4096.size inb).toLoadRect (A.x c))⟩ :: l)
        (Rect.unit (s := S512x4096) ![0, 0] S512x4096.size inb'').toLoadRect)
      (View.readAt (Elt F) wdM.view (Rect.unit (s := S4096x128) ![0, 0] S4096x128.size inb₁).toLoadRect (A.wd c)))) hc⟩ :: l') i = CB A c i :=
  c_stored A c s hs g l' _ (by rw [View.readCov, xb_stored A c a ha n hn inb inb' inb'' _ l, wd_read]; rfl) hc

/-! ## The buffers after the last of their stores -/

theorem cf_self (W : (cc0_scratch1 : Ref sig .tc).ty.Contents (Elt F)) : W = cfM.view.read (Elt F) W := rfl
theorem k_self (W : (cc0_stg5_0 : Ref sig .tc).ty.Contents (Elt F)) : W = kM.view.read (Elt F) W := rfl
theorem v_self (W : (cc0_stg6_0 : Ref sig .tc).ty.Contents (Elt F)) : W = vM.view.read (Elt F) W := rfl
theorem kr_self (W : (cc0_stg7_0 : Ref sig .tc).ty.Contents (Elt F)) : W = krM.view.read (Elt F) W := rfl
theorem qr_self (W : (cc0_stg9_0 : Ref sig .tc).ty.Contents (Elt F)) : W = qrM.view.read (Elt F) W := rfl

theorem slot_val (s : Fin 2) (c : Dev nD) (n : ℕ) (hn : n = s.val) (inb) :
    k0_pay24 (F := F) (View.readAt (Elt F) cM.view (Rect.unit (s := S2x512x128) ![n, 0, 0] S1x512x128.size inb).toLoadRect (CB A c)) = CM A (at_ c s) := by
  subst hn
  refine Eq.trans ?_ (slot_loaded A s c (by decide))
  exact shapeCast_self _ _

/-- Two stores of 128 columns each leave the compressed rows. -/
theorem cf_whole (c : Dev nD) (g : (cc0_scratch1 : Ref sig .tc).ty.Contents (Elt F)) (inb₁ inb₀) (p₁ p₀ : FVec F S512x128 .bf16)
    (h₁ : p₁ = CM A (at_ c 1)) (h₀ : p₀ = CM A (at_ c 0)) :
    cfM.view.writes (Elt F) g [⟨Rect.unit (s := S512x256) ![0, 128] S512x128.size inb₁, p₁⟩, ⟨Rect.unit (s := S512x256) ![0, 0] S512x128.size inb₀, p₀⟩] = CF A c := by
  refine (cf_self _).trans ?_
  refine cols_written (F := F) (e := .bf16) (m := 512) (n := 2) (w := 128) (N := 256) (by decide) rfl (fun s => CM A (at_ c s)) cfM.view g _ ?_ (by rfl) ?_
  · refine List.forall_mem_cons.mpr ⟨?_, List.forall_mem_cons.mpr ⟨?_, fun _ h => absurd h List.not_mem_nil⟩⟩
    · exact col_piece (F := F) (e := .bf16) (m := 512) (n := 2) (w := 128) (N := 256) (by decide) rfl (fun s => CM A (at_ c s)) 1 128 rfl inb₁ p₁ h₁
    · exact col_piece (F := F) (e := .bf16) (m := 512) (n := 2) (w := 128) (N := 256) (by decide) rfl (fun s => CM A (at_ c s)) 0 0 rfl inb₀ p₀ h₀
  · intro j h
    match j with
    | ⟨0, _⟩ => exact ⟨inb₀, rfl⟩
    | ⟨1, _⟩ => exact ⟨inb₁, rfl⟩
theorem cf_cov (c : Dev nD) (inb₁ inb₀ inb) (p₁ p₀ : FVec F S512x128 .bf16) (h₁ : p₁ = CM A (at_ c 1)) (h₀ : p₀ = CM A (at_ c 0)) :
    cfM.view.readCov (Val := Elt F) [⟨Rect.unit (s := S512x256) ![0, 128] S512x128.size inb₁, p₁⟩, ⟨Rect.unit (s := S512x256) ![0, 0] S512x128.size inb₀, p₀⟩]
      (Rect.unit (s := S512x256) ![0, 0] S512x256.size inb).toLoadRect = CF A c := by
  rw [View.readCov, cf_read, cf_whole A c _ inb₁ inb₀ p₁ p₀ h₁ h₀]

/-- Four stores of 1024 columns each. -/
theorem four_cols {sp : Space} (v : View sig .tc sp S512x4096 .bf16) (g : v.ty.Contents (Elt F)) (G : Fin 4 → FVec F S512x1024 .bf16)
    (inb₃ inb₂ inb₁ inb₀) (p₃ p₂ p₁ p₀ : FVec F S512x1024 .bf16) (h₃ : p₃ = G 3) (h₂ : p₂ = G 2) (h₁ : p₁ = G 1) (h₀ : p₀ = G 0) :
    v.read (Elt F) (v.writes (Elt F) g [⟨Rect.unit (s := S512x4096) ![0, 3072] S512x1024.size inb₃, p₃⟩, ⟨Rect.unit (s := S512x4096) ![0, 2048] S512x1024.size inb₂, p₂⟩,
      ⟨Rect.unit (s := S512x4096) ![0, 1024] S512x1024.size inb₁, p₁⟩, ⟨Rect.unit (s := S512x4096) ![0, 0] S512x1024.size inb₀, p₀⟩])
      = colsOf (n := 4) (w := 1024) (by decide) rfl G := by
  refine cols_written (F := F) (e := .bf16) (m := 512) (n := 4) (w := 1024) (N := 4096) (by decide) rfl G v g _ ?_ (by rfl) ?_
  · refine List.forall_mem_cons.mpr ⟨?_, List.forall_mem_cons.mpr ⟨?_, List.forall_mem_cons.mpr ⟨?_, List.forall_mem_cons.mpr ⟨?_, fun _ h => absurd h List.not_mem_nil⟩⟩⟩⟩
    · exact col_piece (F := F) (e := .bf16) (m := 512) (n := 4) (w := 1024) (N := 4096) (by decide) rfl G 3 3072 rfl inb₃ p₃ h₃
    · exact col_piece (F := F) (e := .bf16) (m := 512) (n := 4) (w := 1024) (N := 4096) (by decide) rfl G 2 2048 rfl inb₂ p₂ h₂
    · exact col_piece (F := F) (e := .bf16) (m := 512) (n := 4) (w := 1024) (N := 4096) (by decide) rfl G 1 1024 rfl inb₁ p₁ h₁
    · exact col_piece (F := F) (e := .bf16) (m := 512) (n := 4) (w := 1024) (N := 4096) (by decide) rfl G 0 0 rfl inb₀ p₀ h₀
  · intro j h
    match j with
    | ⟨0, _⟩ => exact ⟨inb₀, rfl⟩
    | ⟨1, _⟩ => exact ⟨inb₁, rfl⟩
    | ⟨2, _⟩ => exact ⟨inb₂, rfl⟩
    | ⟨3, _⟩ => exact ⟨inb₃, rfl⟩

/-- Eight stores of 256 columns each. -/
theorem eight_cols {sp : Space} (v : View sig .tc sp S512x2048 .bf16) (g : v.ty.Contents (Elt F)) (G : Fin 8 → FVec F S512x256 .bf16)
    (inb₇ inb₆ inb₅ inb₄ inb₃ inb₂ inb₁ inb₀) (p₇ p₆ p₅ p₄ p₃ p₂ p₁ p₀ : FVec F S512x256 .bf16)
    (h₇ : p₇ = G 7) (h₆ : p₆ = G 6) (h₅ : p₅ = G 5) (h₄ : p₄ = G 4) (h₃ : p₃ = G 3) (h₂ : p₂ = G 2) (h₁ : p₁ = G 1) (h₀ : p₀ = G 0) :
    v.read (Elt F) (v.writes (Elt F) g [⟨Rect.unit (s := S512x2048) ![0, 1792] S512x256.size inb₇, p₇⟩, ⟨Rect.unit (s := S512x2048) ![0, 1536] S512x256.size inb₆, p₆⟩,
      ⟨Rect.unit (s := S512x2048) ![0, 1280] S512x256.size inb₅, p₅⟩, ⟨Rect.unit (s := S512x2048) ![0, 1024] S512x256.size inb₄, p₄⟩,
      ⟨Rect.unit (s := S512x2048) ![0, 768] S512x256.size inb₃, p₃⟩, ⟨Rect.unit (s := S512x2048) ![0, 512] S512x256.size inb₂, p₂⟩,
      ⟨Rect.unit (s := S512x2048) ![0, 256] S512x256.size inb₁, p₁⟩, ⟨Rect.unit (s := S512x2048) ![0, 0] S512x256.size inb₀, p₀⟩])
      = colsOf (n := 8) (w := 256) (by decide) rfl G := by
  refine cols_written (F := F) (e := .bf16) (m := 512) (n := 8) (w := 256) (N := 2048) (by decide) rfl G v g _ ?_ (by rfl) ?_
  · refine List.forall_mem_cons.mpr ⟨?_, List.forall_mem_cons.mpr ⟨?_, List.forall_mem_cons.mpr ⟨?_, List.forall_mem_cons.mpr ⟨?_,
      List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
    · exact col_piece (F := F) (e := .bf16) (m := 512) (n := 8) (w := 256) (N := 2048) (by decide) rfl G 7 1792 rfl inb₇ p₇ h₇
    · exact col_piece (F := F) (e := .bf16) (m := 512) (n := 8) (w := 256) (N := 2048) (by decide) rfl G 6 1536 rfl inb₆ p₆ h₆
    · exact col_piece (F := F) (e := .bf16) (m := 512) (n := 8) (w := 256) (N := 2048) (by decide) rfl G 5 1280 rfl inb₅ p₅ h₅
    · exact col_piece (F := F) (e := .bf16) (m := 512) (n := 8) (w := 256) (N := 2048) (by decide) rfl G 4 1024 rfl inb₄ p₄ h₄
    · exact col_piece (F := F) (e := .bf16) (m := 512) (n := 8) (w := 256) (N := 2048) (by decide) rfl G 3 768 rfl inb₃ p₃ h₃
    · exact col_piece (F := F) (e := .bf16) (m := 512) (n := 8) (w := 256) (N := 2048) (by decide) rfl G 2 512 rfl inb₂ p₂ h₂
    · exact col_piece (F := F) (e := .bf16) (m := 512) (n := 8) (w := 256) (N := 2048) (by decide) rfl G 1 256 rfl inb₁ p₁ h₁
    · exact col_piece (F := F) (e := .bf16) (m := 512) (n := 8) (w := 256) (N := 2048) (by decide) rfl G 0 0 rfl inb₀ p₀ h₀
  · intro j h
    match j with
    | ⟨0, _⟩ => exact ⟨inb₀, rfl⟩
    | ⟨1, _⟩ => exact ⟨inb₁, rfl⟩
    | ⟨2, _⟩ => exact ⟨inb₂, rfl⟩
    | ⟨3, _⟩ => exact ⟨inb₃, rfl⟩
    | ⟨4, _⟩ => exact ⟨inb₄, rfl⟩
    | ⟨5, _⟩ => exact ⟨inb₅, rfl⟩
    | ⟨6, _⟩ => exact ⟨inb₆, rfl⟩
    | ⟨7, _⟩ => exact ⟨inb₇, rfl⟩

/-- A chunk of the keys, or of the values. -/
theorem k_piece (c : Dev nD) (C : FVec F S512x256 .bf16) (hC : C = CF A c) (j : Fin 4) (n : ℕ) (hn : n = 1024 * j.val) (inb) :
    k0_pay26 (F := F) C (View.readAt (Elt F) wkM.view (Rect.unit (s := S256x4096) ![0, n] S256x1024.size inb).toLoadRect (WK A c)) = k0_pay26 (F := F) (CF A c) (kChunk (WK A c) j) := by
  subst hC; exact congrArg (k0_pay26 (F := F) (CF A c)) (kChunk_read (WK A c) j n hn inb)
theorem v_piece (c : Dev nD) (C : FVec F S512x256 .bf16) (hC : C = CF A c) (j : Fin 4) (n : ℕ) (hn : n = 1024 * j.val) (inb) :
    k0_pay26 (F := F) C (View.readAt (Elt F) wvM.view (Rect.unit (s := S256x4096) ![0, n] S256x1024.size inb).toLoadRect (WV A c)) = k0_pay26 (F := F) (CF A c) (kChunk (WV A c) j) := by
  subst hC; exact congrArg (k0_pay26 (F := F) (CF A c)) (kChunk_read (WV A c) j n hn inb)

/-- A chunk of the rotary queries, its columns of `Wqr` copied before the latest copy; copied last. -/
theorem q_before (c : Dev nD) (j : Fin 8) (a b : Fin 2) (hab : a ≠ b) (n : ℕ) (hn : n = 256 * j.val) (inb) (hx) (inb') (f : (cc0_scratch4 : Ref sig .tc).ty.Contents (Elt F)) (d : S4096x256.Idx → Elt F .f32) :
    k0_pay15 (F := F) (View.readAt (Elt F) xbM.view (Rect.unit (s := S512x4096) ![0, 0] S512x4096.size inb').toLoadRect (XB A c))
      (View.readAt (Elt F) qbM.view (qRect a).toLoadRect ((qSlot b).view.write (Elt F) ((qSlot a).view.write (Elt F) f
        (ReadAs.same.apply (View.read (Elt F) ((wqM.slice (Rect.unit (s := S4096x2048) ![0, n] S4096x256.size inb) hx).view) (A.wq c))) Finset.univ) d Finset.univ))
      = k0_pay15 (F := F) (XB A c) (qChunk (A.wq c) j) :=
  congrArg₂ (k0_pay15 (F := F)) (xb_read _ _) (chunk_before (A.wq c) a b hab j n hn inb hx f d)
theorem q_last (c : Dev nD) (j : Fin 8) (a : Fin 2) (n : ℕ) (hn : n = 256 * j.val) (inb) (hx) (inb') (f : (cc0_scratch4 : Ref sig .tc).ty.Contents (Elt F)) :
    k0_pay15 (F := F) (View.readAt (Elt F) xbM.view (Rect.unit (s := S512x4096) ![0, 0] S512x4096.size inb').toLoadRect (XB A c))
      (View.readAt (Elt F) qbM.view (qRect a).toLoadRect ((qSlot a).view.write (Elt F) f
        (ReadAs.same.apply (View.read (Elt F) ((wqM.slice (Rect.unit (s := S4096x2048) ![0, n] S4096x256.size inb) hx).view) (A.wq c))) Finset.univ))
      = k0_pay15 (F := F) (XB A c) (qChunk (A.wq c) j) :=
  congrArg₂ (k0_pay15 (F := F)) (xb_read _ _) (chunk_last (A.wq c) a j n hn inb hx f)

/-- The rotary keys, stored whole. -/
theorem kr_whole (c : Dev nD) (g : (cc0_stg7_0 : Ref sig .tc).ty.Contents (Elt F)) (inb inb' inb'') (l) :
    krM.view.writes (Elt F) g (⟨Rect.unit (s := S512x64) ![0, 0] S512x64.size inb, k0_pay14 (F := F)
      (View.readAt (Elt F) xbM.view (Rect.unit (s := S512x4096) ![0, 0] S512x4096.size inb').toLoadRect (XB A c))
      (View.readAt (Elt F) wrM.view (Rect.unit (s := S4096x64) ![0, 0] S4096x64.size inb'').toLoadRect (A.wr c))⟩ :: l) = KR A c :=
  (kr_self _).trans ((whole_written krM.view zero2 inb g l _).trans (congrArg₂ (k0_pay14 (F := F)) (xb_read _ _) (wr_read _ _)))

end Cert.ExProof

end

end
-- ==== Proof.ExBody.lean ====
/-
# The exchange on the 2×2 mesh: one device's body

The body at a device `c`, executed once for each place in the mesh by the same steps: local steps symbolically, the signal,
the transfers and the waits on the protocol's cells by the rules of `ExRules`.
-/
module

public import proofs.«01_k».proof.Proof.ExKit

@[expose] public section

noncomputable section

namespace Cert.ExProof

open Cert.ExchangeIdeal Cert.ExchangeIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (A : Args F)
variable (K : Dev nD × Fin 7 → ℕ)

set_option sl_exec.dmaWindow true in
set_option maxHeartbeats 16000000 in
/-- One device's body, from its tokens, positions and buffers to its results. -/
theorem body_run (c : Dev nD) (W : Waits sig Unit)
    (g0 : (cc0_scratch0 : Ref sig .tc).ty.Contents (Elt F)) (g1 : (cc0_scratch1 : Ref sig .tc).ty.Contents (Elt F))
    (g2 : (cc0_scratch2 : Ref sig .tc).ty.Contents (Elt F)) (g3 : (cc0_scratch3 : Ref sig .tc).ty.Contents (Elt F))
    (g4 : (cc0_scratch4 : Ref sig .tc).ty.Contents (Elt F))
    (fk : (cc0_stg5_0 : Ref sig .tc).ty.Contents (Elt F)) (fv : (cc0_stg6_0 : Ref sig .tc).ty.Contents (Elt F))
    (fr : (cc0_stg7_0 : Ref sig .tc).ty.Contents (Elt F)) (fx : (cc0_stg8_0 : Ref sig .tc).ty.Contents (Elt F))
    (fq : (cc0_stg9_0 : Ref sig .tc).ty.Contents (Elt F)) (Kt : PUnit → sProp 𝕄) :
    iprop(records A K ∗ levAts L lv ∗ owes (c : Thread nD τ) (O c 0) W ∗ bkit (F := F) c
      ∗ (tkit (F := F) c 0 ∗ tkit (F := F) c 1 ∗ tkit (F := F) c 2) ∗ given A c
      ∗ ((cM.view.loc (c : Thread nD τ) ↦[Finset.univ]{fullShare} g0) ∗ (cfM.view.loc (c : Thread nD τ) ↦[Finset.univ]{fullShare} g1)
        ∗ (wkM.view.loc (c : Thread nD τ) ↦[Finset.univ]{fullShare} g2) ∗ (wvM.view.loc (c : Thread nD τ) ↦[Finset.univ]{fullShare} g3)
        ∗ (qbM.view.loc (c : Thread nD τ) ↦[Finset.univ]{fullShare} g4))
      ∗ ((kM.view.loc (c : Thread nD τ) ↦[Finset.univ]{fullShare} fk) ∗ (vM.view.loc (c : Thread nD τ) ↦[Finset.univ]{fullShare} fv)
        ∗ (krM.view.loc (c : Thread nD τ) ↦[Finset.univ]{fullShare} fr) ∗ (xbM.view.loc (c : Thread nD τ) ↦[Finset.univ]{fullShare} fx)
        ∗ (qrM.view.loc (c : Thread nD τ) ↦[Finset.univ]{fullShare} fq))
      ∗ semVal (dCell c ⟨16, by decide⟩) 0 ∗ semVal (dCell c ⟨17, by decide⟩) 0
      ∗ (((∃ W', owes (c : Thread nD τ) (O c 4) W') ∗ given A c ∗ results A c ∗ scratch (F := F) c ∗ semVal (barCell c) 0 ∗ zeros (F := F) c) -∗ Kt ⟨⟩))
      ⊢ wp frame (wpE (defs₀ (F := F)) 𝒱₀ (c : Thread nD τ) none) Set.univ
          (cc0__kv_body xM (Memref.isWhole_whole _) wdM (Memref.isWhole_whole _) ukM (Memref.isWhole_whole _) uvM (Memref.isWhole_whole _) wrM (Memref.isWhole_whole _)
            wqM (Memref.isWhole_whole _) kM (Memref.isWhole_whole _) vM (Memref.isWhole_whole _) krM (Memref.isWhole_whole _) xbM (Memref.isWhole_whole _) qrM (Memref.isWhole_whole _)
            cM (Memref.isWhole_whole _) cfM (Memref.isWhole_whole _) wkM (Memref.isWhole_whole _) wvM (Memref.isWhole_whole _) qbM (Memref.isWhole_whole _)
            cc0_scratch5 cc0_scratch6 cc0_scratch7) Kt := by
  unfold bkit tkit given
  iintro ⟨#HR, #Hlev, HO, ⟨HtB, HatB, HcB⟩, ⟨⟨T0a, T0b, T0c, T0d, T0e⟩, ⟨T1a, T1b, T1c, T1d, T1e⟩, ⟨T2a, T2b, T2c, T2d, T2e⟩⟩,
    ⟨Hx, Hwd, Huk, Huv, Hwr, Hwq⟩, ⟨Hc, Hcf, Hwk, Hwv, Hqb⟩, ⟨Hok, Hov, Hor, Hxb, Hoq⟩, Hz16, Hz17, Hk⟩
  have hmw := fun (q : DmaSem sig) n h => mayWait_low (F := F) c (.dma q) n h
  rw [cc0__kv_body_eq_skeleton]; unfold cc0__kv_body_skel
  rcases places c with hc | hc | hc | hc
  all_goals
    first
    | have ho : oc c = 1 := (by subst hc; decide)
      ihave Hwk := (wk_give c 1 ho g2) $$ Hwk
      ihave Hwv := (wv_give c 1 ho g3) $$ Hwv
      ihave Hc := (c_give c 1 ho g0) $$ Hc
    | have ho : oc c = 0 := (by subst hc; decide)
      ihave Hwk := (wk_give c 0 ho g2) $$ Hwk
      ihave Hwv := (wv_give c 0 ho g3) $$ Hwv
      ihave Hc := (c_give c 0 ho g0) $$ Hc
    icases Hwk with ⟨Lwk, Hwk⟩
    icases Hwv with ⟨Lwv, Hwv⟩
    icases Hc with ⟨Lc, Hc⟩
    sl_exec (disch := (subst hc; decide))
    iapply (wp_sig A K c (dev1_eq c _) rfl) $$ [HO HtB Lwk Lwv Lc]
    · isplitr; · iexact HR
      isplitl [HO]; · iexact HO
      isplitl [HtB]; · iexact HtB
      unfold land
      isplitl [Lwk]; · iexists _; iexact Lwk
      isplitl [Lwv]; · iexists _; iexact Lwv
      iexists _; iexact Lc
    iintro HO
    sl_exec (disch := (subst hc; decide))
    iapply (wp_wait_bar A K c rfl) $$ [HO HcB HatB]
    · isplitr; · iexact HR
      isplitr; · iexact Hlev
      isplitl [HcB]; · iexact HcB
      isplitl [HO]; · iexact HO
      iexact HatB
    unfold land
    rw [oc_yn]
    iintro ⟨HO, HzB, ⟨%hwk, Lwk⟩, ⟨%hwv, Lwv⟩, ⟨%hcb, Lc⟩⟩
    sl_exec (disch := (subst hc; decide))
    ihave Hwk := (wk_send A c _ ho _ ?_) $$ Hwk
    · first
      | (have hy : yc c = 0 := (by subst hc; decide)); exact wk_stored A c 0 hy g2 [] _ (uk_val _ _)
      | (have hy : yc c = 1 := (by subst hc; decide)); exact wk_stored A c 1 hy g2 [] _ (uk_val _ _)
    iapply (wp_send A K c 0 (by subst hc; rfl) (halfM wkM (yc c)) (by subst hc; rfl) (by subst hc; rfl) rfl rfl 1 rfl (WK A c) hwk
      (credit_wk _) (amtD_S 0) (pay_S0 A c) (pay_R0' A c)) $$ [Hwk Lwk HO T0a T0b]
    · isplitr; · iexact HR
      isplitl [Hwk]; · iexact Hwk
      isplitl [Lwk]; · iexact Lwk
      isplitl [HO]; · iexact HO
      isplitl [T0a]; · iexact T0a
      iexact T0b
    iintro ⟨T0a, HO⟩
    sl_exec (disch := (subst hc; decide))
    ihave Hxb := (named (g := XB A c) ?_) $$ Hxb
    · first
      | (have hx : xc c = 0 := (by subst hc; decide)); exact xb_whole A c 0 hx _ rfl _ _ fx []
      | (have hx : xc c = 1 := (by subst hc; decide)); exact xb_whole A c 1 hx _ rfl _ _ fx []
    ihave Hc := (c_send A c _ ho _ ?_) $$ Hc
    · first
      | (have hy : yc c = 0 := (by subst hc; decide)); (have hx : xc c = 0 := (by subst hc; decide)); exact c_step A c 0 hy 0 hx _ rfl _ _ _ _ [] g0 [] _
      | (have hy : yc c = 1 := (by subst hc; decide)); (have hx : xc c = 0 := (by subst hc; decide)); exact c_step A c 1 hy 0 hx _ rfl _ _ _ _ [] g0 [] _
      | (have hy : yc c = 0 := (by subst hc; decide)); (have hx : xc c = 1 := (by subst hc; decide)); exact c_step A c 0 hy 1 hx _ rfl _ _ _ _ [] g0 [] _
      | (have hy : yc c = 1 := (by subst hc; decide)); (have hx : xc c = 1 := (by subst hc; decide)); exact c_step A c 1 hy 1 hx _ rfl _ _ _ _ [] g0 [] _
    iapply (wp_send A K c 2 (by subst hc; rfl) (slotM (yc c)) (by subst hc; rfl) (by subst hc; rfl) rfl rfl 2 rfl (CB A c) hcb
      (credit_c _) (amtD_S 2) (pay_S2 A c) (pay_R2' A c)) $$ [Hc Lc HO T2a T2b]
    · isplitr; · iexact HR
      isplitl [Hc]; · iexact Hc
      isplitl [Lc]; · iexact Lc
      isplitl [HO]; · iexact HO
      isplitl [T2a]; · iexact T2a
      iexact T2b
    iintro ⟨T2a, HO⟩
    sl_exec (disch := (subst hc; decide))
    ihave Hwv := (wv_send A c _ ho _ ?_) $$ Hwv
    · first
      | (have hy : yc c = 0 := (by subst hc; decide)); exact wv_stored A c 0 hy g3 [] _ (uv_val _ _)
      | (have hy : yc c = 1 := (by subst hc; decide)); exact wv_stored A c 1 hy g3 [] _ (uv_val _ _)
    iapply (wp_send A K c 1 (by subst hc; rfl) (halfM wvM (yc c)) (by subst hc; rfl) (by subst hc; rfl) rfl rfl 3 rfl (WV A c) hwv
      (credit_wv _) (amtD_S 1) (pay_S1 A c) (pay_R1' A c)) $$ [Hwv Lwv HO T1a T1b]
    · isplitr; · iexact HR
      isplitl [Hwv]; · iexact Hwv
      isplitl [Lwv]; · iexact Lwv
      isplitl [HO]; · iexact HO
      isplitl [T1a]; · iexact T1a
      iexact T1b
    iintro ⟨T1a, HO⟩
    sl_exec (disch := (subst hc; decide))
    iapply (wp_wait_xfer A K c (tS 2) (isT_S 2) rfl ((credit_c 0).trans (amtD_S 2).symm) 4 (by decide)) $$ [T2a HO T2c]
    · isplitr; · iexact HR
      isplitr; · iexact Hlev
      isplitl [T2a]; · iexact T2a
      isplitl [HO]; · iexact HO
      iexact T2c
    rw [pay_S2]
    iintro ⟨HO, T2c, T2a⟩
    sl_exec (disch := (subst hc; decide))
    iapply (wp_wait_xfer A K c (tR 2) (isT_R 2) rfl (credit_c 0) 4 (by decide)) $$ [T2e HO T2d]
    · isplitr; · iexact HR
      isplitr; · iexact Hlev
      isplitl [T2e]; · iexact T2e
      isplitl [HO]; · iexact HO
      iexact T2d
    rw [pay_R2]
    iintro ⟨HO, T2d, T2e⟩
    sl_exec (disch := (subst hc; decide))
    iapply (wp_wait_xfer A K c (tS 0) (isT_S 0) rfl ((credit_wk 0).trans (amtD_S 0).symm) 4 (by decide)) $$ [T0a HO T0c]
    · isplitr; · iexact HR
      isplitr; · iexact Hlev
      isplitl [T0a]; · iexact T0a
      isplitl [HO]; · iexact HO
      iexact T0c
    rw [pay_S0]
    iintro ⟨HO, T0c, T0a⟩
    sl_exec (disch := (subst hc; decide))
    iapply (wp_wait_xfer A K c (tR 0) (isT_R 0) rfl (credit_wk 0) 4 (by decide)) $$ [T0e HO T0d]
    · isplitr; · iexact HR
      isplitr; · iexact Hlev
      isplitl [T0e]; · iexact T0e
      isplitl [HO]; · iexact HO
      iexact T0d
    rw [pay_R0]
    iintro ⟨HO, T0d, T0e⟩
    ihave Hc := (c_join c _) $$ [T2a T2e]
    · isplitl [T2a]; · iexact T2a
      iexact T2e
    ihave Hwk := (wk_join c _) $$ [T0a T0e]
    · isplitl [T0a]; · iexact T0a
      iexact T0e
    sl_exec (disch := (subst hc; decide))
    ihave Hcf := (named (g := CF A c) ?_) $$ Hcf
    · exact cf_whole A c g1 _ _ _ _ (slot_val A 1 c 1 rfl _) (slot_val A 0 c 0 rfl _)
    ihave Hok := (named (g := KV A c) ?_) $$ Hok
    · refine (k_self _).trans (four_cols kM.view fk _ _ _ _ _ _ _ _ _ ?_ ?_ ?_ ?_)
      · exact k_piece A c _ (cf_cov A c _ _ _ _ _ (slot_val A 1 c 1 rfl _) (slot_val A 0 c 0 rfl _)) 3 3072 rfl _
      · exact k_piece A c _ (cf_cov A c _ _ _ _ _ (slot_val A 1 c 1 rfl _) (slot_val A 0 c 0 rfl _)) 2 2048 rfl _
      · exact k_piece A c _ (cf_cov A c _ _ _ _ _ (slot_val A 1 c 1 rfl _) (slot_val A 0 c 0 rfl _)) 1 1024 rfl _
      · exact k_piece A c _ (cf_cov A c _ _ _ _ _ (slot_val A 1 c 1 rfl _) (slot_val A 0 c 0 rfl _)) 0 0 rfl _
    ihave Hor := (named (g := KR A c) ?_) $$ Hor
    · exact kr_whole A c fr _ _ _ []
    ihave Hoq := (named (g := QR A c) ?_) $$ Hoq
    · refine (qr_self _).trans (eight_cols qrM.view fq _ _ _ _ _ _ _ _ _ _ _ _ _ _ _ _ _ ?_ ?_ ?_ ?_ ?_ ?_ ?_ ?_)
      · exact q_last A c 7 1 _ rfl _ _ _ _
      · exact q_before A c 6 0 1 (by decide) _ rfl _ _ _ _ _
      · exact q_before A c 5 1 0 (by decide) _ rfl _ _ _ _ _
      · exact q_before A c 4 0 1 (by decide) _ rfl _ _ _ _ _
      · exact q_before A c 3 1 0 (by decide) _ rfl _ _ _ _ _
      · exact q_before A c 2 0 1 (by decide) _ rfl _ _ _ _ _
      · exact q_before A c 1 1 0 (by decide) _ rfl _ _ _ _ _
      · exact q_before A c 0 0 1 (by decide) _ rfl _ _ _ _ _
    iapply (wp_wait_xfer A K c (tS 1) (isT_S 1) rfl ((credit_wv 0).trans (amtD_S 1).symm) 4 (by decide)) $$ [T1a HO T1c]
    · isplitr; · iexact HR
      isplitr; · iexact Hlev
      isplitl [T1a]; · iexact T1a
      isplitl [HO]; · iexact HO
      iexact T1c
    rw [pay_S1]
    iintro ⟨HO, T1c, T1a⟩
    sl_exec (disch := (subst hc; decide))
    iapply (wp_wait_xfer A K c (tR 1) (isT_R 1) rfl (credit_wv 0) 4 (by decide)) $$ [T1e HO T1d]
    · isplitr; · iexact HR
      isplitr; · iexact Hlev
      isplitl [T1e]; · iexact T1e
      isplitl [HO]; · iexact HO
      iexact T1d
    rw [pay_R1]
    iintro ⟨HO, T1d, T1e⟩
    ihave Hwv := (wv_join c _) $$ [T1a T1e]
    · isplitl [T1a]; · iexact T1a
      iexact T1e
    sl_exec (disch := (subst hc; decide))
    ihave Hov := (named (g := VV A c) ?_) $$ Hov
    · refine (v_self _).trans (four_cols vM.view fv _ _ _ _ _ _ _ _ _ ?_ ?_ ?_ ?_)
      · exact v_piece A c _ (cf_read _ _) 3 3072 rfl _
      · exact v_piece A c _ (cf_read _ _) 2 2048 rfl _
      · exact v_piece A c _ (cf_read _ _) 1 1024 rfl _
      · exact v_piece A c _ (cf_read _ _) 0 0 rfl _
    rw [wp_ret]; imodintro
    iapply Hk
    isplitl [HO]; · iexists _; iexact HO
    isplitl [Hx Hwd Huk Huv Hwr Hwq]
    · isplitl [Hx]; · iexact Hx
      isplitl [Hwd]; · iexact Hwd
      isplitl [Huk]; · iexact Huk
      isplitl [Huv]; · iexact Huv
      isplitl [Hwr] <;> iassumption
    isplitl [Hok Hov Hor Hxb Hoq]
    · unfold results
      isplitl [Hok]; · iexact Hok
      isplitl [Hov]; · iexact Hov
      isplitl [Hor]; · iexact Hor
      isplitl [Hxb] <;> iassumption
    isplitl [Hc Hcf Hwk Hwv Hqb]
    · unfold scratch anyAt
      isplitl [Hc]; · iexists _; iexact Hc
      isplitl [Hcf]; · iexists _; iexact Hcf
      isplitl [Hwk]; · iexists _; iexact Hwk
      isplitl [Hwv]; · iexists _; iexact Hwv
      iexists _; iexact Hqb
    isplitl [HzB]; · iexact HzB
    unfold zeros
    isplitl [T0c T1c T2c]
    · isplitl [T0c]; · iexact T0c
      isplitl [T1c] <;> iassumption
    isplitl [T0d T1d T2d]
    · isplitl [T0d]; · iexact T0d
      isplitl [T1d] <;> iassumption
    isplitl [Hz16] <;> iassumption

end Cert.ExProof

end

end
-- ==== Proof.ExLaunch.lean ====
/-
# The exchange on the 2×2 mesh: the launch and the run

From the launch's resources every device gets the protocol's records, its positions, the tokens of the duties it pays and the
credit of its cells; with them each runs the body of `ExBody`. The run of `@main` follows, over any float values.
-/
module

public import proofs.«01_k».proof.Proof.ExBody
public import Idealize.ShloMosaic.Lib.Pipeline.CollectiveSegs
public import Idealize.ShloMosaic.Lib.Quiescent

@[expose] public section

noncomputable section

namespace Cert.ExProof

open Cert.ExchangeIdeal Cert.ExchangeIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## Families over the three transfers -/

/-- A fact about each of the three semaphores of one kind. -/
def three (f : Fin 3 → DmaSem sig) (Φ : DmaSem sig → sProp 𝕄) : sProp 𝕄 := bigSep Finset.univ fun t : Fin 3 => Φ (f t)

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem assoc_eq (P Q R : sProp 𝕄) : iprop((P ∗ Q) ∗ R) = iprop(P ∗ Q ∗ R) := sep_assoc.antisymm sep_assoc'

/-- The six semaphores of the transfers, kind by kind. -/
def kinds (Φ : DmaSem sig → sProp 𝕄) : sProp 𝕄 := iprop(three tS Φ ∗ three tR Φ)

theorem kinds_chain (Φ : DmaSem sig → sProp 𝕄) : kinds Φ = iprop(Φ (tS 0) ∗ Φ (tS 1) ∗ Φ (tS 2) ∗ Φ (tR 0) ∗ Φ (tR 1) ∗ Φ (tR 2)) := by
  unfold kinds three; simp only [bigSep_fin3, assoc_eq]

theorem seven (Ψ : SemLoc sig → sProp 𝕄) :
    bigSep Finset.univ (fun k : Fin 7 => Ψ (csem k)) = iprop(Ψ (.reg barS) ∗ kinds fun q => Ψ (.dma q)) := by
  rw [kinds_chain]
  exact bigSep_univ_eq_bigSepL [0, 1, 2, 3, 4, 5, 6] (by decide) (by decide) _

/-- The kernel's own semaphores: the six of the protocol and the local transfers' two. -/
def osem : Fin 8 → SemLoc sig := fun k => .dma ⟨k.val + 10, by show _ < 18; omega⟩

theorem ownSemFacts : Pipeline.OwnSemFacts cfg0.spec osem := by decide

/-- The local transfers' semaphores at zero. -/
def locals (c : Dev nD) : sProp 𝕄 := iprop(semVal (dCell c ⟨16, by decide⟩) 0 ∗ semVal (dCell c ⟨17, by decide⟩) 0)

theorem zeros_eq (c : Dev nD) : (zeros c : sProp 𝕄) = iprop((kinds fun q => semVal (dCell c q) 0) ∗ locals c) := by
  unfold zeros locals kinds three; simp only [bigSep_fin3, assoc_eq]

theorem ownSems0_eq (c : Dev nD) : (Pipeline.ownSems0 (Ix := Unit) (Name := ℕ) (U := UU) (Lvl := ℕ) (Val := Elt F) (τ := τ) osem c : sProp 𝕄)
    = iprop((kinds fun q => semVal (dCell c q) 0) ∗ locals c) := by
  rw [Pipeline.ownSems0_eq_of_list c osem [0, 1, 2, 3, 4, 5, 6, 7] (by decide) (by decide), kinds_chain]
  unfold locals; simp only [assoc_eq]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The tokens -/

theorem csem_inj : Function.Injective csem := by decide
theorem kcell_injective : Function.Injective (kcell : Dev nD × Fin 7 → GSem nD τ sig) := by
  rintro ⟨c, k⟩ ⟨c', k'⟩ h
  have h1 : c = c' := congrArg (fun g : GSem nD τ sig => g.1.1) h
  subst h1
  have h2 : k = k' := csem_inj (congrArg Prod.snd h)
  subst h2; rfl

/-- Every cell has one duty. -/
abbrev tokOf (ck : Dev nD × Fin 7) : GSem nD τ sig × ℕ × Bool := (kcell ck, 0, false)
theorem tokOf_injective : Function.Injective tokOf := fun a b h => kcell_injective (congrArg Prod.fst h)

def allCells : Finset (GSem nD τ sig) := Finset.univ.map ⟨kcell, kcell_injective⟩
def allToks : Finset (GSem nD τ sig × ℕ × Bool) := Finset.univ.map ⟨tokOf, tokOf_injective⟩

def u₀ : UU :=
  (initOf (Pipeline.cells cfgs cellOf_inj) (Pipeline.launchToks cfgs cellOf_inj), (initOf allCells allToks, 1))

/-- The token of a transfer's cell. -/
def tokD (c : Dev nD) (q : DmaSem sig) : sProp 𝕄 := dutyTok ER (dCell c q) 0 false

/-- The tokens of device `c`'s own cells; -/
def toks (c : Dev nD) : sProp 𝕄 := iprop(dutyTok ER (barCell c) 0 false ∗ three tS (tokD c) ∗ three tR (tokD c))
/-- and the tokens it pays with. -/
def payToks (c : Dev nD) : sProp 𝕄 := iprop(dutyTok ER (barCell (yn c)) 0 false ∗ three tS (tokD c) ∗ three tR (tokD (yn c)))

theorem toks_eq (c : Dev nD) : (bigSep Finset.univ fun k : Fin 7 => (dutyTok ER (tokOf (c, k)).1 (tokOf (c, k)).2.1 (tokOf (c, k)).2.2 : sProp 𝕄)) = toks c :=
  seven (F := F) fun sm => dutyTok ER ((c : Thread nD τ), sm) 0 false

theorem toks_around : (bigSep Finset.univ fun c : Dev nD => (toks c : sProp 𝕄)) ⊢ bigSep Finset.univ fun c : Dev nD => payToks c := by
  unfold toks payToks
  simp only [bigSep_sep']
  rw [bigSep_univ_equiv yEquiv (fun c : Dev nD => (dutyTok ER (barCell c) 0 false : sProp 𝕄)),
    bigSep_univ_equiv yEquiv (fun c : Dev nD => (three tR (tokD c) : sProp 𝕄))]
  exact BI.Entails.refl _

/-! ## What the launch deals -/

section Launch
variable (A : Args F)

def G (c : Dev nD) : sProp 𝕄 :=
  iprop((bigSep Finset.univ fun k : Fin 7 => roundState ER (exRd A) (kcell (c, k)) 0)
    ∗ (bigSep Finset.univ fun k : Fin 7 => iprop(atPos ER (kcell (c, k)) 0 ∅ 0 ∗ reached ER (kcell (c, k)) 0)) ∗ toks c)

theorem fund : BI.own (ER (initOf allCells allToks)) ⊢ (|==> bigSep Finset.univ (G A) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (exRd A) allCells allToks) $$ HX with ⟨Hst, Hr, Hat, Htok⟩
  imodintro
  ihave Hst' := (Entails.of_eq (hX fun g => roundState ER (exRd A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's positions at its cells. -/
def posD (c : Dev nD) (q : DmaSem sig) : sProp 𝕄 := atPos ER (dCell c q) 0 ∅ 0

/-- What stays with one device. -/
def linear (c : Dev nD) : sProp 𝕄 := iprop(locals c ∗ (atPos ER (barCell c) 0 ∅ 0 ∗ kinds (posD c)) ∗ payToks c)
def G' (c : Dev nD) : sProp 𝕄 := iprop((∃ K, records A K) ∗ linear c)

theorem core_alloc (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun k => iprop(∃ κ : ℕ, cellInv ER (exRd A) κ (kcell (c, k))))
          ∗ (bigSep Finset.univ fun k => reached ER (kcell (c, k)) 0) ∗ locals c ∗ (bigSep Finset.univ fun k => atPos ER (kcell (c, k)) 0 ∅ 0) ∗ toks c) := by
  unfold G
  rw [ownSems0_eq, unscopedSems0_eq, bigSep_sep']
  iintro ⟨⟨Hos, Hloc⟩, Hus, Hst, ⟨Hat, Hr⟩, Htok⟩
  ihave Hv := (Entails.of_eq (seven (F := F) fun sm => semVal ((c : Thread nD τ), sm) 0).symm) $$ [Hos Hus]
  · isplitl [Hus] <;> iassumption
  imod (show iprop((bigSep Finset.univ fun k : Fin 7 => semVal (kcell (c, k)) 0) ∗ bigSep Finset.univ fun k : Fin 7 => roundState ER (exRd A) (kcell (c, k)) 0)
      ⊢ (|={Set.univ}=> bigSep Finset.univ fun k => iprop(∃ κ : ℕ, cellInv ER (exRd A) κ (kcell (c, k))) : sProp 𝕄) from by
        rw [← bigSep_sep']
        exact (bigSep_mono fun k _ => (Rounds.body_intro ER (exRd A) (kcell (c, k))).trans inv_alloc).trans (bigSep_fupd _ _)) $$ [Hv Hst] with Hinv
  · isplitl [Hv] <;> iassumption
  imodintro
  iframe

theorem regroup :
    (bigSep Finset.univ fun c : Dev nD => iprop((bigSep Finset.univ fun k => iprop(∃ κ : ℕ, cellInv ER (exRd A) κ (kcell (c, k))))
          ∗ (bigSep Finset.univ fun k => reached ER (kcell (c, k)) 0) ∗ locals c ∗ (bigSep Finset.univ fun k => atPos ER (kcell (c, k)) 0 ∅ 0) ∗ toks c) : sProp 𝕄)
      ⊢ bigSep Finset.univ (G' A) := by
  rw [bigSep_sep', bigSep_sep', bigSep_sep', bigSep_sep', ← bigSep_univ_prod (fun ck : Dev nD × Fin 7 => iprop(∃ κ : ℕ, cellInv ER (exRd A) κ (kcell ck))),
    ← bigSep_univ_prod (fun ck : Dev nD × Fin 7 => (reached ER (kcell ck) 0 : sProp 𝕄))]
  iintro ⟨HI, #HR, Hloc, Hat, Htok⟩
  ihave HK := (BI.bigSep_exists_pi Finset.univ (fun (ck : Dev nD × Fin 7) (κ : ℕ) => (cellInv ER (exRd A) κ (kcell ck) : sProp 𝕄))) $$ HI
  icases HK with ⟨%K, #HI⟩
  ihave Htk := (toks_around (F := F)) $$ Htok
  ihave Hlin := (show iprop((bigSep Finset.univ fun c : Dev nD => locals c) ∗ (bigSep Finset.univ fun c : Dev nD => bigSep Finset.univ fun k : Fin 7 => atPos ER (kcell (c, k)) 0 ∅ 0)
      ∗ bigSep Finset.univ fun c : Dev nD => payToks c) ⊢ (bigSep Finset.univ fun c : Dev nD => linear c : sProp 𝕄) from by
        unfold linear
        rw [bigSep_sep', bigSep_sep', bigSep_congr (s := Finset.univ) (fun (c : Dev nD) _ => seven (F := F) fun sm => atPos ER ((c : Thread nD τ), sm) 0 ∅ 0)]
        exact BI.Entails.refl _) $$ [Hloc Hat Htk]
  · iframe
  ihave Hrec := (BI.bigSep_of_persistent (Finset.univ : Finset (Dev nD)) (iprop(∃ K, records A K) : sProp 𝕄)) $$ []
  · iexists K; unfold records; isplitl; · iexact HI
    iexact HR
  unfold G'
  rw [bigSep_sep']
  iframe

theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

end Launch

/-! ## The launch credit -/

/-- All devices together owe a cell its amount for each entry of the list that names its semaphore. -/
theorem oweL_sum (c : Dev nD) (sm : SemLoc sig) (l : List (SemLoc sig)) :
    ∑ d : Dev nD, oweL d l ((c : Thread nD τ), sm) () = (l.countP fun e => e = sm) * amt sm := by
  induction l with
  | nil => exact (Finset.sum_const_zero).trans (Nat.zero_mul _).symm
  | cons e l ih =>
    have step (d : Dev nD) : oweL d (e :: l) ((c : Thread nD τ), sm) () = oweL d l ((c : Thread nD τ), sm) () + if d = yn c then (if e = sm then amt sm else 0) else 0 := by
      rw [oweL, Pi.add_apply, Finsupp.add_apply, tallyAt_apply]
      congr 1
      by_cases hd : d = yn c
      · subst hd; rw [if_pos rfl, yn_yn]
        by_cases hs : e = sm
        · subst hs; rw [if_pos rfl, if_pos ⟨rfl, rfl⟩]
        · rw [if_neg hs, if_neg fun h => hs (congrArg Prod.snd h.1).symm]
      · rw [if_neg hd, if_neg fun h => hd (by
          have h1 : c = yn d := Fin.ext (congrArg (fun g : GSem nD τ sig => g.1.1.val) h.1)
          rw [h1, yn_yn])]
    rw [Finset.sum_congr rfl fun d _ => step d, Finset.sum_add_distrib, ih, Finset.sum_ite_eq' Finset.univ (yn c) fun _ => _, if_pos (Finset.mem_univ _), List.countP_cons]
    by_cases hs : e = sm
    · rw [if_pos hs, if_pos (decide_eq_true hs), Nat.add_mul, Nat.one_mul]
    · rw [if_neg hs, if_neg (by rw [decide_eq_false hs]; exact Bool.false_ne_true), Nat.add_zero, Nat.add_zero]

theorem launch_cell (c : Dev nD) (sm : SemLoc sig) (n : ℕ) (hn : (owedS.countP fun e => e = sm) * amt sm = n) :
    tallyOn ((c : Thread nD τ), sm) (launchCredit (Pipeline.owing fun d => O d 0) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, ← hn]
  exact oweL_sum c sm owedS

theorem count_recv : ∀ t : Fin 3, (owedS.countP fun e => e = .dma (tR t)) = 1 := by decide
theorem count_bar : (owedS.countP fun e => e = .reg barS) = 1 := by decide

def credD (c : Dev nD) (q : DmaSem sig) : sProp 𝕄 := cred (tallyAt (dCell c q) () (amtD q))

/-- The cells a device's credit is for. -/
def recvIx : Fin 3 → SemLoc sig := fun t => .dma (tR t)
theorem recvIx_inj : Function.Injective recvIx := by decide

theorem creds (c : Dev nD) :
    (Pipeline.launchCred (fun d => O d 0) c : sProp 𝕄) ⊢ iprop(cred (tallyAt (barCell c) () 1) ∗ three tR (credD c)) := by
  unfold Pipeline.launchCred
  rw [bigSep_univ_at _ (SemLoc.reg barS), launch_cell c _ 1 (by rw [count_bar]; rfl)]
  refine sep_mono_right ?_
  refine (bigSep_subset (t := Finset.univ.map ⟨recvIx, recvIx_inj⟩) (fun x hx => ?_)).trans ?_
  · obtain ⟨k, -, rfl⟩ := Finset.mem_map.mp hx
    exact Finset.mem_erase.mpr ⟨(fun h => by cases h), Finset.mem_univ _⟩
  · rw [bigSep_map]
    exact bigSep_mono fun t _ => Entails.of_eq (congrArg cred (launch_cell c (.dma (tR t)) (amtD (tR t)) (by rw [count_recv t, Nat.one_mul]; rfl)))

end Cert.ExProof

end

end
-- ==== Proof.ExRun.lean ====
/-
# The exchange on the 2×2 mesh: the run of `@main`

The pipeline's proof data (the one grid point, before and after), the body obligation, and the run of `@main` on the four
devices from any memory whose counters are zero: every device's results end at `KV`, `VV`, `KR`, `XB`, `QR`, its arguments as they were.
-/
module

public import proofs.«01_k».proof.Proof.ExLaunch
public import proofs.«01_k».proof.Proof.Gen.ExchangeIdeal.Points
public import Idealize.ShloMosaic.Lib.Pipeline.CollectiveSegs
public import Idealize.ShloMosaic.Lib.Quiescent

@[expose] public section

noncomputable section

namespace Cert.ExProof

open Cert.ExchangeIdeal Cert.ExchangeIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- What the devices are given, as staged. -/
def args : Args F where
  x c := (win0_0.blk (0 : Fin 1)).view.read (Elt F) (m ((c : Thread nD τ).loc main_arg0))
  wd c := (win0_1.blk (0 : Fin 1)).view.read (Elt F) (m ((c : Thread nD τ).loc main_arg1))
  uk c := (win0_2.blk (0 : Fin 1)).view.read (Elt F) (m ((c : Thread nD τ).loc main_arg2))
  uv c := (win0_3.blk (0 : Fin 1)).view.read (Elt F) (m ((c : Thread nD τ).loc main_arg3))
  wr c := (win0_4.blk (0 : Fin 1)).view.read (Elt F) (m ((c : Thread nD τ).loc main_arg4))
  wq c := m ((c : Thread nD τ).loc main_arg5)

/-! ## What a device starts the body with, and ends it with -/

def wqPts (c : Dev nD) : sProp 𝕄 := iprop(((c : Thread nD τ).loc main_arg5) ↦{fullShare} m ((c : Thread nD τ).loc main_arg5))

def credits (c : Dev nD) : sProp 𝕄 := iprop(cred (tallyAt (barCell c) () 1) ∗ three tR (credD c))

def start (c : Dev nD) : sProp 𝕄 := iprop(wqPts m c ∗ levAts L lv ∗ credits c ∗ G' (args m) c)
def Φ₀ (c : Dev nD) : sProp 𝕄 := iprop(start m c ∗ scratch c)
def Φ₁ (c : Dev nD) : sProp 𝕄 := iprop(wqPts m c ∗ scratch c ∗ semVal (barCell c) 0 ∗ zeros c)

/-- The kits of the transfers. -/
theorem kits (c : Dev nD) : iprop((atPos ER (barCell c) 0 ∅ 0 ∗ kinds (posD c)) ∗ payToks c ∗ credits c)
    ⊢ (iprop(bkit c ∗ bigSep Finset.univ fun t => tkit c t) : sProp 𝕄) := by
  unfold kinds payToks credits bkit tkit three posD tokD credD
  simp only [bigSep_sep']
  iintro ⟨⟨Hb, Ha1, Ha2⟩, ⟨Ht0, Ht1, Ht2⟩, Hc0, Hc1⟩
  iframe

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (args m).x c
    | ⟨1, _⟩ => (args m).wd c
    | ⟨2, _⟩ => (args m).uk c
    | ⟨3, _⟩ => (args m).uv c
    | ⟨4, _⟩ => (args m).wr c
    | ⟨5, _⟩ => KV (args m) c
    | ⟨6, _⟩ => VV (args m) c
    | ⟨7, _⟩ => KR (args m) c
    | ⟨8, _⟩ => XB (args m) c
    | ⟨9, _⟩ => QR (args m) c
  Φ t := match t with
    | ⟨0, _⟩ => Φ₀ m c
    | ⟨_ + 1, _⟩ => Φ₁ m c
  q _ := fullShare
  owed t := match t with
    | ⟨0, _⟩ => O c 0
    | ⟨_ + 1, _⟩ => O c 4

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 10) t0_0 d))
    ∗ (∃ d, stg c cc0_stg1_0 ((dats m ρ 0 c).before (1 : Fin 10) t0_0 d))
    ∗ (∃ d, stg c cc0_stg2_0 ((dats m ρ 0 c).before (2 : Fin 10) t0_0 d))
    ∗ (∃ d, stg c cc0_stg3_0 ((dats m ρ 0 c).before (3 : Fin 10) t0_0 d))
    ∗ (∃ d, stg c cc0_stg4_0 ((dats m ρ 0 c).before (4 : Fin 10) t0_0 d))
    ∗ (∃ d, stg c cc0_stg5_0 ((dats m ρ 0 c).before (5 : Fin 10) t0_0 d))
    ∗ (∃ d, stg c cc0_stg6_0 ((dats m ρ 0 c).before (6 : Fin 10) t0_0 d))
    ∗ (∃ d, stg c cc0_stg7_0 ((dats m ρ 0 c).before (7 : Fin 10) t0_0 d))
    ∗ (∃ d, stg c cc0_stg8_0 ((dats m ρ 0 c).before (8 : Fin 10) t0_0 d))
    ∗ (∃ d, stg c cc0_stg9_0 ((dats m ρ 0 c).before (9 : Fin 10) t0_0 d)))

def bodyPost (c : Dev nD) : sProp 𝕄 :=
  iprop(Φ₁ m c ∗ (dats m ρ 0 c).owesAt () t0_0.succ
    ∗ stg c cc0_stg0_0 ((args m).x c) ∗ stg c cc0_stg1_0 ((args m).wd c) ∗ stg c cc0_stg2_0 ((args m).uk c) ∗ stg c cc0_stg3_0 ((args m).uv c) ∗ stg c cc0_stg4_0 ((args m).wr c) ∗ stg c cc0_stg5_0 (KV (args m) c) ∗ stg c cc0_stg6_0 (VV (args m) c) ∗ stg c cc0_stg7_0 (KR (args m) c) ∗ stg c cc0_stg8_0 (XB (args m) c) ∗ stg c cc0_stg9_0 (QR (args m) c))

/-- A buffer at the contents it was to have. -/
theorem stg_intro (c : Dev nD) (b : Ref sig .tc) (X : b.ty.Contents (Elt F)) :
    (((c : Thread nD τ).loc b) ↦{fullShare} (X : Buf (Elt F) ((c : Thread nD τ).loc b)) : sProp 𝕄) ⊢ stg c b X := by
  iintro H
  iexists _; isplitr; · (ipureintro; rfl)
  iexact H

set_option maxRecDepth 4000 in
theorem body_sound (c : Dev nD) :
    bodyPre m ρ c ⊢ wp frame (wpE (defs₀ (F := F)) 𝒱₀ (c : Thread nD τ) none) Set.univ
          (cc0__kv_body xM (Memref.isWhole_whole _) wdM (Memref.isWhole_whole _) ukM (Memref.isWhole_whole _) uvM (Memref.isWhole_whole _) wrM (Memref.isWhole_whole _)
            wqM (Memref.isWhole_whole _) kM (Memref.isWhole_whole _) vM (Memref.isWhole_whole _) krM (Memref.isWhole_whole _) xbM (Memref.isWhole_whole _) qrM (Memref.isWhole_whole _)
            cM (Memref.isWhole_whole _) cfM (Memref.isWhole_whole _) wkM (Memref.isWhole_whole _) wvM (Memref.isWhole_whole _) qbM (Memref.isWhole_whole _)
            cc0_scratch5 cc0_scratch6 cc0_scratch7)
          (fun _ => bodyPost m ρ c) := by
  unfold bodyPre Φ₀ start G' linear scratch anyAt locals
  iintro ⟨⟨⟨Hw, #Hlev, Hcr, ⟨%K, #HR⟩, ⟨Hz16, Hz17⟩, Hpos, Hpay⟩, ⟨%f0, Hc⟩, ⟨%f1, Hcf⟩, ⟨%f2, Hwk⟩, ⟨%f3, Hwv⟩, ⟨%f4, Hqb⟩⟩, Ho,
    ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩, ⟨%d8, %g8, %hg8, H8⟩, ⟨%d9, %g9, %hg9, H9⟩⟩
  have h0 : g0 = (args m).x c := by rw [hg0]; unfold Dat.before; rw [if_pos (fetch0_0 t0_0)]; rfl
  have h1 : g1 = (args m).wd c := by rw [hg1]; unfold Dat.before; rw [if_pos (fetch0_1 t0_0)]; rfl
  have h2 : g2 = (args m).uk c := by rw [hg2]; unfold Dat.before; rw [if_pos (fetch0_2 t0_0)]; rfl
  have h3 : g3 = (args m).uv c := by rw [hg3]; unfold Dat.before; rw [if_pos (fetch0_3 t0_0)]; rfl
  have h4 : g4 = (args m).wr c := by rw [hg4]; unfold Dat.before; rw [if_pos (fetch0_4 t0_0)]; rfl
  subst h0; subst h1; subst h2; subst h3; subst h4
  unfold Dat.owesAt Pipeline.owesWithin
  icases Ho with ⟨%W, %hW, HO⟩
  rw [show (dats m ρ 0 c).owed t0_0.castSucc = O c 0 from rfl]
  ihave Hk := (kits (F := F) c) $$ [Hpos Hpay Hcr]
  · iframe
  icases Hk with ⟨Hb, Htk⟩
  ihave Htk' := (Entails.of_eq (bigSep_fin3 fun t => tkit (F := F) c t)) $$ Htk
  iapply (body_run (args m) K c W f0 f1 f2 f3 f4 g5 g6 g7 g8 g9 fun _ => bodyPost m ρ c)
  unfold wqPts given
  isplitr; · iexact HR
  isplitr; · iexact Hlev
  isplitl [HO]; · iexact HO
  isplitl [Hb]; · iexact Hb
  isplitl [Htk']; · iexact Htk'
  isplitl [H0 H1 H2 H3 H4 Hw]
  · isplitl [H0]; · iexact H0
    isplitl [H1]; · iexact H1
    isplitl [H2]; · iexact H2
    isplitl [H3]; · iexact H3
    isplitl [H4]; · iexact H4
    iexact Hw
  isplitl [Hc Hcf Hwk Hwv Hqb]
  · isplitl [Hc]; · iexact Hc
    isplitl [Hcf]; · iexact Hcf
    isplitl [Hwk]; · iexact Hwk
    isplitl [Hwv]; · iexact Hwv
    iexact Hqb
  isplitl [H5 H6 H7 H8 H9]
  · isplitl [H5]; · iexact H5
    isplitl [H6]; · iexact H6
    isplitl [H7]; · iexact H7
    isplitl [H8]; · iexact H8
    iexact H9
  isplitl [Hz16]; · iexact Hz16
  isplitl [Hz17]; · iexact Hz17
  unfold results
  iintro ⟨⟨%W', HO⟩, ⟨H0, H1, H2, H3, H4, Hw⟩, ⟨H5, H6, H7, H8, H9⟩, Hs, Hb, Hz⟩
  unfold bodyPost Φ₁ Dat.owesAt Pipeline.owesWithin wqPts
  rw [show (dats m ρ 0 c).owed t0_0.succ = O c 4 from rfl]
  isplitl [Hw Hs Hb Hz]
  · isplitl [Hw]; · iexact Hw
    isplitl [Hs]; · iexact Hs
    isplitl [Hb] <;> iassumption
  isplitl [HO]
  · iexists W'
    isplitr; · ipureintro; exact fun _ _ => Or.inl trivial
    iexact HO
  isplitl [H0]; · iapply (stg_intro c cc0_stg0_0 _); iexact H0
  isplitl [H1]; · iapply (stg_intro c cc0_stg1_0 _); iexact H1
  isplitl [H2]; · iapply (stg_intro c cc0_stg2_0 _); iexact H2
  isplitl [H3]; · iapply (stg_intro c cc0_stg3_0 _); iexact H3
  isplitl [H4]; · iapply (stg_intro c cc0_stg4_0 _); iexact H4
  isplitl [H5]; · iapply (stg_intro c cc0_stg5_0 _); iexact H5
  isplitl [H6]; · iapply (stg_intro c cc0_stg6_0 _); iexact H6
  isplitl [H7]; · iapply (stg_intro c cc0_stg7_0 _); iexact H7
  isplitl [H8]; · iapply (stg_intro c cc0_stg8_0 _); iexact H8
  iapply (stg_intro c cc0_stg9_0 _); iexact H9

set_option maxRecDepth 4000 in
theorem body_obligation (c : Dev nD) : BodyObligation (dats (F := F) m ρ 0 c) (defs₀ (F := F)) 𝒱₀ () Set.univ := fun t => by
  rw [fin_N0 t]
  rw [show (bigSep Finset.univ : (Fin cfg0.W → sProp 𝕄) → sProp 𝕄) = fun Φ => iprop(Φ (0 : Fin 10) ∗ Φ (1 : Fin 10) ∗ Φ (2 : Fin 10) ∗ Φ (3 : Fin 10) ∗ Φ (4 : Fin 10) ∗ Φ (5 : Fin 10) ∗ Φ (6 : Fin 10) ∗ Φ (7 : Fin 10) ∗ Φ (8 : Fin 10) ∗ Φ (9 : Fin 10)) from funext fun Φ => bigSep_W0 Φ]
  simp only [owns_whole_eq]
  exact body_sound m ρ c

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' (args m) c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  imodintro
  unfold start wqPts credits
  isplitl
  · iframe
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch anyAt
  iintro ⟨Hs, -, Hr⟩
  isplitl [Hs]; · iexact Hs
  iexact Hr

theorem phi1_exit (c : Dev nD) :
    (dats m ρ 0 c).Φ (Fin.last cfg0.N) ⊢ iprop((unscopedSems0 c ∗ wqPts m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq, ← zeros_eq]
  unfold Φ₁ scratch anyAt
  iintro ⟨Hw, Hs, Hb, Hz⟩
  isplitl [Hb Hw]
  · isplitl [Hb] <;> iassumption
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t => by
    have hz : lvS (.dma (((cfgs 0).spec w).sem s)) = 0 := by fin_cases w <;> fin_cases s <;> decide
    rcases t with ⟨_ | _, ht⟩
    · exact mayWait_low c _ 0 hz
    · exact mayWait_low c _ 4 hz

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg5) = m ((c : Thread nD τ).loc main_arg5)

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := fun d => O d 0) (howed₀ := fun _ => rfl) (howedN := fun _ => rfl)
    (L := L) (lv := lv) (hL := L_of_ne) (hwaits := waits m ρ)
    (G := G (args m)) (G' := G' (args m)) (u₀ := u₀)
    (hu₀ := by
      unfold u₀
      iintro Hu
      ihave H := (ownU_pair _ _) $$ Hu
      icases H with ⟨HP, HX⟩
      ihave H' := (own_pair_emb _ _ _) $$ HX
      icases H' with ⟨HX, -⟩
      imod (show BI.own (((Emb.inl : Emb UB (UB × Counters)).trans embR) (initOf allCells allToks)) ⊢ (|==> bigSep Finset.univ (G (args m)) : sProp 𝕄) from
        fund (args m)) $$ HX with HG
      imodintro
      isplitl [HP] <;> iassumption)
    (hglob := glob (args m))
    (hA := fun _ _ => rfl) (hpf := fun _ k => k.elim0)
    (X := start m) (Y := fun c => iprop(unscopedSems0 c ∗ wqPts m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg5) = m ((c : Thread nD τ).loc main_arg5))
    (hY := fun c s' => by
      unfold wqPts
      iintro ⟨⟨Hu, Hw⟩, -, HSI⟩
      icombine HSI Hw gives %h
      imod (Pipeline.unscopedSems0_read (X := unscopedSems0 c) (c := c) fupd_intro s') $$ [Hu HSI] with ⟨%hs, HSI⟩
      · isplitl [Hu] <;> iassumption
      imodintro
      isplitr; · ipureintro; exact ⟨hs, Buf.eq_of_forall_mem_univ h⟩
      iexact HSI)
    (hQ := fun _ h hs => ⟨fun c => ⟨fun w => (h c).1 w, (h c).2.2.2⟩, sem_eq_zero hs fun c => (h c).2.2.1⟩)

end Cert.ExProof

end

end
-- ==== Proof.ExValue.lean ====
/-
# The exchange on the 2×2 mesh: the values

Over the extended reals every device's five results are its rows of the reference's: the keys and values through the compressed
rows, whose columns the two devices of a row of the mesh compute half each; the rotary keys and queries; the rows themselves.
-/
module

public import proofs.«01_k».proof.Proof.ExRun
public import Idealize.ShloMosaic.Lib.Pipeline.ValueKit.Geometry
public import Idealize.ShloMosaic.Lib.MatmulPlain
public import Idealize.ShloMosaic.Lib.StackMember
public import Idealize.ShloMosaic.Lib.Pointwise
public import Idealize.ShloMosaic.Lib.Layout
public import proofs.«01_k».proof.Proof.Gen.ExchangeReferenceIdeal.Run
public import Idealize.ShloMosaic.Lib.Quiescent

@[expose] public section

noncomputable section

namespace Cert.ExProof

open Cert.ExchangeIdeal Cert.ExchangeIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

section
variable (m : (ℓ : Loc nD τ sig) → Buf (Elt F) ℓ) (ρ : Dev nD → PrngReg)

/-! ## The one point's block of every array is the whole array -/

theorem x_eq (c : Dev nD) : (args m).x c = m ((c : Thread nD τ).loc main_arg0) := by
  funext i
  show m ((c : Thread nD τ).loc main_arg0) ((win0_0.blk (0 : Fin 1)).view.emb i) = _
  refine congrArg _ (funext fun a => Fin.ext ?_)
  match a with
  | ⟨0, _⟩ => show 0 * 4 + 1 * (i 0).val = _; rw [Nat.zero_mul, Nat.zero_add, Nat.one_mul]; rfl
  | ⟨1, _⟩ => show 0 * 256 + 1 * (i 1).val = _; rw [Nat.zero_mul, Nat.zero_add, Nat.one_mul]; rfl
  | ⟨2, _⟩ => show 0 * 4096 + 1 * (i 2).val = _; rw [Nat.zero_mul, Nat.zero_add, Nat.one_mul]; rfl
theorem wd_eq (c : Dev nD) : (args m).wd c = m ((c : Thread nD τ).loc main_arg1) := by
  funext i
  show m ((c : Thread nD τ).loc main_arg1) ((win0_1.blk (0 : Fin 1)).view.emb i) = _
  refine congrArg _ (funext fun a => Fin.ext ?_)
  match a with
  | ⟨0, _⟩ => show 0 * 4096 + 1 * (i 0).val = _; rw [Nat.zero_mul, Nat.zero_add, Nat.one_mul]; rfl
  | ⟨1, _⟩ => show 0 * 128 + 1 * (i 1).val = _; rw [Nat.zero_mul, Nat.zero_add, Nat.one_mul]; rfl
theorem uk_eq (c : Dev nD) : (args m).uk c = m ((c : Thread nD τ).loc main_arg2) := by
  funext i
  show m ((c : Thread nD τ).loc main_arg2) ((win0_2.blk (0 : Fin 1)).view.emb i) = _
  refine congrArg _ (funext fun a => Fin.ext ?_)
  match a with
  | ⟨0, _⟩ => show 0 * 128 + 1 * (i 0).val = _; rw [Nat.zero_mul, Nat.zero_add, Nat.one_mul]; rfl
  | ⟨1, _⟩ => show 0 * 4096 + 1 * (i 1).val = _; rw [Nat.zero_mul, Nat.zero_add, Nat.one_mul]; rfl
theorem uv_eq (c : Dev nD) : (args m).uv c = m ((c : Thread nD τ).loc main_arg3) := by
  funext i
  show m ((c : Thread nD τ).loc main_arg3) ((win0_3.blk (0 : Fin 1)).view.emb i) = _
  refine congrArg _ (funext fun a => Fin.ext ?_)
  match a with
  | ⟨0, _⟩ => show 0 * 128 + 1 * (i 0).val = _; rw [Nat.zero_mul, Nat.zero_add, Nat.one_mul]; rfl
  | ⟨1, _⟩ => show 0 * 4096 + 1 * (i 1).val = _; rw [Nat.zero_mul, Nat.zero_add, Nat.one_mul]; rfl
theorem wr_eq (c : Dev nD) : (args m).wr c = m ((c : Thread nD τ).loc main_arg4) := by
  funext i
  show m ((c : Thread nD τ).loc main_arg4) ((win0_4.blk (0 : Fin 1)).view.emb i) = _
  refine congrArg _ (funext fun a => Fin.ext ?_)
  match a with
  | ⟨0, _⟩ => show 0 * 4096 + 1 * (i 0).val = _; rw [Nat.zero_mul, Nat.zero_add, Nat.one_mul]; rfl
  | ⟨1, _⟩ => show 0 * 64 + 1 * (i 1).val = _; rw [Nat.zero_mul, Nat.zero_add, Nat.one_mul]; rfl

/-! ## The arrays at the end of the run -/

theorem whole_5 : (cfg0.win (5 : Fin 10)).WholeAt t0_0 := by decide +kernel
theorem whole_6 : (cfg0.win (6 : Fin 10)).WholeAt t0_0 := by decide +kernel
theorem whole_7 : (cfg0.win (7 : Fin 10)).WholeAt t0_0 := by decide +kernel
theorem whole_8 : (cfg0.win (8 : Fin 10)).WholeAt t0_0 := by decide +kernel
theorem whole_9 : (cfg0.win (9 : Fin 10)).WholeAt t0_0 := by decide +kernel

theorem final_k (c : Dev nD) : finalA m ρ c (5 : Fin 10) = KV (args m) c := (dats m ρ 0 c).arrAt_eq_of_after_last (5 : Fin 10) t0_0 whole_5 _ fun j => rfl
theorem final_v (c : Dev nD) : finalA m ρ c (6 : Fin 10) = VV (args m) c := (dats m ρ 0 c).arrAt_eq_of_after_last (6 : Fin 10) t0_0 whole_6 _ fun j => rfl
theorem final_kr (c : Dev nD) : finalA m ρ c (7 : Fin 10) = KR (args m) c := (dats m ρ 0 c).arrAt_eq_of_after_last (7 : Fin 10) t0_0 whole_7 _ fun j => rfl
theorem final_xb (c : Dev nD) : finalA m ρ c (8 : Fin 10) = XB (args m) c := (dats m ρ 0 c).arrAt_eq_of_after_last (8 : Fin 10) t0_0 whole_8 _ fun j => rfl
theorem final_qr (c : Dev nD) : finalA m ρ c (9 : Fin 10) = QR (args m) c := (dats m ρ 0 c).arrAt_eq_of_after_last (9 : Fin 10) t0_0 whole_9 _ fun j => rfl

/-- The arguments end as they were. -/
theorem final_args (c : Dev nD) : finalA m ρ c (0 : Fin 10) = m ((c : Thread nD τ).loc main_arg0) ∧ finalA m ρ c (1 : Fin 10) = m ((c : Thread nD τ).loc main_arg1)
    ∧ finalA m ρ c (2 : Fin 10) = m ((c : Thread nD τ).loc main_arg2) ∧ finalA m ρ c (3 : Fin 10) = m ((c : Thread nD τ).loc main_arg3)
    ∧ finalA m ρ c (4 : Fin 10) = m ((c : Thread nD τ).loc main_arg4) :=
  ⟨(dats (F := F) m ρ 0 c).arrAt_in (0 : Fin 10) rfl _, (dats (F := F) m ρ 0 c).arrAt_in (1 : Fin 10) rfl _, (dats (F := F) m ρ 0 c).arrAt_in (2 : Fin 10) rfl _,
    (dats (F := F) m ρ 0 c).arrAt_in (3 : Fin 10) rfl _, (dats (F := F) m ρ 0 c).arrAt_in (4 : Fin 10) rfl _⟩
end

/-! ## The kernel's products over the extended reals, entry by entry -/

theorem pay12_apply (x : Vec Ideal S512x4096 .bf16) (w : Vec Ideal S4096x128 .bf16) (p : S512x128.Idx) :
    k0_pay13 (F := Ideal) (k0_pay12 (F := Ideal) x w) p = ∑ k : Fin 4096, x (ValueIdx.ix2 (p 0) k) * w (ValueIdx.ix2 k (p 1)) := by
  unfold_payloads
  pointwise
  rfl
theorem pay14_apply (x : Vec Ideal S512x4096 .bf16) (w : Vec Ideal S4096x64 .bf16) (p : S512x64.Idx) :
    k0_pay14 (F := Ideal) x w p = ∑ k : Fin 4096, x (ValueIdx.ix2 (p 0) k) * w (ValueIdx.ix2 k (p 1)) := by
  unfold_payloads
  pointwise
  rfl
theorem pay26_apply (x : Vec Ideal S512x256 .bf16) (w : Vec Ideal S256x1024 .bf16) (p : S512x1024.Idx) :
    k0_pay26 (F := Ideal) x w p = ∑ k : Fin 256, x (ValueIdx.ix2 (p 0) k) * w (ValueIdx.ix2 k (p 1)) := by
  unfold_payloads
  pointwise
  rfl
theorem pay15_apply (x : Vec Ideal S512x4096 .bf16) (w : S4096x2048.Idx → Elt Ideal .f32) (j : Fin 8) (p : S512x256.Idx) (q : Fin 2048)
    (hq : q.val = 256 * j.val + (p 1).val) :
    k0_pay15 (F := Ideal) x (qChunk w j) p = ∑ k : Fin 4096, x (ValueIdx.ix2 (p 0) k) * w (ValueIdx.ix2 k q) := by
  unfold_payloads
  pointwise
  refine Finset.sum_congr rfl fun k _ => ?_
  refine congrArg₂ (· * ·) rfl (congrArg w (funext fun a => Fin.ext ?_))
  match a with
  | ⟨0, _⟩ => rfl
  | ⟨1, _⟩ => exact hq.symm

/-! ## The reference's results as terms of the flattened rows and the weights, and entry by entry -/

open Cert.ExchangeReferenceIdeal (dot_S1024x256_S256x4096_S1024x4096_1_0_0_1_n_n dot_S1024x4096_S4096x256_S1024x256_1_0_0_1_n_n
  dot_S1024x4096_S4096x64_S1024x64_1_0_0_1_n_n dot_S1024x4096_S4096x2048_S1024x2048_1_0_0_1_n_n)

def refC (x : FVec Ideal Cert.ExchangeReferenceIdeal.S1024x4096 .f32) (wd : FVec Ideal Cert.ExchangeReferenceIdeal.S4096x256 .bf16) : FVec Ideal Cert.ExchangeReferenceIdeal.S1024x256 .f32 :=
  Host.dotGeneral dot_S1024x4096_S4096x256_S1024x256_1_0_0_1_n_n none x (extf .f32 wd Cert.ExchangeReferenceIdeal.Gen.bitsLt_bf16_f32)
def refK (x : FVec Ideal Cert.ExchangeReferenceIdeal.S1024x4096 .f32) (wd : FVec Ideal Cert.ExchangeReferenceIdeal.S4096x256 .bf16) (uk : FVec Ideal Cert.ExchangeReferenceIdeal.S256x4096 .bf16) :
    FVec Ideal Cert.ExchangeReferenceIdeal.S1024x4096 .bf16 :=
  truncf .bf16 (Host.dotGeneral dot_S1024x256_S256x4096_S1024x4096_1_0_0_1_n_n none (refC x wd) (extf .f32 uk Cert.ExchangeReferenceIdeal.Gen.bitsLt_bf16_f32)) Cert.ExchangeReferenceIdeal.Gen.bitsLt_bf16_f32
def refR (x : FVec Ideal Cert.ExchangeReferenceIdeal.S1024x4096 .f32) (wr : FVec Ideal Cert.ExchangeReferenceIdeal.S4096x64 .bf16) : FVec Ideal Cert.ExchangeReferenceIdeal.S1024x64 .bf16 :=
  truncf .bf16 (Host.dotGeneral dot_S1024x4096_S4096x64_S1024x64_1_0_0_1_n_n none x (extf .f32 wr Cert.ExchangeReferenceIdeal.Gen.bitsLt_bf16_f32)) Cert.ExchangeReferenceIdeal.Gen.bitsLt_bf16_f32
def refQ (x : FVec Ideal Cert.ExchangeReferenceIdeal.S1024x4096 .f32) (wq : FVec Ideal Cert.ExchangeReferenceIdeal.S4096x2048 .f32) : FVec Ideal Cert.ExchangeReferenceIdeal.S1024x2048 .bf16 :=
  truncf .bf16 (Host.dotGeneral dot_S1024x4096_S4096x2048_S1024x2048_1_0_0_1_n_n none x wq) Cert.ExchangeReferenceIdeal.Gen.bitsLt_bf16_f32
/-- The flattened rows, and rounded. -/
def flat (x : FVec Ideal Cert.ExchangeReferenceIdeal.S4x256x4096 .f32) : FVec Ideal Cert.ExchangeReferenceIdeal.S1024x4096 .f32 :=
  shapeCast _ x Cert.ExchangeReferenceIdeal.Gen.shapeCasts_S4x256x4096_S1024x4096
def refX (x : FVec Ideal Cert.ExchangeReferenceIdeal.S1024x4096 .f32) : FVec Ideal Cert.ExchangeReferenceIdeal.S1024x4096 .bf16 :=
  truncf .bf16 x Cert.ExchangeReferenceIdeal.Gen.bitsLt_bf16_f32

theorem refC_apply (x : FVec Ideal Cert.ExchangeReferenceIdeal.S1024x4096 .f32) (wd : FVec Ideal Cert.ExchangeReferenceIdeal.S4096x256 .bf16) (i : Cert.ExchangeReferenceIdeal.S1024x256.Idx) :
    refC x wd i = ∑ k : Fin 4096, x (ValueIdx.ix2 (i 0) k) * wd (ValueIdx.ix2 k (i 1)) := by
  unfold refC; pointwise; rfl
theorem refK_apply (x : FVec Ideal Cert.ExchangeReferenceIdeal.S1024x4096 .f32) (wd : FVec Ideal Cert.ExchangeReferenceIdeal.S4096x256 .bf16) (uk : FVec Ideal Cert.ExchangeReferenceIdeal.S256x4096 .bf16)
    (i : Cert.ExchangeReferenceIdeal.S1024x4096.Idx) : refK x wd uk i = ∑ l : Fin 256, refC x wd (ValueIdx.ix2 (i 0) l) * uk (ValueIdx.ix2 l (i 1)) := by
  unfold refK; generalize refC x wd = C; pointwise; rfl
theorem refR_apply (x : FVec Ideal Cert.ExchangeReferenceIdeal.S1024x4096 .f32) (wr : FVec Ideal Cert.ExchangeReferenceIdeal.S4096x64 .bf16) (i : Cert.ExchangeReferenceIdeal.S1024x64.Idx) :
    refR x wr i = ∑ k : Fin 4096, x (ValueIdx.ix2 (i 0) k) * wr (ValueIdx.ix2 k (i 1)) := by
  unfold refR; pointwise; rfl
theorem refQ_apply (x : FVec Ideal Cert.ExchangeReferenceIdeal.S1024x4096 .f32) (wq : FVec Ideal Cert.ExchangeReferenceIdeal.S4096x2048 .f32) (i : Cert.ExchangeReferenceIdeal.S1024x2048.Idx) :
    refQ x wq i = ∑ k : Fin 4096, x (ValueIdx.ix2 (i 0) k) * wq (ValueIdx.ix2 k (i 1)) := by
  unfold refQ; pointwise; rfl
theorem flat_apply (x : FVec Ideal Cert.ExchangeReferenceIdeal.S4x256x4096 .f32) (i : Cert.ExchangeReferenceIdeal.S1024x4096.Idx) (j : S4x256x4096.Idx)
    (h0 : (j 0).val = (i 0).val / 256) (h1 : (j 1).val = (i 0).val % 256) (h2 : (j 2).val = (i 1).val) : flat x i = x j := by
  unfold flat; pointwise
  refine congrArg x (funext fun a => Fin.ext ?_)
  match a with
  | ⟨0, _⟩ => exact h0.symm
  | ⟨1, _⟩ => exact h1.symm
  | ⟨2, _⟩ => exact h2.symm

/-! ## A device's blocks of the arrays -/

/-- The entry of a block at `i`, in the whole array at `r`. -/
theorem blockN_at {α : Type} {A B C D : ℕ} {kN : Fin 2 → ℕ} (j : (b : Fin 2) → Fin (kN b)) (v : (⟨2, ![C, D]⟩ : Shape).Idx → α) (h)
    (i : (⟨2, ![A, B]⟩ : Shape).Idx) (r : (⟨2, ![C, D]⟩ : Shape).Idx) (hr : (j 0).val * A + (i 0).val = (r 0).val) (hl : (j 1).val * B + (i 1).val = (r 1).val) :
    Layout.blockN ⟨2, ![A, B]⟩ ⟨2, ![C, D]⟩ j v h i = v r := by
  rw [Layout.blockN_apply]
  refine congrArg v (funext fun a => Fin.ext ?_)
  match a with
  | ⟨0, _⟩ => exact hr
  | ⟨1, _⟩ => exact hl

theorem rowBlock_row : ∀ d : Dev nD, (Layout.meshBlock [2, 2] ![[0], []] d (by decide) (0 : Fin 2)).val = d.val / 2 := by decide
theorem rowBlock_col : ∀ d : Dev nD, (Layout.meshBlock [2, 2] ![[0], []] d (by decide) (1 : Fin 2)).val = 0 := by decide
theorem wdBlock_row : ∀ d : Dev nD, (Layout.meshBlock [2, 2] ![[], [1]] d (by decide) (0 : Fin 2)).val = 0 := by decide
theorem wdBlock_col : ∀ d : Dev nD, (Layout.meshBlock [2, 2] ![[], [1]] d (by decide) (1 : Fin 2)).val = d.val % 2 := by decide
theorem wuBlock_row : ∀ d : Dev nD, (Layout.meshBlock [2, 2] ![[1], []] d (by decide) (0 : Fin 2)).val = d.val % 2 := by decide
theorem wuBlock_col : ∀ d : Dev nD, (Layout.meshBlock [2, 2] ![[1], []] d (by decide) (1 : Fin 2)).val = 0 := by decide
theorem at_div : ∀ (d : Dev nD) (s : Fin 2), (at_ d s).val / 2 = d.val / 2 := by decide
theorem at_mod : ∀ (d : Dev nD) (s : Fin 2), (at_ d s).val % 2 = s.val := by decide

/-- A device's rows of an array cut along the rows are the array's, once each of its entries is the array's at its row. -/
theorem eq_rows {α : Type} {B : ℕ} (d : Dev nD) (f : (⟨2, ![512, B]⟩ : Shape).Idx → α) (v : (⟨2, ![1024, B]⟩ : Shape).Idx → α) (h)
    (H : ∀ (i : (⟨2, ![512, B]⟩ : Shape).Idx) (r : (⟨2, ![1024, B]⟩ : Shape).Idx), d.val / 2 * 512 + (i 0).val = (r 0).val → (i 1).val = (r 1).val → f i = v r) :
    f = Layout.blockN ⟨2, ![512, B]⟩ ⟨2, ![1024, B]⟩ (Layout.meshBlock [2, 2] ![[0], []] d) v h := by
  funext i
  have h0 : (i 0).val < 512 := (i 0).isLt
  have hd : d.val < 4 := d.isLt
  have e := blockN_at (A := 512) (B := B) (C := 1024) (D := B) (Layout.meshBlock [2, 2] ![[0], []] d (by decide)) v h i
    (ValueIdx.ix2 ⟨d.val / 2 * 512 + (i 0).val, by omega⟩ (i 1)) (by rw [rowBlock_row]; rfl) (by rw [rowBlock_col, Nat.zero_mul, Nat.zero_add]; rfl)
  exact (H i _ rfl rfl).trans e.symm

/-! ## The five results -/

section
variable (A : Args Ideal) (x : FVec Ideal Cert.ExchangeReferenceIdeal.S4x256x4096 .f32) (wd : FVec Ideal Cert.ExchangeReferenceIdeal.S4096x256 .bf16)

/-- The rounded rows. -/
theorem XB_at (hx : ∀ c, A.x c = x) (c : Dev nD) (i : S512x4096.Idx) (r : Cert.ExchangeReferenceIdeal.S1024x4096.Idx)
    (hr : c.val / 2 * 512 + (i 0).val = (r 0).val) (hl : (i 1).val = (r 1).val) : XB A c i = flat x r := by
  unfold XB; rw [hx c]; unfold_payloads; pointwise
  refine (flat_apply x r _ ?_ ?_ ?_).symm
  · show 2 * (c.val / 2) + 1 * ((i 0).val / 256) = (r 0).val / 256
    rw [← hr]; omega
  · show 0 + 1 * ((i 0).val % 256) = (r 0).val % 256
    rw [← hr]; omega
  · show 0 + 1 * (i 1).val = (r 1).val
    rw [← hl]; omega

theorem XB_row (hx : ∀ c, A.x c = x) (c : Dev nD) (p : Fin 512) (r : Fin 1024) (k : Fin 4096) (hr : c.val / 2 * 512 + p.val = r.val) :
    XB A c (ValueIdx.ix2 p k) = flat x (ValueIdx.ix2 r k) := XB_at A x hx c _ _ hr rfl

/-- The compressed rows: column `l` is the product of the device of the row that has column `l` of the down-projection. -/
theorem CF_at (hx : ∀ c, A.x c = x) (hwd : ∀ c : Dev nD, A.wd c = Layout.blockN ⟨2, ![4096, 128]⟩ ⟨2, ![4096, 256]⟩ (Layout.meshBlock [2, 2] ![[], [1]] c) wd)
    (c : Dev nD) (p : Fin 512) (r : Fin 1024) (l : Fin 256) (hr : c.val / 2 * 512 + p.val = r.val) :
    CF A c (ValueIdx.ix2 p l) = refC (flat x) wd (ValueIdx.ix2 r l) := by
  have h1 : l.val < 256 := l.isLt
  unfold CF colsOf CM
  refine (pay12_apply _ _ _).trans ?_
  rw [refC_apply]
  have hd := at_div c ⟨l.val / 128, by omega⟩
  have hm := at_mod c ⟨l.val / 128, by omega⟩
  refine Finset.sum_congr rfl fun k _ => congrArg₂ (· * ·) ?_ ?_
  · exact XB_row A x hx _ _ _ k (by rw [← hr, ← hd])
  · refine (congrFun (hwd _) _).trans (blockN_at _ wd _ _ _ ?_ ?_)
    · rw [wdBlock_row, Nat.zero_mul, Nat.zero_add]
    · rw [wdBlock_col]
      refine (congrArg (· * 128 + l.val % 128) hm).trans ?_
      show l.val / 128 * 128 + l.val % 128 = l.val
      omega

/-- The keys (with the weight `uk`) and the values (with `uv`): both devices' columns of the compressed rows by both devices' rows of the weight. -/
theorem prod_at (hx : ∀ c, A.x c = x) (hwd : ∀ c : Dev nD, A.wd c = Layout.blockN ⟨2, ![4096, 128]⟩ ⟨2, ![4096, 256]⟩ (Layout.meshBlock [2, 2] ![[], [1]] c) wd)
    (u : Dev nD → Vec Ideal S128x4096 .bf16) (uk : FVec Ideal Cert.ExchangeReferenceIdeal.S256x4096 .bf16)
    (hu : ∀ c : Dev nD, u c = Layout.blockN ⟨2, ![128, 4096]⟩ ⟨2, ![256, 4096]⟩ (Layout.meshBlock [2, 2] ![[1], []] c) uk)
    (c : Dev nD) (i : S512x4096.Idx) (r : Cert.ExchangeReferenceIdeal.S1024x4096.Idx) (hr : c.val / 2 * 512 + (i 0).val = (r 0).val) (hl : (i 1).val = (r 1).val) :
    colsOf (n := 4) (w := 1024) (m := 512) (N := 4096) (F := Ideal) (e := .bf16) (by decide) rfl
      (fun j => k0_pay26 (F := Ideal) (CF A c) (kChunk (F := Ideal) (fun i => u (at_ c (rHalf i)) (rIn i)) j)) i = refK (flat x) wd uk r := by
  have h1 : (i 1).val < 4096 := (i 1).isLt
  unfold colsOf
  refine (pay26_apply _ _ _).trans ?_
  rw [refK_apply]
  refine Finset.sum_congr rfl fun l _ => congrArg₂ (· * ·) ?_ ?_
  · exact CF_at A x wd hx hwd c _ _ l hr
  · have hm := at_mod c ⟨l.val / 128, by have := l.isLt; omega⟩
    unfold kChunk
    refine (congrFun (hu _) _).trans (blockN_at _ uk _ _ _ ?_ ?_)
    · rw [wuBlock_row]
      refine (congrArg (· * 128 + l.val % 128) hm).trans ?_
      show l.val / 128 * 128 + l.val % 128 = l.val
      omega
    · rw [wuBlock_col, Nat.zero_mul, Nat.zero_add]
      show 1024 * ((i 1).val / 1024) + (i 1).val % 1024 = (r 1).val
      omega

theorem KR_at (hx : ∀ c, A.x c = x) (wr : FVec Ideal Cert.ExchangeReferenceIdeal.S4096x64 .bf16) (hwr : ∀ c, A.wr c = wr) (c : Dev nD) (i : S512x64.Idx)
    (r : Cert.ExchangeReferenceIdeal.S1024x64.Idx) (hr : c.val / 2 * 512 + (i 0).val = (r 0).val) (hl : (i 1).val = (r 1).val) : KR A c i = refR (flat x) wr r := by
  unfold KR
  rw [pay14_apply, refR_apply, hwr c]
  refine Finset.sum_congr rfl fun k _ => congrArg₂ (· * ·) (XB_row A x hx c _ _ k hr) (congrArg wr (funext fun a => Fin.ext ?_))
  match a with
  | ⟨0, _⟩ => rfl
  | ⟨1, _⟩ => exact hl

theorem QR_at (hx : ∀ c, A.x c = x) (wq : FVec Ideal Cert.ExchangeReferenceIdeal.S4096x2048 .f32) (hwq : ∀ c, A.wq c = wq) (c : Dev nD) (i : S512x2048.Idx)
    (r : Cert.ExchangeReferenceIdeal.S1024x2048.Idx) (hr : c.val / 2 * 512 + (i 0).val = (r 0).val) (hl : (i 1).val = (r 1).val) : QR A c i = refQ (flat x) wq r := by
  have h1 : (i 1).val < 2048 := (i 1).isLt
  unfold QR colsOf
  refine (pay15_apply _ _ _ _ (r 1) (by show (r 1).val = 256 * ((i 1).val / 256) + (i 1).val % 256; omega)).trans ?_
  rw [refQ_apply, hwq c]
  exact Finset.sum_congr rfl fun k _ => congrArg₂ (· * ·) (XB_row A x hx c _ _ k hr) rfl

end

/-- Every device's five results are its rows of the reference's, from arguments laid out over the mesh. -/
theorem values (m : (ℓ : Loc nD τ sig) → Buf (Elt Ideal) ℓ) (x : FVec Ideal Cert.ExchangeReferenceIdeal.S4x256x4096 .f32)
    (wd : FVec Ideal Cert.ExchangeReferenceIdeal.S4096x256 .bf16) (uk uv : FVec Ideal Cert.ExchangeReferenceIdeal.S256x4096 .bf16)
    (wr : FVec Ideal Cert.ExchangeReferenceIdeal.S4096x64 .bf16) (wq : FVec Ideal Cert.ExchangeReferenceIdeal.S4096x2048 .f32)
    (h : ∀ c : Dev nD, m ((c : Thread nD τ).loc main_arg0) = x
      ∧ m ((c : Thread nD τ).loc main_arg1) = Layout.blockN ⟨2, ![4096, 128]⟩ ⟨2, ![4096, 256]⟩ (Layout.meshBlock [2, 2] ![[], [1]] c) wd
      ∧ m ((c : Thread nD τ).loc main_arg2) = Layout.blockN ⟨2, ![128, 4096]⟩ ⟨2, ![256, 4096]⟩ (Layout.meshBlock [2, 2] ![[1], []] c) uk
      ∧ m ((c : Thread nD τ).loc main_arg3) = Layout.blockN ⟨2, ![128, 4096]⟩ ⟨2, ![256, 4096]⟩ (Layout.meshBlock [2, 2] ![[1], []] c) uv
      ∧ m ((c : Thread nD τ).loc main_arg4) = wr ∧ m ((c : Thread nD τ).loc main_arg5) = wq) (c : Dev nD) :
    KV (args m) c = Layout.blockN ⟨2, ![512, 4096]⟩ ⟨2, ![1024, 4096]⟩ (Layout.meshBlock [2, 2] ![[0], []] c) (refK (flat x) wd uk)
      ∧ VV (args m) c = Layout.blockN ⟨2, ![512, 4096]⟩ ⟨2, ![1024, 4096]⟩ (Layout.meshBlock [2, 2] ![[0], []] c) (refK (flat x) wd uv)
      ∧ KR (args m) c = Layout.blockN ⟨2, ![512, 64]⟩ ⟨2, ![1024, 64]⟩ (Layout.meshBlock [2, 2] ![[0], []] c) (refR (flat x) wr)
      ∧ XB (args m) c = Layout.blockN ⟨2, ![512, 4096]⟩ ⟨2, ![1024, 4096]⟩ (Layout.meshBlock [2, 2] ![[0], []] c) (refX (flat x))
      ∧ QR (args m) c = Layout.blockN ⟨2, ![512, 2048]⟩ ⟨2, ![1024, 2048]⟩ (Layout.meshBlock [2, 2] ![[0], []] c) (refQ (flat x) wq) := by
  have hx : ∀ c, (args m).x c = x := fun c => (x_eq m c).trans (h c).1
  have hwd := fun c => (wd_eq m c).trans (h c).2.1
  have huk := fun c => (uk_eq m c).trans (h c).2.2.1
  have huv := fun c => (uv_eq m c).trans (h c).2.2.2.1
  have hwr : ∀ c, (args m).wr c = wr := fun c => (wr_eq m c).trans (h c).2.2.2.2.1
  have hwq : ∀ c, (args m).wq c = wq := fun c => (h c).2.2.2.2.2
  exact ⟨eq_rows c _ _ _ fun i r hr hl => prod_at (args m) x wd hx hwd (args m).uk uk huk c i r hr hl,
    eq_rows c _ _ _ fun i r hr hl => prod_at (args m) x wd hx hwd (args m).uv uv huv c i r hr hl,
    eq_rows c _ _ _ fun i r hr hl => KR_at (args m) x hx wr hwr c i r hr hl,
    eq_rows c _ _ _ fun i r hr hl => XB_at (args m) x hx c i r hr hl,
    eq_rows c _ _ _ fun i r hr hl => QR_at (args m) x hx wq hwq c i r hr hl⟩

end Cert.ExProof

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Exchange
public import proofs.«01_k».proof.Proof.Gen.Exchange.Skeleton
public import proofs.«01_k».proof.Proof.Gen.Exchange.Launch
public import proofs.«01_k».proof.Proof.Gen.Exchange.Points
public import proofs.«01_k».proof.Proof.Gen.Exchange.Frame
public import proofs.«01_k».proof.Proof.Gen.ExchangeIdeal
public import proofs.«01_k».proof.Proof.Gen.ExchangeIdeal.Skeleton
public import proofs.«01_k».proof.Proof.Gen.ExchangeIdeal.Launch
public import proofs.«01_k».proof.Proof.Gen.ExchangeIdeal.Points
public import proofs.«01_k».proof.Proof.Gen.ExchangeIdeal.Frame
public import proofs.«01_k».proof.Proof.Gen.ExchangeReferenceIdeal
public import proofs.«01_k».proof.Proof.Gen.ExchangeReferenceIdeal.Run
public import proofs.«01_k».proof.Proof.Gen.Queries
public import proofs.«01_k».proof.Proof.Gen.Queries.Skeleton
public import proofs.«01_k».proof.Proof.Gen.Queries.Launch
public import proofs.«01_k».proof.Proof.Gen.Queries.Points
public import proofs.«01_k».proof.Proof.Gen.Queries.Frame
public import proofs.«01_k».proof.Proof.Gen.QueriesIdeal
public import proofs.«01_k».proof.Proof.Gen.QueriesIdeal.Skeleton
public import proofs.«01_k».proof.Proof.Gen.QueriesIdeal.Launch
public import proofs.«01_k».proof.Proof.Gen.QueriesIdeal.Points
public import proofs.«01_k».proof.Proof.Gen.QueriesIdeal.Frame
public import proofs.«01_k».proof.Proof.Gen.QueriesIdeal.Value
public import proofs.«01_k».proof.Proof.Gen.QueriesReferenceIdeal
public import proofs.«01_k».proof.Proof.Gen.QueriesReferenceIdeal.Run
public import proofs.«01_k».proof.Proof.QueriesValue
public import proofs.«01_k».proof.Proof.Gen.Attention
public import proofs.«01_k».proof.Proof.Gen.Attention.Skeleton
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionIdeal.Value
public import proofs.«01_k».proof.Proof.Gen.AttentionReferenceIdeal
public import proofs.«01_k».proof.Proof.Gen.AttentionReferenceIdeal.Run
public import proofs.«01_k».proof.Proof.AttnRef
public import proofs.«01_k».proof.Proof.AttnPre
public import proofs.«01_k».proof.Proof.OutRun
public import proofs.«01_k».proof.Proof.OutValue
public import proofs.«01_k».proof.Proof.ExRun
public import proofs.«01_k».proof.Proof.ExValue
public import Idealize.ShloMosaic.Adequacy
public import Idealize.ShloMosaic.Init

@[expose] public section

noncomputable section

namespace Cert.Proof

open Idealize.ShloMosaic Idealize.ShloMosaic.TcCoe Idealize.SL.Sem Cert.Kernel

/-- Over any float values the kernel terminates with its arguments unchanged and every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono
    (fun _ h => ⟨fun c => ⟨((h.1 c).1 (0 : Fin 2)).trans (Cert.OutProof.finalA_o m ρ c), (h.1 c).2⟩, h.2⟩)
    (Cert.OutProof.run_main m ρ)

/-- The two printed programs have the same body table (each label's body is the same text), -/
theorem defs₀_eq {F : FTy → Type} [FloatOps F] : Cert.Kernel.defs₀ (F := F) = Cert.KernelIdeal.defs₀ (F := F) := by
  funext p l x
  rcases l with ⟨_ | n, h⟩
  · rcases p with _ | _ | _
    · obtain ⟨t, s⟩ := x
      show Cert.Kernel.cc0__out_body (F := F) _ _ _ _ _ _ _ _ _ _ _ _ _ _ _ _ _ _ _
        = Cert.KernelIdeal.cc0__out_body (F := F) _ _ _ _ _ _ _ _ _ _ _ _ _ _ _ _ _ _ _
      rfl
    · rfl
    · rfl
  · exact absurd h (Nat.not_lt.2 (Nat.le_add_left _ _))

theorem defs_eq {F : FTy → Type} [FloatOps F] : Cert.Kernel.defs (F := F) = Cert.KernelIdeal.defs (F := F) :=
  congrArg (Pipeline.defs Cert.KernelIdeal.pcfgs) defs₀_eq

/-- so the run over any float values is a run of the compiled kernel. -/
theorem frame_kernel : Cert.quiescent_Kernel := fun m ρ _ => by
  have h := frame_any (F := Bits) m ρ
  rw [← defs_eq] at h
  exact h

/-- The same over the extended reals. -/
theorem frame_kernelIdeal : Cert.quiescent_KernelIdeal := fun m ρ _ => frame_any (F := Ideal) m ρ

/-- The reference: no semaphore is allocated, so nothing is left to say of the counters. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Every device's result is the reference's. -/
theorem algebraic : Cert.algebraic_KernelIdeal_ReferenceIdeal := fun m ρ m' ρ' _ hm =>
  ⟨Cert.OutProof.refOut (m' ((0 : Dev Cert.ReferenceIdeal.nD).tc.loc Cert.ReferenceIdeal.main_arg0)) (m' ((0 : Dev Cert.ReferenceIdeal.nD).tc.loc Cert.ReferenceIdeal.main_arg1)),
    (θ_run Cert.KernelIdeal.defs _ _).mono
      (fun _ h c => ⟨((h.1 c).1 (1 : Fin 2)).trans ((Cert.OutProof.finalA_out m ρ c).trans (Cert.OutProof.out_value m _ _ hm c)),
        ((h.1 c).1 (0 : Fin 2)).trans (Cert.OutProof.finalA_o m ρ c), (h.1 c).2⟩)
      (Cert.OutProof.run_main (F := Ideal) m ρ),
    (θ_run Cert.ReferenceIdeal.defs _ _).mono (fun _ h => h 0) (Cert.ReferenceIdeal.Value.run m' ρ')⟩

/-! ## The exchange -/

/-- The exchange's arguments at the end of its run. -/
theorem ex_args {F : FTy → Type} [FloatOps F] (m : (ℓ : Loc Cert.ExchangeIdeal.nD Cert.ExchangeIdeal.τ Cert.ExchangeIdeal.sig) → Buf (Elt F) ℓ)
    (ρ : Dev Cert.ExchangeIdeal.nD → PrngReg) (r) (h : Cert.ExProof.QC m ρ r) (c : Dev Cert.ExchangeIdeal.nD) :
    r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
      ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
      ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
      ∧ r.2.mem ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3)
      ∧ r.2.mem ((c.tc : Thread Cert.ExchangeIdeal.nD Cert.ExchangeIdeal.τ).loc Cert.ExchangeIdeal.main_arg4) = m ((c.tc : Thread Cert.ExchangeIdeal.nD Cert.ExchangeIdeal.τ).loc Cert.ExchangeIdeal.main_arg4)
      ∧ r.2.mem ((c.tc : Thread Cert.ExchangeIdeal.nD Cert.ExchangeIdeal.τ).loc Cert.ExchangeIdeal.main_arg5) = m ((c.tc : Thread Cert.ExchangeIdeal.nD Cert.ExchangeIdeal.τ).loc Cert.ExchangeIdeal.main_arg5) :=
  have hf := Cert.ExProof.final_args m ρ c
  ⟨((h c).1 (0 : Fin 10)).trans hf.1, ((h c).1 (1 : Fin 10)).trans hf.2.1, ((h c).1 (2 : Fin 10)).trans hf.2.2.1,
    ((h c).1 (3 : Fin 10)).trans hf.2.2.2.1, ((h c).1 (4 : Fin 10)).trans hf.2.2.2.2, (h c).2⟩

/-- Over any float values the exchange terminates with its arguments unchanged and every counter at zero. -/
theorem ex_frame_any {F : FTy → Type} [FloatOps F] (m : (ℓ : Loc Cert.ExchangeIdeal.nD Cert.ExchangeIdeal.τ Cert.ExchangeIdeal.sig) → Buf (Elt F) ℓ)
    (ρ : Dev Cert.ExchangeIdeal.nD → PrngReg) :
    θ_run Cert.ExchangeIdeal.defs (onTc (τ := Cert.ExchangeIdeal.τ) (Cert.ExchangeIdeal.main (F := F))) ⟨m, fun _ => 0, ρ⟩ fun r =>
      (∀ c : Dev Cert.ExchangeIdeal.nD,
        r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
        ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
        ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
        ∧ r.2.mem ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3)
        ∧ r.2.mem ((c.tc : Thread Cert.ExchangeIdeal.nD Cert.ExchangeIdeal.τ).loc Cert.ExchangeIdeal.main_arg4) = m ((c.tc : Thread Cert.ExchangeIdeal.nD Cert.ExchangeIdeal.τ).loc Cert.ExchangeIdeal.main_arg4)
        ∧ r.2.mem ((c.tc : Thread Cert.ExchangeIdeal.nD Cert.ExchangeIdeal.τ).loc Cert.ExchangeIdeal.main_arg5) = m ((c.tc : Thread Cert.ExchangeIdeal.nD Cert.ExchangeIdeal.τ).loc Cert.ExchangeIdeal.main_arg5))
      ∧ r.2.sem = fun _ => 0 :=
  (θ_run Cert.ExchangeIdeal.defs _ _).mono (fun r h => ⟨fun c => ex_args m ρ r h.1 c, h.2⟩) (Cert.ExProof.run_main m ρ)

/-- The two printed programs have the same body table, -/
theorem exDefs₀_eq {F : FTy → Type} [FloatOps F] : Cert.Exchange.defs₀ (F := F) = Cert.ExchangeIdeal.defs₀ (F := F) := by
  funext p l x
  rcases l with ⟨_ | n, h⟩
  · rcases p with _ | _ | _
    · obtain ⟨t, s⟩ := x
      show Cert.Exchange.cc0__kv_body (F := F) _ _ _ _ _ _ _ _ _ _ _ _ _ _ _ _ _ _ _ _ _ _ _ _ _ _ _ _ _ _ _ _ _ _ _
        = Cert.ExchangeIdeal.cc0__kv_body (F := F) _ _ _ _ _ _ _ _ _ _ _ _ _ _ _ _ _ _ _ _ _ _ _ _ _ _ _ _ _ _ _ _ _ _ _
      rfl
    · rfl
    · rfl
  · exact absurd h (Nat.not_lt.2 (Nat.le_add_left _ _))

theorem exDefs_eq {F : FTy → Type} [FloatOps F] : Cert.Exchange.defs (F := F) = Cert.ExchangeIdeal.defs (F := F) :=
  congrArg (Pipeline.defs Cert.ExchangeIdeal.pcfgs) exDefs₀_eq

/-- so the run over any float values is a run of the compiled one. -/
theorem frame_exchange : Cert.quiescent_Exchange := fun m ρ _ => by
  have h := ex_frame_any (F := Bits) m ρ
  rw [← exDefs_eq] at h
  exact h

theorem frame_exchangeIdeal : Cert.quiescent_ExchangeIdeal := fun m ρ _ => ex_frame_any (F := Ideal) m ρ

theorem frame_exchangeReferenceIdeal : Cert.quiescent_ExchangeReferenceIdeal := fun m ρ _ =>
  (θ_run Cert.ExchangeReferenceIdeal.defs _ _).mono (fun r h => ⟨fun c => (h c).2.2.2.2.2, sem_eq_zero_of_no_sems (by decide) r.2⟩)
    (Cert.ExchangeReferenceIdeal.Value.run m ρ)

/-- Every device's five results are its rows of the reference's. -/
theorem ex_algebraic : Cert.algebraic_ExchangeIdeal_ExchangeReferenceIdeal := fun m ρ m' ρ' _ hm =>
  have hv := Cert.ExProof.values m _ _ _ _ _ _ hm
  ⟨Cert.ExProof.refK (Cert.ExProof.flat (m' ((0 : Dev Cert.ExchangeReferenceIdeal.nD).tc.loc Cert.ExchangeReferenceIdeal.main_arg0))) (m' ((0 : Dev Cert.ExchangeReferenceIdeal.nD).tc.loc Cert.ExchangeReferenceIdeal.main_arg1)) (m' ((0 : Dev Cert.ExchangeReferenceIdeal.nD).tc.loc Cert.ExchangeReferenceIdeal.main_arg2)),
    Cert.ExProof.refK (Cert.ExProof.flat (m' ((0 : Dev Cert.ExchangeReferenceIdeal.nD).tc.loc Cert.ExchangeReferenceIdeal.main_arg0))) (m' ((0 : Dev Cert.ExchangeReferenceIdeal.nD).tc.loc Cert.ExchangeReferenceIdeal.main_arg1)) (m' ((0 : Dev Cert.ExchangeReferenceIdeal.nD).tc.loc Cert.ExchangeReferenceIdeal.main_arg3)),
    Cert.ExProof.refR (Cert.ExProof.flat (m' ((0 : Dev Cert.ExchangeReferenceIdeal.nD).tc.loc Cert.ExchangeReferenceIdeal.main_arg0))) (m' ((0 : Dev Cert.ExchangeReferenceIdeal.nD).tc.loc Cert.ExchangeReferenceIdeal.main_arg4)),
    Cert.ExProof.refX (Cert.ExProof.flat (m' ((0 : Dev Cert.ExchangeReferenceIdeal.nD).tc.loc Cert.ExchangeReferenceIdeal.main_arg0))),
    Cert.ExProof.refQ (Cert.ExProof.flat (m' ((0 : Dev Cert.ExchangeReferenceIdeal.nD).tc.loc Cert.ExchangeReferenceIdeal.main_arg0))) (m' ((0 : Dev Cert.ExchangeReferenceIdeal.nD).tc.loc Cert.ExchangeReferenceIdeal.main_arg5)),
    (θ_run Cert.ExchangeIdeal.defs _ _).mono
      (fun r h c => ⟨((h.1 c).1 (5 : Fin 10)).trans ((Cert.ExProof.final_k m ρ c).trans (hv c).1),
        ((h.1 c).1 (6 : Fin 10)).trans ((Cert.ExProof.final_v m ρ c).trans (hv c).2.1),
        ((h.1 c).1 (7 : Fin 10)).trans ((Cert.ExProof.final_kr m ρ c).trans (hv c).2.2.1),
        ((h.1 c).1 (8 : Fin 10)).trans ((Cert.ExProof.final_xb m ρ c).trans (hv c).2.2.2.1),
        ((h.1 c).1 (9 : Fin 10)).trans ((Cert.ExProof.final_qr m ρ c).trans (hv c).2.2.2.2),
        ex_args m ρ r h.1 c⟩)
      (Cert.ExProof.run_main (F := Ideal) m ρ),
    (θ_run Cert.ExchangeReferenceIdeal.defs _ _).mono (fun _ h => h 0) (Cert.ExchangeReferenceIdeal.Value.run m' ρ')⟩

/-! ## The queries -/

theorem frame_queries : Cert.quiescent_Queries := fun m ρ _ => Cert.Queries.Gen.frame m ρ

theorem frame_queriesIdeal : Cert.quiescent_QueriesIdeal := fun m ρ _ => Cert.QueriesIdeal.Gen.frame m ρ

theorem frame_queriesReferenceIdeal : Cert.quiescent_QueriesReferenceIdeal := fun m ρ _ =>
  (θ_run Cert.QueriesReferenceIdeal.defs _ _).mono (fun r h => ⟨fun c => (h c).2, sem_eq_zero_of_no_sems (by decide) r.2⟩)
    (Cert.QueriesReferenceIdeal.Value.run m ρ)

/-- The product of the version is the reference's. -/
theorem q_algebraic : Cert.algebraic_QueriesIdeal_QueriesReferenceIdeal := fun m ρ m' ρ' _ hm =>
  ⟨fun c => Cert.QueriesProof.refOut (m ((c.tc : Thread Cert.QueriesIdeal.nD Cert.QueriesIdeal.τ).loc Cert.QueriesIdeal.main_arg0)) (m ((c.tc : Thread Cert.QueriesIdeal.nD Cert.QueriesIdeal.τ).loc Cert.QueriesIdeal.main_arg1)),
    (θ_run Cert.QueriesIdeal.defs _ _).mono (fun _ h c => ⟨(h c).1.trans (Cert.QueriesProof.final m c), (h c).2⟩)
      (Cert.QueriesIdeal.Value.run_blocks m ρ),
    (θ_run Cert.QueriesReferenceIdeal.defs _ _).mono
      (fun _ h c => ⟨(h c).1.trans (congrArg₂ Cert.QueriesProof.refOut (hm c).1 (hm c).2), (h c).2⟩)
      (Cert.QueriesReferenceIdeal.Value.run m' ρ')⟩

/-! ## The attention -/

theorem frame_attention : Cert.quiescent_Attention := fun m ρ _ => Cert.Attention.Gen.frame m ρ

theorem frame_attentionIdeal : Cert.quiescent_AttentionIdeal := fun m ρ _ => Cert.AttentionIdeal.Gen.frame m ρ

theorem frame_attentionReferenceIdeal : Cert.quiescent_AttentionReferenceIdeal := fun m ρ _ =>
  (θ_run Cert.AttentionReferenceIdeal.defs _ _).mono (fun r h => ⟨fun c => (h c).2, sem_eq_zero_of_no_sems (by decide) r.2⟩)
    (Cert.AttentionReferenceIdeal.Value.run m ρ)

/-- The two frames the precondition is also read at. -/
theorem frame_attentionIdeal_finite : letI := Cert.AttnPre.facts; Cert.quiescent_AttentionIdeal_pre_finite := fun m ρ _ => Cert.AttentionIdeal.Gen.frame m ρ

theorem frame_attentionReferenceIdeal_finite : letI := Cert.AttnPre.facts; Cert.quiescent_AttentionReferenceIdeal_pre_finite := fun m ρ _ =>
  frame_attentionReferenceIdeal m ρ trivial

/-- The scale's name is the value the certificate gives it. -/
theorem preserves_attention : Cert.preserves_Attention_AttentionIdeal :=
  IdealRules.named_const.statement Cert.AttentionIdeal.κ "scale" .bf16 0x3D94#16 (((Real.sqrt 192)⁻¹ : ℝ) : EReal) rfl

/-- The reference's result from arguments that agree with the kernel's. -/
theorem at_value (m : (ℓ : Loc Cert.AttentionIdeal.nD Cert.AttentionIdeal.τ Cert.AttentionIdeal.sig) → Buf (Elt Ideal) ℓ) (m' : (ℓ : Loc Cert.AttentionReferenceIdeal.nD Cert.AttentionReferenceIdeal.τ Cert.AttentionReferenceIdeal.sig) → Buf (Elt Ideal) ℓ) (c : Dev Cert.AttentionIdeal.nD)
    (hp : letI := Cert.AttnPre.facts; (Cert.Pre_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).1 = (fun _ => 1#1) ∧ (Cert.Pre_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).2.1 = (fun _ => 1#1)
      ∧ (Cert.Pre_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).2.2.1 = (fun _ => 1#1) ∧ (Cert.Pre_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).2.2.2 = (fun _ => 1#1))
    (hm : m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0) ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1) ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2) ∧ m' ((c.tc : Thread Cert.AttentionReferenceIdeal.nD Cert.AttentionReferenceIdeal.τ).loc Cert.AttentionReferenceIdeal.main_arg3) = m ((c.tc : Thread Cert.AttentionIdeal.nD Cert.AttentionIdeal.τ).loc Cert.AttentionIdeal.main_arg3) ∧ m' ((c.tc : Thread Cert.AttentionReferenceIdeal.nD Cert.AttentionReferenceIdeal.τ).loc Cert.AttentionReferenceIdeal.main_arg4) = m ((c.tc : Thread Cert.AttentionIdeal.nD Cert.AttentionIdeal.τ).loc Cert.AttentionIdeal.main_arg4)) :
    Cert.AttentionReferenceIdeal.Value.res_main_v30 m' c = Cert.AttnProof.attn (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)) := by
  obtain ⟨hq, hk, hqr, hkr⟩ := Cert.AttnPre.reals _ _ _ _ _ hp
  obtain ⟨h0, h1, h2, h3, h4⟩ := hm
  refine (Cert.AttnRef.res_attn m' c (fun i => ?_) (fun i => ?_) (fun i => ?_) (fun i => ?_)).trans ?_
  · rw [h0]; exact hq i
  · rw [h1]; exact hk i
  · rw [h3]; exact hqr i
  · rw [h4]; exact hkr i
  · rw [h0, h1, h2, h3, h4]

/-- The attention of the version is the reference's, where the inputs of the scores are finite. -/
theorem at_algebraic : letI := Cert.AttnPre.facts; Cert.algebraic_AttentionIdeal_AttentionReferenceIdeal_pre_finite := fun m ρ m' ρ' hp hm =>
  ⟨fun c => Cert.AttnProof.attn (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4)),
    (θ_run Cert.AttentionIdeal.defs _ _).mono (fun _ h c => ⟨(h c).1.trans (Cert.AttnProof.final m c), (h c).2⟩)
      (Cert.AttentionIdeal.Value.run_blocks m ρ),
    (θ_run Cert.AttentionReferenceIdeal.defs _ _).mono
      (fun _ h c => ⟨(h c).1.trans (at_value m m' c (hp c) (hm c)), (h c).2⟩)
      (Cert.AttentionReferenceIdeal.Value.run m' ρ')⟩

theorem claim : Cert.Claim := ⟨Cert.Kernel.Gen.facts, Cert.KernelIdeal.Gen.facts, Cert.ReferenceIdeal.Gen.facts,
  Cert.Exchange.Gen.facts, Cert.ExchangeIdeal.Gen.facts, Cert.ExchangeReferenceIdeal.Gen.facts,
  Cert.Queries.Gen.facts, Cert.QueriesIdeal.Gen.facts, Cert.QueriesReferenceIdeal.Gen.facts,
  Cert.Attention.Gen.facts, Cert.AttentionIdeal.Gen.facts, Cert.AttentionReferenceIdeal.Gen.facts, Cert.AttnPre.facts,
  frame_kernel, frame_kernelIdeal, frame_referenceIdeal, frame_exchange, frame_exchangeIdeal, frame_exchangeReferenceIdeal,
  frame_queries, frame_queriesIdeal, frame_queriesReferenceIdeal,
  frame_attention, frame_attentionIdeal, frame_attentionIdeal_finite, frame_attentionReferenceIdeal, frame_attentionReferenceIdeal_finite,
  trivial, algebraic, trivial, ex_algebraic, trivial, q_algebraic, preserves_attention, at_algebraic⟩

end Cert.Proof

end
